-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Experts [hPre_named_experts : Cert.Pre_named_experts.Facts] (m : (ℓ : Loc Cert.Experts.nD Cert.Experts.τ Cert.Experts.sig) → Buf (Elt Bits) ℓ) : Prop :=
  ∀ c : Dev Cert.Experts.nD,
    (Cert.Pre_named_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_named_experts : Cert.Pre_named_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_named_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_named_experts [hPre_named_experts : Cert.Pre_named_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_named_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_SampleInproj (m : (ℓ : Loc Cert.SampleInproj.nD Cert.SampleInproj.τ Cert.SampleInproj.sig) → Buf (Elt Bits) ℓ) : Prop :=
  True

def Pre_SampleInprojIdeal (m : (ℓ : Loc Cert.SampleInprojIdeal.nD Cert.SampleInprojIdeal.τ Cert.SampleInprojIdeal.sig) → Buf (Elt Ideal) ℓ) : Prop :=
  True

def Pre_SampleInprojReferenceIdeal (m : (ℓ : Loc Cert.SampleInprojReferenceIdeal.nD Cert.SampleInprojReferenceIdeal.τ Cert.SampleInprojReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] [hPre_named_experts : Cert.Pre_named_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_named_experts : Cert.Pre_named_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_named_experts [hExpertsReferenceIdeal : Cert.ExpertsReferenceIdeal.Facts] [hPre_named_experts : Cert.Pre_named_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_named_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_SampleInproj [hSampleInproj : Cert.SampleInproj.Facts] : Prop :=
  ∀ (m : (ℓ : Loc Cert.SampleInproj.nD Cert.SampleInproj.τ Cert.SampleInproj.sig) → Buf (Elt Bits) ℓ) (g : Dev Cert.SampleInproj.nD → PrngReg), Pre_SampleInproj m →
    θ_run (Cert.SampleInproj.defs (F := Bits)) (onTc (τ := Cert.SampleInproj.τ) (Cert.SampleInproj.main (F := Bits))) ⟨m, fun _ => 0, g⟩ (fun r => (∀ c : Dev Cert.SampleInproj.nD,
      r.2.mem ((c.tc : Thread Cert.SampleInproj.nD Cert.SampleInproj.τ).loc Cert.SampleInproj.main_arg0) = m ((c.tc : Thread Cert.SampleInproj.nD Cert.SampleInproj.τ).loc Cert.SampleInproj.main_arg0)
      ∧ r.2.mem ((c.tc : Thread Cert.SampleInproj.nD Cert.SampleInproj.τ).loc Cert.SampleInproj.main_arg1) = m ((c.tc : Thread Cert.SampleInproj.nD Cert.SampleInproj.τ).loc Cert.SampleInproj.main_arg1)
      ∧ r.2.mem ((c.tc : Thread Cert.SampleInproj.nD Cert.SampleInproj.τ).loc Cert.SampleInproj.main_arg2) = m ((c.tc : Thread Cert.SampleInproj.nD Cert.SampleInproj.τ).loc Cert.SampleInproj.main_arg2))
      ∧ r.2.sem = fun _ => 0)

def quiescent_SampleInprojIdeal [hSampleInprojIdeal : Cert.SampleInprojIdeal.Facts] : Prop :=
  ∀ (m : (ℓ : Loc Cert.SampleInprojIdeal.nD Cert.SampleInprojIdeal.τ Cert.SampleInprojIdeal.sig) → Buf (Elt Ideal) ℓ) (g : Dev Cert.SampleInprojIdeal.nD → PrngReg), Pre_SampleInprojIdeal m →
    θ_run (Cert.SampleInprojIdeal.defs (F := Ideal)) (onTc (τ := Cert.SampleInprojIdeal.τ) (Cert.SampleInprojIdeal.main (F := Ideal))) ⟨m, fun _ => 0, g⟩ (fun r => (∀ c : Dev Cert.SampleInprojIdeal.nD,
      r.2.mem ((c.tc : Thread Cert.SampleInprojIdeal.nD Cert.SampleInprojIdeal.τ).loc Cert.SampleInprojIdeal.main_arg0) = m ((c.tc : Thread Cert.SampleInprojIdeal.nD Cert.SampleInprojIdeal.τ).loc Cert.SampleInprojIdeal.main_arg0)
      ∧ r.2.mem ((c.tc : Thread Cert.SampleInprojIdeal.nD Cert.SampleInprojIdeal.τ).loc Cert.SampleInprojIdeal.main_arg1) = m ((c.tc : Thread Cert.SampleInprojIdeal.nD Cert.SampleInprojIdeal.τ).loc Cert.SampleInprojIdeal.main_arg1)
      ∧ r.2.mem ((c.tc : Thread Cert.SampleInprojIdeal.nD Cert.SampleInprojIdeal.τ).loc Cert.SampleInprojIdeal.main_arg2) = m ((c.tc : Thread Cert.SampleInprojIdeal.nD Cert.SampleInprojIdeal.τ).loc Cert.SampleInprojIdeal.main_arg2))
      ∧ r.2.sem = fun _ => 0)

def quiescent_SampleInprojReferenceIdeal [hSampleInprojReferenceIdeal : Cert.SampleInprojReferenceIdeal.Facts] : Prop :=
  ∀ (m : (ℓ : Loc Cert.SampleInprojReferenceIdeal.nD Cert.SampleInprojReferenceIdeal.τ Cert.SampleInprojReferenceIdeal.sig) → Buf (Elt Ideal) ℓ) (g : Dev Cert.SampleInprojReferenceIdeal.nD → PrngReg), Pre_SampleInprojReferenceIdeal m →
    θ_run (Cert.SampleInprojReferenceIdeal.defs (F := Ideal)) (onTc (τ := Cert.SampleInprojReferenceIdeal.τ) (Cert.SampleInprojReferenceIdeal.main (F := Ideal))) ⟨m, fun _ => 0, g⟩ (fun r => (∀ c : Dev Cert.SampleInprojReferenceIdeal.nD,
      r.2.mem ((c.tc : Thread Cert.SampleInprojReferenceIdeal.nD Cert.SampleInprojReferenceIdeal.τ).loc Cert.SampleInprojReferenceIdeal.main_arg0) = m ((c.tc : Thread Cert.SampleInprojReferenceIdeal.nD Cert.SampleInprojReferenceIdeal.τ).loc Cert.SampleInprojReferenceIdeal.main_arg0)
      ∧ r.2.mem ((c.tc : Thread Cert.SampleInprojReferenceIdeal.nD Cert.SampleInprojReferenceIdeal.τ).loc Cert.SampleInprojReferenceIdeal.main_arg1) = m ((c.tc : Thread Cert.SampleInprojReferenceIdeal.nD Cert.SampleInprojReferenceIdeal.τ).loc Cert.SampleInprojReferenceIdeal.main_arg1)
      ∧ r.2.mem ((c.tc : Thread Cert.SampleInprojReferenceIdeal.nD Cert.SampleInprojReferenceIdeal.τ).loc Cert.SampleInprojReferenceIdeal.main_arg2) = m ((c.tc : Thread Cert.SampleInprojReferenceIdeal.nD Cert.SampleInprojReferenceIdeal.τ).loc Cert.SampleInprojReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_named_experts : Cert.Pre_named_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v31) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Inproj_InprojIdeal : Prop :=
  IdealRules.named_const.Statement Cert.InprojIdeal.κ "scale" .f32 0x3E38AA3B#32 (((1 / 8) * (Real.log 2)⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v27) = v0 c
          ∧ r.2.mem ((c.tc : Thread Cert.InprojReferenceIdeal.nD Cert.InprojReferenceIdeal.τ).loc Cert.InprojReferenceIdeal.main_v20) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v49) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_SampleInproj_SampleInprojIdeal : Prop :=
  IdealRules.named_const.Statement Cert.SampleInprojIdeal.κ "scale" .f32 0x3E38AA3B#32 (((1 / 8) * (Real.log 2)⁻¹ : ℝ) : EReal)

def algebraic_SampleInprojIdeal_SampleInprojReferenceIdeal [hSampleInprojIdeal : Cert.SampleInprojIdeal.Facts] [hSampleInprojReferenceIdeal : Cert.SampleInprojReferenceIdeal.Facts] : Prop :=
  ∀ (m : (ℓ : Loc Cert.SampleInprojIdeal.nD Cert.SampleInprojIdeal.τ Cert.SampleInprojIdeal.sig) → Buf (Elt Ideal) ℓ) (g : Dev Cert.SampleInprojIdeal.nD → PrngReg)
    (m' : (ℓ : Loc Cert.SampleInprojReferenceIdeal.nD Cert.SampleInprojReferenceIdeal.τ Cert.SampleInprojReferenceIdeal.sig) → Buf (Elt Ideal) ℓ) (g' : Dev Cert.SampleInprojReferenceIdeal.nD → PrngReg), Pre_SampleInprojIdeal m →
    (∀ c : Dev Cert.SampleInprojIdeal.nD,
      m' ((c.tc : Thread Cert.SampleInprojReferenceIdeal.nD Cert.SampleInprojReferenceIdeal.τ).loc Cert.SampleInprojReferenceIdeal.main_arg0) = m ((c.tc : Thread Cert.SampleInprojIdeal.nD Cert.SampleInprojIdeal.τ).loc Cert.SampleInprojIdeal.main_arg0)
      ∧ m' ((c.tc : Thread Cert.SampleInprojReferenceIdeal.nD Cert.SampleInprojReferenceIdeal.τ).loc Cert.SampleInprojReferenceIdeal.main_arg1) = m ((c.tc : Thread Cert.SampleInprojIdeal.nD Cert.SampleInprojIdeal.τ).loc Cert.SampleInprojIdeal.main_arg1)
      ∧ m' ((c.tc : Thread Cert.SampleInprojReferenceIdeal.nD Cert.SampleInprojReferenceIdeal.τ).loc Cert.SampleInprojReferenceIdeal.main_arg2) = m ((c.tc : Thread Cert.SampleInprojIdeal.nD Cert.SampleInprojIdeal.τ).loc Cert.SampleInprojIdeal.main_arg2)) →
    ∃ (v0 : (c : Dev Cert.SampleInprojIdeal.nD) → Buf (Elt Ideal) ((c.tc : Thread Cert.SampleInprojIdeal.nD Cert.SampleInprojIdeal.τ).loc Cert.SampleInprojIdeal.main_v0_0)) (v1 : (c : Dev Cert.SampleInprojIdeal.nD) → Buf (Elt Ideal) ((c.tc : Thread Cert.SampleInprojIdeal.nD Cert.SampleInprojIdeal.τ).loc Cert.SampleInprojIdeal.main_v0_1)),
      θ_run (Cert.SampleInprojIdeal.defs (F := Ideal)) (onTc (τ := Cert.SampleInprojIdeal.τ) (Cert.SampleInprojIdeal.main (F := Ideal))) ⟨m, fun _ => 0, g⟩ (fun r => ∀ c : Dev Cert.SampleInprojIdeal.nD,
          r.2.mem ((c.tc : Thread Cert.SampleInprojIdeal.nD Cert.SampleInprojIdeal.τ).loc Cert.SampleInprojIdeal.main_v0_0) = v0 c
          ∧ r.2.mem ((c.tc : Thread Cert.SampleInprojIdeal.nD Cert.SampleInprojIdeal.τ).loc Cert.SampleInprojIdeal.main_v0_1) = v1 c
          ∧ r.2.mem ((c.tc : Thread Cert.SampleInprojIdeal.nD Cert.SampleInprojIdeal.τ).loc Cert.SampleInprojIdeal.main_arg0) = m ((c.tc : Thread Cert.SampleInprojIdeal.nD Cert.SampleInprojIdeal.τ).loc Cert.SampleInprojIdeal.main_arg0)
          ∧ r.2.mem ((c.tc : Thread Cert.SampleInprojIdeal.nD Cert.SampleInprojIdeal.τ).loc Cert.SampleInprojIdeal.main_arg1) = m ((c.tc : Thread Cert.SampleInprojIdeal.nD Cert.SampleInprojIdeal.τ).loc Cert.SampleInprojIdeal.main_arg1)
          ∧ r.2.mem ((c.tc : Thread Cert.SampleInprojIdeal.nD Cert.SampleInprojIdeal.τ).loc Cert.SampleInprojIdeal.main_arg2) = m ((c.tc : Thread Cert.SampleInprojIdeal.nD Cert.SampleInprojIdeal.τ).loc Cert.SampleInprojIdeal.main_arg2))
      ∧ θ_run (Cert.SampleInprojReferenceIdeal.defs (F := Ideal)) (onTc (τ := Cert.SampleInprojReferenceIdeal.τ) (Cert.SampleInprojReferenceIdeal.main (F := Ideal))) ⟨m', fun _ => 0, g'⟩ (fun r => ∀ c : Dev Cert.SampleInprojReferenceIdeal.nD,
          r.2.mem ((c.tc : Thread Cert.SampleInprojReferenceIdeal.nD Cert.SampleInprojReferenceIdeal.τ).loc Cert.SampleInprojReferenceIdeal.main_v23) = v0 c
          ∧ r.2.mem ((c.tc : Thread Cert.SampleInprojReferenceIdeal.nD Cert.SampleInprojReferenceIdeal.τ).loc Cert.SampleInprojReferenceIdeal.main_v24) = v1 c
          ∧ r.2.mem ((c.tc : Thread Cert.SampleInprojReferenceIdeal.nD Cert.SampleInprojReferenceIdeal.τ).loc Cert.SampleInprojReferenceIdeal.main_arg0) = m' ((c.tc : Thread Cert.SampleInprojReferenceIdeal.nD Cert.SampleInprojReferenceIdeal.τ).loc Cert.SampleInprojReferenceIdeal.main_arg0)
          ∧ r.2.mem ((c.tc : Thread Cert.SampleInprojReferenceIdeal.nD Cert.SampleInprojReferenceIdeal.τ).loc Cert.SampleInprojReferenceIdeal.main_arg1) = m' ((c.tc : Thread Cert.SampleInprojReferenceIdeal.nD Cert.SampleInprojReferenceIdeal.τ).loc Cert.SampleInprojReferenceIdeal.main_arg1)
          ∧ r.2.mem ((c.tc : Thread Cert.SampleInprojReferenceIdeal.nD Cert.SampleInprojReferenceIdeal.τ).loc Cert.SampleInprojReferenceIdeal.main_arg2) = m' ((c.tc : Thread Cert.SampleInprojReferenceIdeal.nD Cert.SampleInprojReferenceIdeal.τ).loc Cert.SampleInprojReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v134) = v0 c
          ∧ r.2.mem ((c.tc : Thread Cert.MixReferenceIdeal.nD Cert.MixReferenceIdeal.τ).loc Cert.MixReferenceIdeal.main_v135) = v1 c
          ∧ r.2.mem ((c.tc : Thread Cert.MixReferenceIdeal.nD Cert.MixReferenceIdeal.τ).loc Cert.MixReferenceIdeal.main_v136) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hFfn : Cert.Ffn.Facts) (hFfnIdeal : Cert.FfnIdeal.Facts) (hFfnReferenceIdeal : Cert.FfnReferenceIdeal.Facts) (hSampleInproj : Cert.SampleInproj.Facts) (hSampleInprojIdeal : Cert.SampleInprojIdeal.Facts) (hSampleInprojReferenceIdeal : Cert.SampleInprojReferenceIdeal.Facts) (hMix : Cert.Mix.Facts) (hMixIdeal : Cert.MixIdeal.Facts) (hMixReferenceIdeal : Cert.MixReferenceIdeal.Facts) (hPre_finite : Cert.Pre_finite.Facts) (hPre_named_experts : Cert.Pre_named_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_named_experts := hPre_named_experts)
    ∧ quiescent_ExpertsIdeal (hExpertsIdeal := hExpertsIdeal) (hPre_named_experts := hPre_named_experts)
    ∧ quiescent_ExpertsReferenceIdeal (hExpertsReferenceIdeal := hExpertsReferenceIdeal)
    ∧ quiescent_ExpertsReferenceIdeal_pre_named_experts (hExpertsReferenceIdeal := hExpertsReferenceIdeal) (hPre_named_experts := hPre_named_experts)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_SampleInproj (hSampleInproj := hSampleInproj)
    ∧ quiescent_SampleInprojIdeal (hSampleInprojIdeal := hSampleInprojIdeal)
    ∧ quiescent_SampleInprojReferenceIdeal (hSampleInprojReferenceIdeal := hSampleInprojReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_named_experts := hPre_named_experts)
    ∧ preserves_Inproj_InprojIdeal
    ∧ algebraic_InprojIdeal_InprojReferenceIdeal (hInprojIdeal := hInprojIdeal) (hInprojReferenceIdeal := hInprojReferenceIdeal)
    ∧ preserves_Ffn_FfnIdeal
    ∧ algebraic_FfnIdeal_FfnReferenceIdeal (hFfnIdeal := hFfnIdeal) (hFfnReferenceIdeal := hFfnReferenceIdeal)
    ∧ preserves_SampleInproj_SampleInprojIdeal
    ∧ algebraic_SampleInprojIdeal_SampleInprojReferenceIdeal (hSampleInprojIdeal := hSampleInprojIdeal) (hSampleInprojReferenceIdeal := hSampleInprojReferenceIdeal)
    ∧ preserves_Mix_MixIdeal
    ∧ algebraic_MixIdeal_MixReferenceIdeal (hMixIdeal := hMixIdeal) (hMixReferenceIdeal := hMixReferenceIdeal)
-- ==== Pre_finite.lean ====
abbrev S65536x2816 : Shape := ⟨2, ![65536, 2816]⟩
abbrev S8x257 : Shape := ⟨2, ![8, 257]⟩
abbrev S65536x1024 : Shape := ⟨2, ![65536, 1024]⟩
abbrev S_ : Shape := ⟨0, ![]⟩

class Facts : Prop where
  slices_S65536x2816_S65536x1024_0_0 : S65536x2816.Slices ![0, 0] S65536x1024
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S65536x2816 .bf16) (main_arg1 : FVec F S8x257 .f32) : IVec S_ 1 :=
  let main_v0 : FVec F S65536x1024 .bf16 := (extractStridedSlice S65536x1024 ![0, 0] · slices_S65536x2816_S65536x1024_0_0) main_arg0
  let main_v1 : FVec F S65536x1024 .f32 := (extf .f32 · bitsLt_bf16_f32) main_v0
  let main_v2 : FVec F S65536x1024 .f32 := Host.absf main_v1
  let main_cst : FVec F S_ .f32 := constant S_ .f32 0x7F800000#32
  let main_v3 : FVec F S65536x1024 .f32 := broadcastInDim S65536x1024 ![] bcast_S_S65536x1024 main_cst
  let main_v4 : IVec S65536x1024 1 := cmpf .olt main_v2 main_v3
  let main_c : IVec S_ 1 := constantI S_ 1 1#1
  let main_v5 : IVec S_ 1 := (fun x v => Host.reduce IntOp.andi x v reducesTo_S65536x1024_S_d0_1 h_S_) main_v4 main_c
  let main_v6 : FVec F S8x257 .f32 := Host.absf main_arg1
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  main_v10
-- ==== Pre_named_experts.lean ====
abbrev S1081344x128 : Shape := ⟨2, ![1081344, 128]⟩
abbrev S264 : Shape := ⟨1, ![264]⟩
abbrev S1 : Shape := ⟨1, ![1]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S264 : S_.BroadcastsInDim S264 (![] : Fin 0 → Fin S264.rank)

variable [Facts]

def fn {F : FTy → Type} [FloatOps F] (main_arg0 : FVec F S1081344x128 .f32) (main_arg1 : IVec S264 32) (main_arg2 : IVec S1 32) (main_arg3 : FVec F S8x1024x2048 .bf16) (main_arg4 : FVec F S8x1024x2048 .bf16) (main_arg5 : FVec F S8x2048x1024 .bf16) : IVec S264 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 8#32
  let main_v2 : IVec S264 32 := broadcastInDim S264 ![] bcast_S_S264 main_c_0
  let main_v3 : IVec S264 1 := cmpi .slt main_arg1 main_v2
  let main_v4 : IVec S264 1 := andi main_v1 main_v3
  main_v4
-- ==== Kernel.lean ====
abbrev S65536x2816 : Shape := ⟨2, ![65536, 2816]⟩
abbrev S8x257 : Shape := ⟨2, ![8, 257]⟩
abbrev S8x1 : Shape := ⟨2, ![8, 1]⟩
abbrev S8x512 : Shape := ⟨2, ![8, 512]⟩
abbrev S8x256 : Shape := ⟨2, ![8, 256]⟩
abbrev S8x768 : Shape := ⟨2, ![8, 768]⟩
abbrev S1x8x1x768 : Shape := ⟨4, ![1, 8, 1, 768]⟩
abbrev S1x8x129x768 : Shape := ⟨4, ![1, 8, 129, 768]⟩
abbrev S8x99072 : Shape := ⟨2, ![8, 99072]⟩
abbrev S8x98432 : Shape := ⟨2, ![8, 98432]⟩
abbrev S8x128x769 : Shape := ⟨3, ![8, 128, 769]⟩
abbrev S8x128x641 : Shape := ⟨3, ![8, 128, 641]⟩
abbrev S8x128x640 : Shape := ⟨3, ![8, 128, 640]⟩
abbrev S8x640x128 : Shape := ⟨3, ![8, 640, 128]⟩
abbrev S640 : Shape := ⟨1, ![640]⟩
abbrev S640x1 : Shape := ⟨2, ![640, 1]⟩
abbrev S128 : Shape := ⟨1, ![128]⟩
abbrev S1x128 : Shape := ⟨2, ![1, 128]⟩
abbrev S_ : Shape := ⟨0, ![]⟩
abbrev S640x128 : Shape := ⟨2, ![640, 128]⟩
abbrev S1x640x128 : Shape := ⟨3, ![1, 640, 128]⟩
abbrev S4x2x640x128 : Shape := ⟨4, ![4, 2, 640, 128]⟩
abbrev S4x640x2x128 : Shape := ⟨4, ![4, 640, 2, 128]⟩
abbrev S4x640x256 : Shape := ⟨3, ![4, 640, 256]⟩
abbrev S65536x512 : Shape := ⟨2, ![65536, 512]⟩
abbrev S512x512 : Shape := ⟨2, ![512, 512]⟩
abbrev S1024x512 : Shape := ⟨2, ![1024, 512]⟩
abbrev S512x1024 : Shape := ⟨2, ![512, 1024]⟩
abbrev S8x640x256 : Shape := ⟨3, ![8, 640, 256]⟩
abbrev S128x128 : Shape := ⟨2, ![128, 128]⟩
abbrev S640x256 : Shape := ⟨2, ![640, 256]⟩
abbrev S256x128 : Shape := ⟨2, ![256, 128]⟩
abbrev S1x640x256 : Shape := ⟨3, ![1, 640, 256]⟩
abbrev S128x640 : Shape := ⟨2, ![128, 640]⟩
abbrev S256 : Shape := ⟨1, ![256]⟩
abbrev S1x256 : Shape := ⟨2, ![1, 256]⟩
abbrev S128x256 : Shape := ⟨2, ![128, 256]⟩
abbrev S64x128 : Shape := ⟨2, ![64, 128]⟩

abbrev nBuf : Space → Nat
  | .hbm => 70
  | .vmem => 16
  | .smem => 0
  | _ => 0

abbrev bufTy : (tb : Table) → Fin (tcTables nBuf tb) → BufTy
  | .hbm, ⟨0, _⟩ => ⟨S65536x2816, .bf16⟩
  | .hbm, ⟨1, _⟩ => ⟨S8x257, .f32⟩
  | .hbm, ⟨2, _⟩ => ⟨S8x1, .f32⟩
  | .hbm, ⟨3, _⟩ => ⟨S8x512, .f32⟩
  | .hbm, ⟨4, _⟩ => ⟨S8x256, .f32⟩
  | .hbm, ⟨5, _⟩ => ⟨S8x768, .f32⟩
  | .hbm, ⟨6, _⟩ => ⟨S1x8x1x768, .f32⟩
  | .hbm, ⟨7, _⟩ => ⟨S1x8x129x768, .f32⟩
  | .hbm, ⟨8, _⟩ => ⟨S8x99072, .f32⟩
  | .hbm, ⟨9, _⟩ => ⟨S8x98432, .f32⟩
  | .hbm, ⟨10, _⟩ => ⟨S8x128x769, .f32⟩
  | .hbm, ⟨11, _⟩ => ⟨S8x128x641, .f32⟩
  | .hbm, ⟨12, _⟩ => ⟨S8x128x640, .f32⟩
  | .hbm, ⟨13, _⟩ => ⟨S8x128x640, .f32⟩
  | .hbm, ⟨14, _⟩ => ⟨S8x640x128, .f32⟩
  | .hbm, ⟨15, _⟩ => ⟨S640, .i32⟩
  | .hbm, ⟨16, _⟩ => ⟨S640x1, .i32⟩
  | .hbm, ⟨17, _⟩ => ⟨S128, .i32⟩
  | .hbm, ⟨18, _⟩ => ⟨S1x128, .i32⟩
  | .hbm, ⟨19, _⟩ => ⟨S_, .i32⟩
  | .hbm, ⟨20, _⟩ => ⟨S_, .i32⟩
  | .hbm, ⟨21, _⟩ => ⟨S1x128, .i32⟩
  | .hbm, ⟨22, _⟩ => ⟨S1x128, .i32⟩
  | .hbm, ⟨23, _⟩ => ⟨S1x128, .i32⟩
  | .hbm, ⟨24, _⟩ => ⟨S_, .i32⟩
  | .hbm, ⟨25, _⟩ => ⟨S1x128, .i32⟩
  | .hbm, ⟨26, _⟩ => ⟨S1x128, .i1⟩
  | .hbm, ⟨27, _⟩ => ⟨S1x128, .i32⟩
  | .hbm, ⟨28, _⟩ => ⟨S1x128, .i32⟩
  | .hbm, ⟨29, _⟩ => ⟨S_, .i32⟩
  | .hbm, ⟨30, _⟩ => ⟨S1x128, .i32⟩
  | .hbm, ⟨31, _⟩ => ⟨S1x128, .i1⟩
  | .hbm, ⟨32, _⟩ => ⟨S1x128, .i1⟩
  | .hbm, ⟨33, _⟩ => ⟨S_, .i32⟩
  | .hbm, ⟨34, _⟩ => ⟨S1x128, .i32⟩
  | .hbm, ⟨35, _⟩ => ⟨S1x128, .i32⟩
  | .hbm, ⟨36, _⟩ => ⟨S1x128, .i32⟩
  | .hbm, ⟨37, _⟩ => ⟨S_, .i32⟩
  | .hbm, ⟨38, _⟩ => ⟨S1x128, .i32⟩
  | .hbm, ⟨39, _⟩ => ⟨S1x128, .i32⟩
  | .hbm, ⟨40, _⟩ => ⟨S640x128, .i32⟩
  | .hbm, ⟨41, _⟩ => ⟨S640x128, .i32⟩
  | .hbm, ⟨42, _⟩ => ⟨S640x128, .i1⟩
  | .hbm, ⟨43, _⟩ => ⟨S_, .i32⟩
  | .hbm, ⟨44, _⟩ => ⟨S1x128, .i32⟩
  | .hbm, ⟨45, _⟩ => ⟨S1x128, .i32⟩
  | .hbm, ⟨46, _⟩ => ⟨S_, .i32⟩
  | .hbm, ⟨47, _⟩ => ⟨S1x128, .i32⟩
  | .hbm, ⟨48, _⟩ => ⟨S1x128, .i32⟩
  | .hbm, ⟨49, _⟩ => ⟨S640x128, .i32⟩
  | .hbm, ⟨50, _⟩ => ⟨S640x128, .i32⟩
  | .hbm, ⟨51, _⟩ => ⟨S640x128, .i1⟩
  | .hbm, ⟨52, _⟩ => ⟨S640x128, .i1⟩
  | .hbm, ⟨53, _⟩ => ⟨S1x640x128, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x640x128, .f32⟩
  | .hbm, ⟨60, _⟩ => ⟨S8x640x128, .f32⟩
  | .hbm, ⟨61, _⟩ => ⟨S_, .f32⟩
  | .hbm, ⟨62, _⟩ => ⟨S_, .f32⟩
  | .hbm, ⟨63, _⟩ => ⟨S8x640x128, .i1⟩
  | .hbm, ⟨64, _⟩ => ⟨S8x640x128, .f32⟩
  | .hbm, ⟨65, _⟩ => ⟨S8x640x128, .f32⟩
  | .hbm, ⟨66, _⟩ => ⟨S4x2x640x128, .f32⟩
  | .hbm, ⟨67, _⟩ => ⟨S4x640x2x128, .f32⟩
  | .hbm, ⟨68, _⟩ => ⟨S4x640x256, .f32⟩
  | .hbm, ⟨69, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x640x256, .f32⟩
  | .local _ .vmem, ⟨11, _⟩ => ⟨S512x512, .bf16⟩
  | .local _ .vmem, ⟨12, _⟩ => ⟨S512x512, .bf16⟩
  | .local _ .vmem, ⟨13, _⟩ => ⟨S1024x512, .bf16⟩
  | .local _ .vmem, ⟨14, _⟩ => ⟨S512x1024, .bf16⟩
  | .local _ .vmem, ⟨15, _⟩ => ⟨S8x640x256, .f32⟩
  | _, _ => ⟨S65536x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c0_i32_9 : BitVec 32 := 0#32
  let v19 : BitVec 1 := Scalar.cmpi .eq arg1 c0_i32_9
  let v20 : BitVec 32 := Scalar.extui v19
  let c0_i32_10 : BitVec 32 := 0#32
  let v21 : BitVec 1 := Scalar.cmpi .ne v20 c0_i32_10
  v21

def k0_cond4 (i : grid0.Coords) : BitVec 1 :=
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x640x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "neg" => some ⊥
  | _ => none
-- ==== ReferenceIdeal.lean ====
abbrev S65536x2816 : Shape := ⟨2, ![65536, 2816]⟩
abbrev S8x257 : Shape := ⟨2, ![8, 257]⟩
abbrev S65536x512 : Shape := ⟨2, ![65536, 512]⟩
abbrev S_ : Shape := ⟨0, ![]⟩
abbrev S8x128x64x8x64 : Shape := ⟨5, ![8, 128, 64, 8, 64]⟩
abbrev S8x8192x8x64 : Shape := ⟨4, ![8, 8192, 8, 64]⟩
abbrev S8x512x8x64 : Shape := ⟨4, ![8, 512, 8, 64]⟩
abbrev S8x8704x8x64 : Shape := ⟨4, ![8, 8704, 8, 64]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x576x1 : Shape := ⟨3, ![128, 576, 1]⟩
abbrev S8x128x576x8x64 : Shape := ⟨5, ![8, 128, 576, 8, 64]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S8x128x8x64x576 : Shape := ⟨5, ![8, 128, 8, 64, 576]⟩
abbrev S1x1x8x64x576 : Shape := ⟨5, ![1, 1, 8, 64, 576]⟩
abbrev S1x128x1x1x576 : Shape := ⟨5, ![1, 128, 1, 1, 576]⟩
abbrev S8x128x8x64 : Shape := ⟨4, ![8, 128, 8, 64]⟩
abbrev S8x128x8x64x1 : Shape := ⟨5, ![8, 128, 8, 64, 1]⟩
abbrev S8x128x8x64x64 : Shape := ⟨5, ![8, 128, 8, 64, 64]⟩

abbrev nBuf : Space → Nat
  | .hbm => 112
  | .vmem => 0
  | .smem => 0
  | _ => 0

abbrev bufTy : (tb : Table) → Fin (tcTables nBuf tb) → BufTy
  | .hbm, ⟨0, _⟩ => ⟨S65536x2816, .bf16⟩
  | .hbm, ⟨1, _⟩ => ⟨S8x257, .f32⟩
  | .hbm, ⟨2, _⟩ => ⟨S65536x2816, .f32⟩
  | .hbm, ⟨3, _⟩ => ⟨S65536x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S8x128x64x8x64, .f32⟩
  | .hbm, ⟨12, _⟩ => ⟨S65536x512, .f32⟩
  | .hbm, ⟨13, _⟩ => ⟨S8x8192x8x64, .f32⟩
  | .hbm, ⟨14, _⟩ => ⟨S65536x512, .f32⟩
  | .hbm, ⟨15, _⟩ => ⟨S8x8192x8x64, .f32⟩
  | .hbm, ⟨16, _⟩ => ⟨S_, .f32⟩
  | .hbm, ⟨17, _⟩ => ⟨S8x512x8x64, .f32⟩
  | .hbm, ⟨18, _⟩ => ⟨S8x8704x8x64, .f32⟩
  | .hbm, ⟨19, _⟩ => ⟨S8x8704x8x64, .f32⟩
  | .hbm, ⟨20, _⟩ => ⟨S128, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S576, .i32⟩
  | .hbm, ⟨26, _⟩ => ⟨S1x576, .i32⟩
  | .hbm, ⟨27, _⟩ => ⟨S128x576, .i32⟩
  | .hbm, ⟨28, _⟩ => ⟨S128x576, .i32⟩
  | .hbm, ⟨29, _⟩ => ⟨S128x576, .i32⟩
  | .hbm, ⟨30, _⟩ => ⟨S_, .i32⟩
  | .hbm, ⟨31, _⟩ => ⟨S128x576, .i32⟩
  | .hbm, ⟨32, _⟩ => ⟨S128x576, .i1⟩
  | .hbm, ⟨33, _⟩ => ⟨S_, .i32⟩
  | .hbm, ⟨34, _⟩ => ⟨S128x576, .i32⟩
  | .hbm, ⟨35, _⟩ => ⟨S128x576, .i32⟩
  | .hbm, ⟨36, _⟩ => ⟨S128x576, .i32⟩
  | .hbm, ⟨37, _⟩ => ⟨S128x576x1, .i32⟩
  | .hbm, ⟨38, _⟩ => ⟨S8x128x576x8x64, .f32⟩
  | .hbm, ⟨39, _⟩ => ⟨S_, .i32⟩
  | .hbm, ⟨40, _⟩ => ⟨S128x576, .i32⟩
  | .hbm, ⟨41, _⟩ => ⟨S128x576, .i1⟩
  | .hbm, ⟨42, _⟩ => ⟨S_, .i32⟩
  | .hbm, ⟨43, _⟩ => ⟨S128x576, .i32⟩
  | .hbm, ⟨44, _⟩ => ⟨S128x576, .i32⟩
  | .hbm, ⟨45, _⟩ => ⟨S128x576, .i32⟩
  | .hbm, ⟨46, _⟩ => ⟨S128x576x1, .i32⟩
  | .hbm, ⟨47, _⟩ => ⟨S8x128x576x8x64, .f32⟩
  | .hbm, ⟨48, _⟩ => ⟨S64, .i32⟩
  | .hbm, ⟨49, _⟩ => ⟨S576, .i32⟩
  | .hbm, ⟨50, _⟩ => ⟨S_, .i32⟩
  | .hbm, ⟨51, _⟩ => ⟨S576, .i32⟩
  | .hbm, ⟨52, _⟩ => ⟨S576, .i32⟩
  | .hbm, ⟨53, _⟩ => ⟨S1x576, .i32⟩
  | .hbm, ⟨54, _⟩ => ⟨S64x1, .i32⟩
  | .hbm, ⟨55, _⟩ => ⟨S64x576, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i32⟩
  | .hbm, ⟨69, _⟩ => ⟨S_, .i32⟩
  | .hbm, ⟨70, _⟩ => ⟨S64x576, .i32⟩
  | .hbm, ⟨71, _⟩ => ⟨S64x576, .i1⟩
  | .hbm, ⟨72, _⟩ => ⟨S_, .i32⟩
  | .hbm, ⟨73, _⟩ => ⟨S64x576, .i32⟩
  | .hbm, ⟨74, _⟩ => ⟨S64x576, .i32⟩
  | .hbm, ⟨75, _⟩ => ⟨S64x576, .i32⟩
  | .hbm, ⟨76, _⟩ => ⟨S64x576x1, .i32⟩
  | .hbm, ⟨77, _⟩ => ⟨S8x64x576, .f32⟩
  | .hbm, ⟨78, _⟩ => ⟨S8x128x8x64x576, .f32⟩
  | .hbm, ⟨79, _⟩ => ⟨S_, .f32⟩
  | .hbm, ⟨80, _⟩ => ⟨S8x128x8x64x576, .f32⟩
  | .hbm, ⟨81, _⟩ => ⟨S8x128x8x64x576, .f32⟩
  | .hbm, ⟨82, _⟩ => ⟨S1x1x8x64x576, .f32⟩
  | .hbm, ⟨83, _⟩ => ⟨S8x128x8x64x576, .f32⟩
  | .hbm, ⟨84, _⟩ => ⟨S8x128x8x64x576, .f32⟩
  | .hbm, ⟨85, _⟩ => ⟨S_, .i32⟩
  | .hbm, ⟨86, _⟩ => ⟨S128x576, .i32⟩
  | .hbm, ⟨87, _⟩ => ⟨S128x576, .i1⟩
  | .hbm, ⟨88, _⟩ => ⟨S1x128x1x1x576, .i1⟩
  | .hbm, ⟨89, _⟩ => ⟨S_, .f32⟩
  | .hbm, ⟨90, _⟩ => ⟨S_, .f32⟩
  | .hbm, ⟨91, _⟩ => ⟨S8x128x8x64x576, .i1⟩
  | .hbm, ⟨92, _⟩ => ⟨S8x128x8x64x576, .f32⟩
  | .hbm, ⟨93, _⟩ => ⟨S8x128x8x64x576, .f32⟩
  | .hbm, ⟨94, _⟩ => ⟨S_, .f32⟩
  | .hbm, ⟨95, _⟩ => ⟨S8x128x8x64, .f32⟩
  | .hbm, ⟨96, _⟩ => ⟨S_, .f32⟩
  | .hbm, ⟨97, _⟩ => ⟨S8x128x8x64, .f32⟩
  | .hbm, ⟨98, _⟩ => ⟨S8x128x8x64, .f32⟩
  | .hbm, ⟨99, _⟩ => ⟨S8x128x8x64x1, .f32⟩
  | .hbm, ⟨100, _⟩ => ⟨S8x128x8x64x576, .f32⟩
  | .hbm, ⟨101, _⟩ => ⟨S8x128x8x64x576, .f32⟩
  | .hbm, ⟨102, _⟩ => ⟨S8x128x8x64x576, .f32⟩
  | .hbm, ⟨103, _⟩ => ⟨S_, .f32⟩
  | .hbm, ⟨104, _⟩ => ⟨S8x128x8x64, .f32⟩
  | .hbm, ⟨105, _⟩ => ⟨S8x128x8x64x1, .f32⟩
  | .hbm, ⟨106, _⟩ => ⟨S8x128x8x64x576, .f32⟩
  | .hbm, ⟨107, _⟩ => ⟨S8x128x8x64x576, .f32⟩
  | .hbm, ⟨108, _⟩ => ⟨S8x128x8x64x64, .f32⟩
  | .hbm, ⟨109, _⟩ => ⟨S8x128x64x8x64, .f32⟩
  | .hbm, ⟨110, _⟩ => ⟨S65536x512, .f32⟩
  | .hbm, ⟨111, _⟩ => ⟨S65536x512, .bf16⟩
  | _, _ => ⟨S65536x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_7 : Ref sig .tc := ⟨.hbm, 58, rfl⟩
abbrev main_c_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Experts.lean ====
abbrev S1081344x128 : Shape := ⟨2, ![1081344, 128]⟩
abbrev S264 : Shape := ⟨1, ![264]⟩
abbrev S1 : Shape := ⟨1, ![1]⟩
abbrev S8x1024x2048 : Shape := ⟨3, ![8, 1024, 2048]⟩
abbrev S8x2048x1024 : Shape := ⟨3, ![8, 2048, 1024]⟩
abbrev S4096x128 : Shape := ⟨2, ![4096, 128]⟩
abbrev S1x1024x2048 : Shape := ⟨3, ![1, 1024, 2048]⟩
abbrev S1x2048x1024 : Shape := ⟨3, ![1, 2048, 1024]⟩
abbrev S512x1024 : Shape := ⟨2, ![512, 1024]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 5
  | .vmem => 12
  | .smem => 2
  | _ => 0

abbrev bufTy : (tb : Table) → Fin (tcTables nBuf tb) → BufTy
  | .hbm, ⟨0, _⟩ => ⟨S1081344x128, .f32⟩
  | .hbm, ⟨1, _⟩ => ⟨S8x1024x2048, .bf16⟩
  | .hbm, ⟨2, _⟩ => ⟨S8x1024x2048, .bf16⟩
  | .hbm, ⟨3, _⟩ => ⟨S8x2048x1024, .bf16⟩
  | .hbm, ⟨4, _⟩ => ⟨S1081344x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .bf16⟩
  | .local _ .vmem, ⟨11, _⟩ => ⟨S512x1024, .f32⟩
  | .local _ .smem, ⟨0, _⟩ => ⟨S264, .i32⟩
  | .local _ .smem, ⟨1, _⟩ => ⟨S1, .i32⟩
  | _, _ => ⟨S1081344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S1081344x128 : Shape := ⟨2, ![1081344, 128]⟩
abbrev S264 : Shape := ⟨1, ![264]⟩
abbrev S1 : Shape := ⟨1, ![1]⟩
abbrev S8x1024x2048 : Shape := ⟨3, ![8, 1024, 2048]⟩
abbrev S8x2048x1024 : Shape := ⟨3, ![8, 2048, 1024]⟩
abbrev S135168x1024 : Shape := ⟨2, ![135168, 1024]⟩
abbrev S264x1 : Shape := ⟨2, ![264, 1]⟩
abbrev S8 : Shape := ⟨1, ![8]⟩
abbrev S1x8 : Shape := ⟨2, ![1, 8]⟩
abbrev S264x8 : Shape := ⟨2, ![264, 8]⟩
abbrev S1x1 : Shape := ⟨2, ![1, 1]⟩
abbrev S264x1x8 : Shape := ⟨3, ![264, 1, 8]⟩
abbrev S264x512x8 : Shape := ⟨3, ![264, 512, 8]⟩
abbrev S135168x8 : Shape := ⟨2, ![135168, 8]⟩
abbrev S135168x8x2048 : Shape := ⟨3, ![135168, 8, 2048]⟩
abbrev S_ : Shape := ⟨0, ![]⟩
abbrev S8x1024x135168 : Shape := ⟨3, ![8, 1024, 135168]⟩
abbrev S135168x8x1024 : Shape := ⟨3, ![135168, 8, 1024]⟩
abbrev S135168x8x1 : Shape := ⟨3, ![135168, 8, 1]⟩

abbrev nBuf : Space → Nat
  | .hbm => 47
  | .vmem => 0
  | .smem => 0
  | _ => 0

abbrev bufTy : (tb : Table) → Fin (tcTables nBuf tb) → BufTy
  | .hbm, ⟨0, _⟩ => ⟨S1081344x128, .f32⟩
  | .hbm, ⟨1, _⟩ => ⟨S264, .i32⟩
  | .hbm, ⟨2, _⟩ => ⟨S1, .i32⟩
  | .hbm, ⟨3, _⟩ => ⟨S8x1024x2048, .bf16⟩
  | .hbm, ⟨4, _⟩ => ⟨S8x1024x2048, .bf16⟩
  | .hbm, ⟨5, _⟩ => ⟨S8x2048x1024, .bf16⟩
  | .hbm, ⟨6, _⟩ => ⟨S135168x1024, .f32⟩
  | .hbm, ⟨7, _⟩ => ⟨S8x1024x2048, .f32⟩
  | .hbm, ⟨8, _⟩ => ⟨S8x1024x2048, .f32⟩
  | .hbm, ⟨9, _⟩ => ⟨S8x2048x1024, .f32⟩
  | .hbm, ⟨10, _⟩ => ⟨S264, .i32⟩
  | .hbm, ⟨11, _⟩ => ⟨S264x1, .i32⟩
  | .hbm, ⟨12, _⟩ => ⟨S8, .i32⟩
  | .hbm, ⟨13, _⟩ => ⟨S1x8, .i32⟩
  | .hbm, ⟨14, _⟩ => ⟨S264x8, .i32⟩
  | .hbm, ⟨15, _⟩ => ⟨S264x8, .i32⟩
  | .hbm, ⟨16, _⟩ => ⟨S264x8, .i1⟩
  | .hbm, ⟨17, _⟩ => ⟨S264x1, .i32⟩
  | .hbm, ⟨18, _⟩ => ⟨S1x1, .i32⟩
  | .hbm, ⟨19, _⟩ => ⟨S264x1, .i32⟩
  | .hbm, ⟨20, _⟩ => ⟨S264x1, .i1⟩
  | .hbm, ⟨21, _⟩ => ⟨S264x8, .i1⟩
  | .hbm, ⟨22, _⟩ => ⟨S264x8, .i1⟩
  | .hbm, ⟨23, _⟩ => ⟨S264x1x8, .i1⟩
  | .hbm, ⟨24, _⟩ => ⟨S264x512x8, .i1⟩
  | .hbm, ⟨25, _⟩ => ⟨S135168x8, .i1⟩
  | .hbm, ⟨26, _⟩ => ⟨S135168x8, .f32⟩
  | .hbm, ⟨27, _⟩ => ⟨S135168x8x2048, .f32⟩
  | .hbm, ⟨28, _⟩ => ⟨S135168x8x2048, .f32⟩
  | .hbm, ⟨29, _⟩ => ⟨S135168x8x2048, .f32⟩
  | .hbm, ⟨30, _⟩ => ⟨S_, .f32⟩
  | .hbm, ⟨31, _⟩ => ⟨S135168x8x2048, .f32⟩
  | .hbm, ⟨32, _⟩ => ⟨S135168x8x2048, .f32⟩
  | .hbm, ⟨33, _⟩ => ⟨S_, .f32⟩
  | .hbm, ⟨34, _⟩ => ⟨S135168x8x2048, .f32⟩
  | .hbm, ⟨35, _⟩ => ⟨S135168x8x2048, .f32⟩
  | .hbm, ⟨36, _⟩ => ⟨S135168x8x2048, .f32⟩
  | .hbm, ⟨37, _⟩ => ⟨S135168x8x2048, .f32⟩
  | .hbm, ⟨38, _⟩ => ⟨S135168x8x2048, .f32⟩
  | .hbm, ⟨39, _⟩ => ⟨S8x1024x135168, .f32⟩
  | .hbm, ⟨40, _⟩ => ⟨S135168x8x1024, .f32⟩
  | .hbm, ⟨41, _⟩ => ⟨S135168x8x1, .f32⟩
  | .hbm, ⟨42, _⟩ => ⟨S135168x8x1024, .f32⟩
  | .hbm, ⟨43, _⟩ => ⟨S135168x8x1024, .f32⟩
  | .hbm, ⟨44, _⟩ => ⟨S_, .f32⟩
  | .hbm, ⟨45, _⟩ => ⟨S135168x1024, .f32⟩
  | .hbm, ⟨46, _⟩ => ⟨S1081344x128, .f32⟩
  | _, _ => ⟨S1081344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Inproj.lean ====
abbrev S65536x1024 : Shape := ⟨2, ![65536, 1024]⟩
abbrev S1x1024 : Shape := ⟨2, ![1, 1024]⟩
abbrev S1024x2816 : Shape := ⟨2, ![1024, 2816]⟩
abbrev S65536x2816 : Shape := ⟨2, ![65536, 2816]⟩
abbrev S4096x1024 : Shape := ⟨2, ![4096, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x1024 : Shape := ⟨2, ![1024, 1024]⟩
abbrev S1024x1280 : Shape := ⟨2, ![1024, 1280]⟩
abbrev S512x1280 : Shape := ⟨2, ![512, 1280]⟩

abbrev nBuf : Space → Nat
  | .hbm => 5
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2816, .bf16⟩
  | .hbm, ⟨3, _⟩ => ⟨S65536x2816, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi v27 c15_i32
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojIdeal.lean ====
variable {F : FTy → Type} [FloatOps F] [Named F]
def κ : String → Option EReal := fun
  | "scale" => some (((1 / 8) * (Real.log 2)⁻¹ : ℝ) : EReal)
  | _ => none
-- ==== InprojReferenceIdeal.lean ====
abbrev S65536x1024 : Shape := ⟨2, ![65536, 1024]⟩
abbrev S1x1024 : Shape := ⟨2, ![1, 1024]⟩
abbrev S1024x2816 : Shape := ⟨2, ![1024, 2816]⟩
abbrev S_ : Shape := ⟨0, ![]⟩
abbrev S65536 : Shape := ⟨1, ![65536]⟩
abbrev S65536x1 : Shape := ⟨2, ![65536, 1]⟩
abbrev S65536x2816 : Shape := ⟨2, ![65536, 2816]⟩
abbrev S8x8192x1024 : Shape := ⟨3, ![8, 8192, 1024]⟩
abbrev S8x512x1024 : Shape := ⟨3, ![8, 512, 1024]⟩
abbrev S4096x1024 : Shape := ⟨2, ![4096, 1024]⟩
abbrev S65536x512 : Shape := ⟨2, ![65536, 512]⟩
abbrev S65536x2304 : Shape := ⟨2, ![65536, 2304]⟩

abbrev nBuf : Space → Nat
  | .hbm => 37
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2816, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1024x2816, .f32⟩
  | .hbm, ⟨19, _⟩ => ⟨S65536x2816, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S65536x1024, .f32⟩
  | .hbm, ⟨27, _⟩ => ⟨S8x8192x1024, .f32⟩
  | .hbm, ⟨28, _⟩ => ⟨S8x512x1024, .f32⟩
  | .hbm, ⟨29, _⟩ => ⟨S4096x1024, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S65536x2304, .f32⟩
  | .hbm, ⟨35, _⟩ => ⟨S65536x2816, .f32⟩
  | .hbm, ⟨36, _⟩ => ⟨S65536x2816, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Ffn.lean ====
abbrev S256x1024 : Shape := ⟨2, ![256, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S2x256x256 : Shape := ⟨3, ![2, 256, 256]⟩
abbrev S1024x1024 : Shape := ⟨2, ![1024, 1024]⟩
abbrev S1x256x256 : Shape := ⟨3, ![1, 256, 256]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩
abbrev S256x256 : Shape := ⟨2, ![256, 256]⟩

abbrev nBuf : Space → Nat
  | .hbm => 11
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x4096, .bf16⟩
  | .hbm, ⟨3, _⟩ => ⟨S1x1024x4096, .bf16⟩
  | .hbm, ⟨4, _⟩ => ⟨S1x4096x1024, .bf16⟩
  | .hbm, ⟨5, _⟩ => ⟨S2x256x256, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024x4096, .bf16⟩
  | .local _ .vmem, ⟨3, _⟩ => ⟨S1x1024x4096, .bf16⟩
  | .local _ .vmem, ⟨4, _⟩ => ⟨S1x4096x1024, .bf16⟩
  | .local _ .vmem, ⟨5, _⟩ => ⟨S1x256x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== FfnReferenceIdeal.lean ====
abbrev S256x1024 : Shape := ⟨2, ![256, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S2x256x256 : Shape := ⟨3, ![2, 256, 256]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S256 : Shape := ⟨1, ![256]⟩
abbrev S256x1 : Shape := ⟨2, ![256, 1]⟩
abbrev S256x4096 : Shape := ⟨2, ![256, 4096]⟩
abbrev S1x256x256 : Shape := ⟨3, ![1, 256, 256]⟩
abbrev S256x256 : Shape := ⟨2, ![256, 256]⟩

abbrev nBuf : Space → Nat
  | .hbm => 76
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x4096, .bf16⟩
  | .hbm, ⟨3, _⟩ => ⟨S1x1024x4096, .bf16⟩
  | .hbm, ⟨4, _⟩ => ⟨S1x4096x1024, .bf16⟩
  | .hbm, ⟨5, _⟩ => ⟨S2x256x256, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S1024x4096, .bf16⟩
  | .hbm, ⟨11, _⟩ => ⟨S1024x4096, .f32⟩
  | .hbm, ⟨12, _⟩ => ⟨S1024x4096, .bf16⟩
  | .hbm, ⟨13, _⟩ => ⟨S1024x4096, .f32⟩
  | .hbm, ⟨14, _⟩ => ⟨S4096x1024, .bf16⟩
  | .hbm, ⟨15, _⟩ => ⟨S4096x1024, .f32⟩
  | .hbm, ⟨16, _⟩ => ⟨S256x1024, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x4096, .f32⟩
  | .hbm, ⟨32, _⟩ => ⟨S256x4096, .f32⟩
  | .hbm, ⟨33, _⟩ => ⟨S256x4096, .f32⟩
  | .hbm, ⟨34, _⟩ => ⟨S_, .f32⟩
  | .hbm, ⟨35, _⟩ => ⟨S256x4096, .f32⟩
  | .hbm, ⟨36, _⟩ => ⟨S256x4096, .f32⟩
  | .hbm, ⟨37, _⟩ => ⟨S_, .f32⟩
  | .hbm, ⟨38, _⟩ => ⟨S256x4096, .f32⟩
  | .hbm, ⟨39, _⟩ => ⟨S256x4096, .f32⟩
  | .hbm, ⟨40, _⟩ => ⟨S256x4096, .f32⟩
  | .hbm, ⟨41, _⟩ => ⟨S256x4096, .f32⟩
  | .hbm, ⟨42, _⟩ => ⟨S256x4096, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256, .f32⟩
  | .hbm, ⟨48, _⟩ => ⟨S256x1, .f32⟩
  | .hbm, ⟨49, _⟩ => ⟨S_, .f32⟩
  | .hbm, ⟨50, _⟩ => ⟨S256x1, .f32⟩
  | .hbm, ⟨51, _⟩ => ⟨S256x1, .f32⟩
  | .hbm, ⟨52, _⟩ => ⟨S_, .f32⟩
  | .hbm, ⟨53, _⟩ => ⟨S256x1, .f32⟩
  | .hbm, ⟨54, _⟩ => ⟨S256x1, .f32⟩
  | .hbm, ⟨55, _⟩ => ⟨S256x1, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S1024x1024, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S_, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S1x256x256, .f32⟩
  | .hbm, ⟨71, _⟩ => ⟨S256x256, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== SampleInproj.lean ====
abbrev S256x1024 : Shape := ⟨2, ![256, 1024]⟩
abbrev S1x1024 : Shape := ⟨2, ![1, 1024]⟩
abbrev S1024x2816 : Shape := ⟨2, ![1024, 2816]⟩
abbrev S256x2816 : Shape := ⟨2, ![256, 2816]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x1024 : Shape := ⟨2, ![1024, 1024]⟩
abbrev S1024x1280 : Shape := ⟨2, ![1024, 1280]⟩
abbrev S256x1280 : Shape := ⟨2, ![256, 1280]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2816, .bf16⟩
  | .hbm, ⟨3, _⟩ => ⟨S256x2816, .bf16⟩
  | .hbm, ⟨4, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x2816, .bf16⟩
  | .local _ .vmem, ⟨3, _⟩ => ⟨S256x2816, .bf16⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SampleInprojIdeal.lean ====
variable {F : FTy → Type} [FloatOps F] [Named F]
def κ : String → Option EReal := fun
  | "scale" => some (((1 / 8) * (Real.log 2)⁻¹ : ℝ) : EReal)
  | _ => none
-- ==== SampleInprojReferenceIdeal.lean ====
abbrev S256x1024 : Shape := ⟨2, ![256, 1024]⟩
abbrev S1x1024 : Shape := ⟨2, ![1, 1024]⟩
abbrev S1024x2816 : Shape := ⟨2, ![1024, 2816]⟩
abbrev S_ : Shape := ⟨0, ![]⟩
abbrev S256 : Shape := ⟨1, ![256]⟩
abbrev S256x1 : Shape := ⟨2, ![256, 1]⟩
abbrev S256x2816 : Shape := ⟨2, ![256, 2816]⟩
abbrev S256x512 : Shape := ⟨2, ![256, 512]⟩
abbrev S256x2304 : Shape := ⟨2, ![256, 2304]⟩

abbrev nBuf : Space → Nat
  | .hbm => 34
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2816, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S1024x2816, .f32⟩
  | .hbm, ⟨19, _⟩ => ⟨S256x2816, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256x512, .f32⟩
  | .hbm, ⟨27, _⟩ => ⟨S_, .f32⟩
  | .hbm, ⟨28, _⟩ => ⟨S256x512, .f32⟩
  | .hbm, ⟨29, _⟩ => ⟨S256x512, .f32⟩
  | .hbm, ⟨30, _⟩ => ⟨S256x2304, .f32⟩
  | .hbm, ⟨31, _⟩ => ⟨S256x2816, .f32⟩
  | .hbm, ⟨32, _⟩ => ⟨S256x2816, .bf16⟩
  | .hbm, ⟨33, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Mix.lean ====
abbrev S256x1024 : Shape := ⟨2, ![256, 1024]⟩
abbrev S256x512 : Shape := ⟨2, ![256, 512]⟩
abbrev S256x2816 : Shape := ⟨2, ![256, 2816]⟩
abbrev S16x32x256 : Shape := ⟨3, ![16, 32, 256]⟩
abbrev S16x8x256 : Shape := ⟨3, ![16, 8, 256]⟩
abbrev S32x256 : Shape := ⟨2, ![32, 256]⟩
abbrev S1x256 : Shape := ⟨2, ![1, 256]⟩
abbrev S8x256 : Shape := ⟨2, ![8, 256]⟩
abbrev S1x1024 : Shape := ⟨2, ![1, 1024]⟩
abbrev S1024x1024 : Shape := ⟨2, ![1024, 1024]⟩
abbrev S16x1024 : Shape := ⟨2, ![16, 1024]⟩
abbrev S16x512 : Shape := ⟨2, ![16, 512]⟩
abbrev S16x256 : Shape := ⟨2, ![16, 256]⟩
abbrev S1x32x256 : Shape := ⟨3, ![1, 32, 256]⟩
abbrev S1x8x256 : Shape := ⟨3, ![1, 8, 256]⟩
abbrev S48x256 : Shape := ⟨2, ![48, 256]⟩
abbrev S24x256 : Shape := ⟨2, ![24, 256]⟩
abbrev S7x40x256 : Shape := ⟨3, ![7, 40, 256]⟩
abbrev S40x256 : Shape := ⟨2, ![40, 256]⟩
abbrev S1x40x256 : Shape := ⟨3, ![1, 40, 256]⟩
abbrev S1x16x256 : Shape := ⟨3, ![1, 16, 256]⟩
abbrev S16 : Shape := ⟨1, ![16]⟩
abbrev S16x1 : Shape := ⟨2, ![16, 1]⟩
abbrev S1x512 : Shape := ⟨2, ![1, 512]⟩
abbrev S512x1024 : Shape := ⟨2, ![512, 1024]⟩

abbrev nBuf : Space → Nat
  | .hbm => 15
  | .vmem => 32
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x2816, .bf16⟩
  | .hbm, ⟨3, _⟩ => ⟨S16x32x256, .f32⟩
  | .hbm, ⟨4, _⟩ => ⟨S16x8x256, .f32⟩
  | .hbm, ⟨5, _⟩ => ⟨S32x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S8x256, .f32⟩
  | .hbm, ⟨10, _⟩ => ⟨S1x1024, .f32⟩
  | .hbm, ⟨11, _⟩ => ⟨S1024x1024, .bf16⟩
  | .hbm, ⟨12, _⟩ => ⟨S256x1024, .f32⟩
  | .hbm, ⟨13, _⟩ => ⟨S16x32x256, .f32⟩
  | .hbm, ⟨14, _⟩ => ⟨S16x8x256, .f32⟩
  | .local _ .vmem, ⟨0, _⟩ => ⟨S16x1024, .f32⟩
  | .local _ .vmem, ⟨1, _⟩ => ⟨S16x1024, .f32⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S16x256, .bf16⟩
  | .local _ .vmem, ⟨7, _⟩ => ⟨S16x256, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S16x256, .bf16⟩
  | .local _ .vmem, ⟨12, _⟩ => ⟨S1x32x256, .f32⟩
  | .local _ .vmem, ⟨13, _⟩ => ⟨S1x32x256, .f32⟩
  | .local _ .vmem, ⟨14, _⟩ => ⟨S1x8x256, .f32⟩
  | .local _ .vmem, ⟨15, _⟩ => ⟨S1x8x256, .f32⟩
  | .local _ .vmem, ⟨16, _⟩ => ⟨S32x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S8x256, .f32⟩
  | .local _ .vmem, ⟨21, _⟩ => ⟨S1x1024, .f32⟩
  | .local _ .vmem, ⟨22, _⟩ => ⟨S1024x1024, .bf16⟩
  | .local _ .vmem, ⟨23, _⟩ => ⟨S16x1024, .f32⟩
  | .local _ .vmem, ⟨24, _⟩ => ⟨S16x1024, .f32⟩
  | .local _ .vmem, ⟨25, _⟩ => ⟨S1x32x256, .f32⟩
  | .local _ .vmem, ⟨26, _⟩ => ⟨S1x32x256, .f32⟩
  | .local _ .vmem, ⟨27, _⟩ => ⟨S1x8x256, .f32⟩
  | .local _ .vmem, ⟨28, _⟩ => ⟨S1x8x256, .f32⟩
  | .local _ .vmem, ⟨29, _⟩ => ⟨S48x256, .f32⟩
  | .local _ .vmem, ⟨30, _⟩ => ⟨S24x256, .f32⟩
  | .local _ .vmem, ⟨31, _⟩ => ⟨S7x40x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c9_i32 : BitVec 32 := 9#32
  let c0_i32 : BitVec 32 := 0#32
  ![v1.toNat, c9_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c10_i32 : BitVec 32 := 10#32
  let c0_i32 : BitVec 32 := 0#32
  ![v1.toNat, c10_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x32x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== MixReferenceIdeal.lean ====
abbrev S256x1024 : Shape := ⟨2, ![256, 1024]⟩
abbrev S256x512 : Shape := ⟨2, ![256, 512]⟩
abbrev S256x2816 : Shape := ⟨2, ![256, 2816]⟩
abbrev S16x32x256 : Shape := ⟨3, ![16, 32, 256]⟩
abbrev S16x8x256 : Shape := ⟨3, ![16, 8, 256]⟩
abbrev S32x256 : Shape := ⟨2, ![32, 256]⟩
abbrev S1x256 : Shape := ⟨2, ![1, 256]⟩
abbrev S8x256 : Shape := ⟨2, ![8, 256]⟩
abbrev S1x1024 : Shape := ⟨2, ![1, 1024]⟩
abbrev S1024x1024 : Shape := ⟨2, ![1024, 1024]⟩
abbrev S16 : Shape := ⟨1, ![16]⟩
abbrev S31 : Shape := ⟨1, ![31]⟩
abbrev S256x256 : Shape := ⟨2, ![256, 256]⟩
abbrev S_ : Shape := ⟨0, ![]⟩
abbrev S16x16x256 : Shape := ⟨3, ![16, 16, 256]⟩
abbrev S16x48x256 : Shape := ⟨3, ![16, 48, 256]⟩
abbrev S31x256 : Shape := ⟨2, ![31, 256]⟩
abbrev S16x1 : Shape := ⟨2, ![16, 1]⟩
abbrev S1x31 : Shape := ⟨2, ![1, 31]⟩
abbrev S16x31 : Shape := ⟨2, ![16, 31]⟩
abbrev S16x31x1 : Shape := ⟨3, ![16, 31, 1]⟩
abbrev S16x16x31x256 : Shape := ⟨4, ![16, 16, 31, 256]⟩
abbrev S1x1x31x256 : Shape := ⟨4, ![1, 1, 31, 256]⟩
abbrev S1x1x256 : Shape := ⟨3, ![1, 1, 256]⟩
abbrev S16x16 : Shape := ⟨2, ![16, 16]⟩
abbrev S16x16x1 : Shape := ⟨3, ![16, 16, 1]⟩
abbrev S16x24x256 : Shape := ⟨3, ![16, 24, 256]⟩
abbrev S256 : Shape := ⟨1, ![256]⟩
abbrev S1x512 : Shape := ⟨2, ![1, 512]⟩
abbrev S256x1 : Shape := ⟨2, ![256, 1]⟩

abbrev nBuf : Space → Nat
  | .hbm => 178
  | .vmem => 0
  | .smem => 0
  | _ => 0

abbrev hbmTy0_0 (i : Nat) : BufTy := match i % 128 with
  | 0 => ⟨S256x1024, .f32⟩
  | 1 => ⟨S256x512, .bf16⟩
  | 2 => ⟨S256x2816, .bf16⟩
  | 3 => ⟨S16x32x256, .f32⟩
  | 4 => ⟨S16x8x256, .f32⟩
  | 5 => ⟨S32x256, .f32⟩
  | 6 => ⟨S1x256, .f32⟩
  | 7 => ⟨S1x256, .f32⟩
  | 8 => ⟨S1x256, .f32⟩
  | 9 => ⟨S8x256, .f32⟩
  | 10 => ⟨S1x1024, .f32⟩
  | 11 => ⟨S1024x1024, .bf16⟩
  | 12 => ⟨S256x2816, .f32⟩
  | 13 => ⟨S16, .i32⟩
  | 14 => ⟨S31, .i32⟩
  | 15 => ⟨S256x256, .f32⟩
  | 16 => ⟨S256x256, .f32⟩
  | 17 => ⟨S256x256, .f32⟩
  | 18 => ⟨S256x256, .f32⟩
  | 19 => ⟨S_, .f32⟩
  | 20 => ⟨S256x256, .f32⟩
  | 21 => ⟨S256x256, .f32⟩
  | 22 => ⟨S_, .f32⟩
  | 23 => ⟨S256x256, .f32⟩
  | 24 => ⟨S256x256, .f32⟩
  | 25 => ⟨S256x256, .f32⟩
  | 26 => ⟨S16x16x256, .f32⟩
  | 27 => ⟨S16x48x256, .f32⟩
  | 28 => ⟨S31x256, .f32⟩
  | 29 => ⟨S16x1, .i32⟩
  | 30 => ⟨S1x31, .i32⟩
  | 31 => ⟨S16x31, .i32⟩
  | 32 => ⟨S16x31, .i32⟩
  | 33 => ⟨S16x31, .i32⟩
  | 34 => ⟨S_, .i32⟩
  | 35 => ⟨S16x31, .i32⟩
  | 36 => ⟨S16x31, .i32⟩
  | 37 => ⟨S_, .i32⟩
  | 38 => ⟨S16x31, .i32⟩
  | 39 => ⟨S16x31, .i1⟩
  | 40 => ⟨S_, .i32⟩
  | 41 => ⟨S16x31, .i32⟩
  | 42 => ⟨S16x31, .i32⟩
  | 43 => ⟨S16x31, .i32⟩
  | 44 => ⟨S16x31x1, .i32⟩
  | 45 => ⟨S16x16x31x256, .f32⟩
  | 46 => ⟨S1x1x31x256, .f32⟩
  | 47 => ⟨S16x16x31x256, .f32⟩
  | 48 => ⟨S16x16x31x256, .f32⟩
  | 49 => ⟨S_, .f32⟩
  | 50 => ⟨S16x16x256, .f32⟩
  | 51 => ⟨S1x1x256, .f32⟩
  | 52 => ⟨S16x16x256, .f32⟩
  | 53 => ⟨S16x16x256, .f32⟩
  | 54 => ⟨S_, .f32⟩
  | 55 => ⟨S16x16, .f32⟩
  | 56 => ⟨S16x16x1, .f32⟩
  | 57 => ⟨S_, .f32⟩
  | 58 => ⟨S16x16x1, .f32⟩
  | 59 => ⟨S16x16x1, .f32⟩
  | 60 => ⟨S16x16x256, .f32⟩
  | 61 => ⟨S16x16x256, .f32⟩
  | 62 => ⟨S16x16x256, .f32⟩
  | 63 => ⟨S_, .f32⟩
  | 64 => ⟨S16x16, .f32⟩
  | 65 => ⟨S16x16x1, .f32⟩
  | 66 => ⟨S_, .f32⟩
  | 67 => ⟨S16x16x1, .f32⟩
  | 68 => ⟨S16x16x1, .f32⟩
  | 69 => ⟨S_, .f32⟩
  | 70 => ⟨S16x16x1, .f32⟩
  | 71 => ⟨S16x16x1, .f32⟩
  | 72 => ⟨S16x16x1, .f32⟩
  | 73 => ⟨S16x16x256, .f32⟩
  | 74 => ⟨S16x16x256, .f32⟩
  | 75 => ⟨S1x1x256, .f32⟩
  | 76 => ⟨S16x16x256, .f32⟩
  | 77 => ⟨S16x16x256, .f32⟩
  | 78 => ⟨S1x1x256, .f32⟩
  | 79 => ⟨S16x16x256, .f32⟩
  | 80 => ⟨S16x16x256, .f32⟩
  | 81 => ⟨S16x16x256, .f32⟩
  | 82 => ⟨S16x16x256, .f32⟩
  | 83 => ⟨S_, .f32⟩
  | 84 => ⟨S16x16x256, .f32⟩
  | 85 => ⟨S16x16x256, .f32⟩
  | 86 => ⟨S_, .f32⟩
  | 87 => ⟨S16x16x256, .f32⟩
  | 88 => ⟨S16x16x256, .f32⟩
  | 89 => ⟨S16x16x256, .f32⟩
  | 90 => ⟨S256x256, .f32⟩
  | 91 => ⟨S256x256, .f32⟩
  | 92 => ⟨S256x256, .f32⟩
  | 93 => ⟨S16x16x256, .f32⟩
  | 94 => ⟨S16x24x256, .f32⟩
  | 95 => ⟨S256x256, .f32⟩
  | 96 => ⟨S16x16x256, .f32⟩
  | 97 => ⟨S1x256, .f32⟩
  | 98 => ⟨S256, .f32⟩
  | 99 => ⟨S16x16x256, .f32⟩
  | 100 => ⟨S1x1x256, .f32⟩
  | 101 => ⟨S16x16x256, .f32⟩
  | 102 => ⟨S16x16x256, .f32⟩
  | 103 => ⟨S_, .f32⟩
  | 104 => ⟨S16x16x256, .f32⟩
  | 105 => ⟨S16x16x256, .f32⟩
  | 106 => ⟨S1x256, .f32⟩
  | 107 => ⟨S256, .f32⟩
  | 108 => ⟨S16x16x256, .f32⟩
  | 109 => ⟨S1x1x256, .f32⟩
  | 110 => ⟨S16x16x256, .f32⟩
  | 111 => ⟨S16x16x256, .f32⟩
  | 112 => ⟨S16x16x256, .f32⟩
  | 113 => ⟨S1x256, .f32⟩
  | 114 => ⟨S256, .f32⟩
  | 115 => ⟨S16x16x256, .f32⟩
  | 116 => ⟨S1x1x256, .f32⟩
  | 117 => ⟨S16x16x256, .f32⟩
  | 118 => ⟨S16x16x256, .f32⟩
  | 119 => ⟨S16x16x256, .f32⟩
  | 120 => ⟨S16x16x256, .f32⟩
  | 121 => ⟨S256x512, .f32⟩
  | 122 => ⟨S1x512, .f32⟩
  | 123 => ⟨S256x512, .f32⟩
  | 124 => ⟨S_, .f32⟩
  | 125 => ⟨S256, .f32⟩
  | 126 => ⟨S256x1, .f32⟩
  | 127 => ⟨S_, .f32⟩
  | _ => ⟨S256x1024, .f32⟩

abbrev hbmTy0_1 (i : Nat) : BufTy := match i % 128 with
  | 0 => ⟨S256x1, .f32⟩
  | 1 => ⟨S256x1, .f32⟩
  | 2 => ⟨S_, .f32⟩
  | 3 => ⟨S256x1, .f32⟩
  | 4 => ⟨S256x1, .f32⟩
  | 5 => ⟨S256x1, .f32⟩
  | 6 => ⟨S256x512, .f32⟩
  | 7 => ⟨S256x512, .f32⟩
  | 8 => ⟨S256x512, .f32⟩
  | 9 => ⟨S256x512, .f32⟩
  | 10 => ⟨S256x256, .f32⟩
  | 11 => ⟨S1x256, .f32⟩
  | 12 => ⟨S256x256, .f32⟩
  | 13 => ⟨S_, .f32⟩
  | 14 => ⟨S256, .f32⟩
  | 15 => ⟨S256x1, .f32⟩
  | 16 => ⟨S_, .f32⟩
  | 17 => ⟨S256x1, .f32⟩
  | 18 => ⟨S256x1, .f32⟩
  | 19 => ⟨S_, .f32⟩
  | 20 => ⟨S256x1, .f32⟩
  | 21 => ⟨S256x1, .f32⟩
  | 22 => ⟨S256x1, .f32⟩
  | 23 => ⟨S256x256, .f32⟩
  | 24 => ⟨S256x256, .f32⟩
  | 25 => ⟨S256x256, .f32⟩
  | 26 => ⟨S256x256, .f32⟩
  | 27 => ⟨S256x256, .f32⟩
  | 28 => ⟨S1x256, .f32⟩
  | 29 => ⟨S256x256, .f32⟩
  | 30 => ⟨S_, .f32⟩
  | 31 => ⟨S256, .f32⟩
  | 32 => ⟨S256x1, .f32⟩
  | 33 => ⟨S_, .f32⟩
  | 34 => ⟨S256x1, .f32⟩
  | 35 => ⟨S256x1, .f32⟩
  | 36 => ⟨S_, .f32⟩
  | 37 => ⟨S256x1, .f32⟩
  | 38 => ⟨S256x1, .f32⟩
  | 39 => ⟨S256x1, .f32⟩
  | 40 => ⟨S256x256, .f32⟩
  | 41 => ⟨S256x256, .f32⟩
  | 42 => ⟨S256x256, .f32⟩
  | 43 => ⟨S256x256, .f32⟩
  | 44 => ⟨S256x1024, .f32⟩
  | 45 => ⟨S1024x1024, .f32⟩
  | 46 => ⟨S256x1024, .f32⟩
  | 47 => ⟨S256x1024, .f32⟩
  | 48 => ⟨S16x32x256, .f32⟩
  | 49 => ⟨S16x8x256, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_10 : Ref sig .tc := ⟨.hbm, 124, rfl⟩
abbrev main_v92 : Ref sig .tc := ⟨.hbm, 125, rfl⟩
abbrev main_v93 : Ref sig .tc := ⟨.hbm, 126, rfl⟩
abbrev main_cst_11 : Ref sig .tc := ⟨.hbm, 127, rfl⟩
abbrev main_v94 : Ref sig .tc := ⟨.hbm, 128, rfl⟩
abbrev main_v95 : Ref sig .tc := ⟨.hbm, 129, rfl⟩
abbrev main_cst_12 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_13 : Ref sig .tc := ⟨.hbm, 141, rfl⟩
abbrev main_v106 : Ref sig .tc := ⟨.hbm, 142, rfl⟩
abbrev main_v107 : Ref sig .tc := ⟨.hbm, 143, rfl⟩
abbrev main_cst_14 : Ref sig .tc := ⟨.hbm, 144, rfl⟩
abbrev main_v108 : Ref sig .tc := ⟨.hbm, 145, rfl⟩
abbrev main_v109 : Ref sig .tc := ⟨.hbm, 146, rfl⟩
abbrev main_cst_15 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_16 : Ref sig .tc := ⟨.hbm, 158, rfl⟩
abbrev main_v120 : Ref sig .tc := ⟨.hbm, 159, rfl⟩
abbrev main_v121 : Ref sig .tc := ⟨.hbm, 160, rfl⟩
abbrev main_cst_17 : Ref sig .tc := ⟨.hbm, 161, rfl⟩
abbrev main_v122 : Ref sig .tc := ⟨.hbm, 162, rfl⟩
abbrev main_v123 : Ref sig .tc := ⟨.hbm, 163, rfl⟩
abbrev main_cst_18 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩

abbrev nD : Nat := 1
abbrev τ : Topo := Topo.v7x

variable {F : FTy → Type} [FloatOps F]
-- ==== Proof.Softmax.lean ====
/-
  Softmax twice over the extended reals: with base-two exponentials of scores scaled by 1 / ln 2, normalised after the
  weighted sum, over a window of keys some of which have score ⊥; and with natural exponentials, normalised before, over
  the window's other keys alone. The two agree.
-/
module

public import Idealize.ShloMosaic.PureOps.Ideal
public import Mathlib.Analysis.SpecialFunctions.Pow.Real
public import Mathlib.Analysis.SpecialFunctions.Log.Basic

@[expose] public section

noncomputable section

namespace Attn

open Idealize.ShloMosaic

/-- A sum of extended reals times a nonnegative finite number, taken term by term. -/
theorem sum_mul_of_nonneg {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- A sum of reals, as an extended real. -/
theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many extended reals, as the reductions fold it. -/
def top {n : ℕ} (f : Fin n → EReal) : EReal := Finset.univ.fold max ⊥ f

/-- It is their supremum. -/
theorem top_eq_sup {n : ℕ} (f : Fin n → EReal) : top f = Finset.univ.sup f := rfl

/-- The greatest of scores that are real or ⊥, not all ⊥, is one of the real ones. -/
theorem top_real {n : ℕ} (σ : Fin n → EReal) (hσ : ∀ k, σ k = ⊥ ∨ ∃ r : ℝ, σ k = r) (hex : ∃ k, ∃ r : ℝ, σ k = r) :
    ∃ k, ∃ μ : ℝ, σ k = μ ∧ top σ = μ ∧ ∀ j, σ j ≤ μ := by
  obtain ⟨k0, r0, h0⟩ := hex
  obtain ⟨k, -, hk⟩ := Finset.exists_mem_eq_sup Finset.univ ⟨k0, Finset.mem_univ _⟩ σ
  have hle : ∀ j, σ j ≤ σ k := fun j => hk ▸ Finset.le_sup (Finset.mem_univ j)
  rcases hσ k with hb | ⟨μ, hμ⟩
  · have := hle k0
    rw [hb, h0] at this
    exact absurd (le_bot_iff.mp this) (EReal.coe_ne_bot r0)
  · exact ⟨k, μ, hμ, by rw [top_eq_sup, hk, hμ], fun j => hμ ▸ hle j⟩

/-- The weight `exp (x - μ)` of a score that is real or ⊥ (which weighs nothing). -/
def weight (μ : ℝ) (x : EReal) : ℝ := if x = ⊥ then 0 else Real.exp (x.toReal - μ)

theorem weight_nonneg (μ : ℝ) (x : EReal) : 0 ≤ weight μ x := by
  unfold weight; split
  · exact le_refl _
  · exact (Real.exp_pos _).le

/-- The natural exponential of a score less the greatest one. -/
theorem exp_sub (μ : ℝ) (x : EReal) (hx : x = ⊥ ∨ ∃ r : ℝ, x = r) : Ideal.exp (x - (μ : EReal)) = (weight μ x : EReal) := by
  rcases hx with rfl | ⟨r, rfl⟩
  · simp [weight]
  · rw [← EReal.coe_sub, Ideal.exp_coe, weight, if_neg (EReal.coe_ne_bot r), EReal.toReal_coe]

/-- The base-two exponential of a score scaled by 1 / ln 2 less the greatest such one. -/
theorem exp2_sub (μ : ℝ) (x : EReal) (hx : x = ⊥ ∨ ∃ r : ℝ, x = r) :
    Ideal.exp2 (((1 / Real.log 2 : ℝ) : EReal) * x - ((1 / Real.log 2 * μ : ℝ) : EReal)) = (weight μ x : EReal) := by
  have hl : 0 < Real.log 2 := Real.log_pos (by norm_num)
  rcases hx with rfl | ⟨r, rfl⟩
  · rw [EReal.coe_mul_bot_of_pos (by positivity)]
    simp [weight]
  · rw [← EReal.coe_mul, ← EReal.coe_sub, Ideal.exp2_coe, weight, if_neg (EReal.coe_ne_bot r), EReal.toReal_coe]
    congr 1
    show (2 : ℝ) ^ (1 / Real.log 2 * r - 1 / Real.log 2 * μ) = _
    rw [Real.rpow_def_of_pos (by norm_num)]
    congr 1
    field_simp

/-- The sum over a window of something that is zero off the image of an injection is the sum over the image. -/
theorem sum_window {n N : ℕ} (e : Fin n → Fin N) (he : Function.Injective e) (f : Fin N → EReal)
    (hf : ∀ j, (∀ k, j ≠ e k) → f j = 0) : ∑ j, f j = ∑ k, f (e k) := by
  classical
  rw [← Finset.sum_image (s := Finset.univ) (g := e) (f := f) (fun a _ b _ h => he h)]
  symm
  refine Finset.sum_subset (Finset.subset_univ _) fun j _ hj => hf j fun k hk => hj ?_
  rw [hk]; exact Finset.mem_image_of_mem _ (Finset.mem_univ _)

/-- The two softmax-weighted sums are equal: over the window `Fin N` in base two, normalised after; over the keys `Fin n`
    that the window really holds, in base e, normalised before. A key of score `⊥` may have any value. -/
theorem softmax_eq {n N : ℕ} (e : Fin n → Fin N) (he : Function.Injective e) (σ VR : Fin n → EReal) (s V : Fin N → EReal)
    (hσ : ∀ k, σ k = ⊥ ∨ ∃ r : ℝ, σ k = r) (hex : ∃ k, ∃ r : ℝ, σ k = r)
    (hs : ∀ k, s (e k) = ((1 / Real.log 2 : ℝ) : EReal) * σ k) (hout : ∀ j, (∀ k, j ≠ e k) → s j = ⊥)
    (hV : ∀ k, σ k ≠ ⊥ → VR k = V (e k)) :
    (∑ j, V j * Ideal.exp2 (s j - top s)) * Ideal.div 1 (∑ j, Ideal.exp2 (s j - top s))
      = ∑ k, VR k * Ideal.div (Ideal.exp (σ k - top σ)) (∑ k', Ideal.exp (σ k' - top σ)) := by
  have hl : 0 < Real.log 2 := Real.log_pos (by norm_num)
  obtain ⟨k0, μ, hk0, htop, hle⟩ := top_real σ hσ hex
  have hs0 : s (e k0) = ((1 / Real.log 2 * μ : ℝ) : EReal) := by rw [hs, hk0, EReal.coe_mul]
  have htops : top s = ((1 / Real.log 2 * μ : ℝ) : EReal) := by
    rw [top_eq_sup]
    apply le_antisymm
    · refine Finset.sup_le fun j _ => ?_
      by_cases hj : ∃ k, j = e k
      · obtain ⟨k, rfl⟩ := hj
        rw [hs]
        rcases hσ k with hb | ⟨r, hr⟩
        · rw [hb, EReal.coe_mul_bot_of_pos (by positivity)]; exact bot_le
        · have h1 := hle k
          rw [hr, EReal.coe_le_coe_iff] at h1
          rw [hr, ← EReal.coe_mul, EReal.coe_le_coe_iff]
          exact mul_le_mul_of_nonneg_left h1 (by positivity)
      · rw [hout j fun k h => hj ⟨k, h⟩]; exact bot_le
    · rw [← hs0]; exact Finset.le_sup (Finset.mem_univ _)
  have hin : ∀ k, Ideal.exp2 (s (e k) - top s) = (weight μ (σ k) : EReal) := fun k => by
    rw [hs, htops, exp2_sub μ _ (hσ k)]
  have hoff : ∀ j, (∀ k, j ≠ e k) → Ideal.exp2 (s j - top s) = 0 := fun j hj => by
    rw [hout j hj, htops]; simp
  have href : ∀ k, Ideal.exp (σ k - top σ) = (weight μ (σ k) : EReal) := fun k => by
    rw [htop, exp_sub μ _ (hσ k)]
  rw [sum_window e he (fun j => V j * Ideal.exp2 (s j - top s)) (fun j hj => by simp only [hoff j hj, mul_zero]),
    sum_window e he (fun j => Ideal.exp2 (s j - top s)) hoff]
  simp only [hin, href]
  rw [← coe_sum_real]
  have hpos : 0 < ∑ k, weight μ (σ k) := by
    refine Finset.sum_pos' (fun k _ => weight_nonneg μ _) ⟨k0, Finset.mem_univ _, ?_⟩
    rw [weight, hk0, if_neg (EReal.coe_ne_bot μ)]; exact Real.exp_pos _
  rw [Ideal.div_coe hpos.ne', one_mul, sum_mul_of_nonneg _ _ _ (by exact_mod_cast (by positivity)) (EReal.coe_ne_top _)]
  refine Finset.sum_congr rfl fun k _ => ?_
  rw [Ideal.div_coe hpos.ne', mul_assoc]
  by_cases hb : σ k = ⊥
  · rw [weight, if_pos hb]
    simp
  · rw [hV k hb]

end Attn

end
-- ==== Proof.Tile.lean ====
module
public import proofs.«01_k».proof.Proof.Softmax
public import proofs.«01_k».proof.Proof.Gen.KernelIdeal.Skeleton
public import Idealize.ShloMosaic.Lib.Pointwise
public import Idealize.ShloMosaic.Lib.WordCmp

/-! What one tile of the attention computes: 128 queries of two neighbouring heads against a window of 640 keys. -/

@[expose] public section
set_option maxRecDepth 16384
noncomputable section

namespace Attn
open Idealize.ShloMosaic Idealize.ShloMosaic.TcCoe Cert.KernelIdeal Cert.KernelIdeal.Gen

/-- The average of `V` under the weights `2 ^ (s j)`, as the tile computes it: shifted by the largest exponent, and divided at the end. -/
def soft {n : ℕ} (s V : Fin n → EReal) : EReal :=
  (∑ j, V j * Ideal.exp2 (s j - top s)) * Ideal.div 1 (∑ j, Ideal.exp2 (s j - top s))

/-- The lane number of each entry of a 128 × 128 block. -/
abbrev lane : IVec S128x128 32 := iota Kind.tc S128x128 32 [1] iota_S128x128_d1_w32

/-- The row number of each entry of a 640 × 256 block. -/
abbrev row : IVec S640x256 32 := iota Kind.tc S640x256 32 [0] iota_S640x256_d0_w32

/-- The scores of a tile, before the bias. -/
def scores (k : FVec Ideal S640x128 .bf16) (q : FVec Ideal S128x128 .bf16) : FVec Ideal S1x640x256 .f32 :=
  shapeCast S1x640x256 (matmul dot_S640x128_S256x128_S640x256_1_1_0_0_n_n none k
    (concatenate S256x128 0
      [⟨S128x128, select (cmpi .slt lane (broadcast S128x128 64#32)) q (broadcast S128x128 (Scalar.ofBits .bf16 0x0000#16 : Ideal .bf16))⟩,
       ⟨S128x128, select (cmpi .sge lane (broadcast S128x128 64#32)) q (broadcast S128x128 (Scalar.ofBits .bf16 0x0000#16 : Ideal .bf16))⟩]
      concatenates_S128x128_S128x128_S256x128_d0)
    (constant S640x256 .f32 0x00000000#32 : FVec Ideal S640x256 .f32)) shapeCasts_S640x256_S1x640x256

/-- The scores with their bias. -/
def biased (s b : FVec Ideal S1x640x256 .f32) : FVec Ideal S640x256 .f32 :=
  addf (shapeCast S640x256 s shapeCasts_S1x640x256_S640x256) (shapeCast S640x256 b shapeCasts_S1x640x256_S640x256)

/-- The scores with the first `n` keys taken out. -/
def maskedBy (n : BitVec 32) (x : FVec Ideal S640x256 .f32) : FVec Ideal S640x256 .f32 :=
  select (cmpi .slt row (broadcast S640x256 n)) (broadcast S640x256 (Named.named κ "neg" 0xF149F2CA#32 : Ideal .f32)) x

/-- The exponentials of a tile's scores. -/
def expo (x : FVec Ideal S640x256 .f32) : FVec Ideal S640x256 .f32 :=
  exp2 (subf x (broadcastTo S640x256 (shapeCast S1x256
    (multiReduction .maximumf [0] S256 x 0xFF800000#32 reduces_S640x256_S256 (.inl rfl) rfl) shapeCasts_S256_S1x256) broadcasts_S1x256_S640x256))

/-- The weighted values of both heads, one column per query and head. -/
def mixed (v : FVec Ideal S128x640 .bf16) (e : FVec Ideal S640x256 .f32) : FVec Ideal S128x256 .f32 :=
  mulf (matmul dot_S128x640_S640x256_S128x256_1_0_0_1_n_n none v (truncf .bf16 e bitsLt_bf16_f32) (constant S128x256 .f32 0x00000000#32 : FVec Ideal S128x256 .f32))
    (broadcastTo S128x256 (divf (broadcast S1x256 (Scalar.ofBits .f32 0x3F800000#32 : Ideal .f32))
      (shapeCast S1x256 (multiReduction .add [0] S256 e 0x00000000#32 reduces_S640x256_S256 (.inl rfl) rfl) shapeCasts_S256_S1x256)) broadcasts_S1x256_S128x256)

/-- The tile as it is stored: each head's rows of its own columns, turned to have one row per query. -/
def stored (x : FVec Ideal S128x256 .f32) : FVec Ideal S128x128 .bf16 :=
  truncf .bf16 (transpose S128x128 [1, 0] (concatenate S128x128 0
    [⟨S64x128, extractStridedSlice S64x128 ![0, 0] x slices_S128x256_o0_0_S64x128⟩,
     ⟨S64x128, extractStridedSlice S64x128 ![64, 128] x slices_S128x256_o64_128_S64x128⟩]
    concatenates_S64x128_S64x128_S128x128_d0) transposes_S128x128_p1_0_S128x128) bitsLt_bf16_f32

/-- The tile, from the values and the biased scores. -/
def tile (v : FVec Ideal S128x640 .bf16) (x : FVec Ideal S640x256 .f32) : FVec Ideal S128x128 .bf16 := stored (mixed v (expo x))

/-- A selection on a decided condition is an `if`. -/
theorem select_decide {α : Type} (p : Prop) [Decidable p] (a b : α) : Scalar.select (BitVec.ofBool (decide p)) a b = if p then a else b := by
  by_cases h : p <;> simp [h, Scalar.select]

/-- The word of `-inf` is `⊥`. -/
theorem word_bot : Ideal.ofBits .f32 0xFF800000#32 = ⊥ := by
  simp [Ideal.ofBits, Ideal.ieee]

/-- A score is the product of a key and the query's lanes of the score's head. -/
theorem scores_apply (k : FVec Ideal S640x128 .bf16) (q : FVec Ideal S128x128 .bf16) (j : Fin 640) (r : Fin 256) :
    scores k q (ix3 0 j r) = ∑ l : Fin 128, k (ix2 j l) * (if l.val / 64 = r.val / 128 then q (ix2 ⟨r.val % 128, by omega⟩ l) else 0) := by
  pointwise [scores]
  refine Finset.sum_congr rfl fun l _ => congrArg (k (ix2 j l) * ·) ?_
  have hl := l.isLt
  have hr := r.isLt
  have e1 : IntOp.cmpi .slt (BitVec.ofNat 32 l.val) 64#32 = BitVec.ofBool (decide (l.val < 64)) := WordCmp.cmpi_slt_ofNat (w := 32) (b := 64) (by omega) (by omega)
  have e2 : IntOp.cmpi .sge (BitVec.ofNat 32 l.val) 64#32 = BitVec.ofBool (decide (64 ≤ l.val)) := WordCmp.cmpi_sge_ofNat (w := 32) (b := 64) (by omega) (by omega)
  by_cases h : r.val < 128
  · rw [dif_pos h, e1]
    refine (select_decide _ _ _).trans ?_
    have e : (⟨r.val, h⟩ : Fin 128) = ⟨r.val % 128, by omega⟩ := Fin.ext (by simp only; omega)
    rw [e]
    exact if_congr (by omega) rfl rfl
  · rw [dif_neg h, e2]
    refine (select_decide _ _ _).trans ?_
    have e : (⟨r.val - 128, by omega⟩ : Fin 128) = ⟨r.val % 128, by omega⟩ := Fin.ext (by simp only; omega)
    rw [e]
    exact if_congr (by omega) rfl rfl

/-- A biased score. -/
theorem biased_apply (s b : FVec Ideal S1x640x256 .f32) (j : Fin 640) (r : Fin 256) : biased s b (ix2 j r) = s (ix3 0 j r) + b (ix3 0 j r) := by
  pointwise [biased]

/-- A masked score: `⊥` for the first keys. -/
theorem maskedBy_apply (n : ℕ) (hn : n < 1024) (x : FVec Ideal S640x256 .f32) (j : Fin 640) (r : Fin 256) :
    maskedBy (BitVec.ofNat 32 n) x (ix2 j r) = if j.val < n then ⊥ else x (ix2 j r) := by
  pointwise [maskedBy]
  have hj := j.isLt
  rw [WordCmp.cmpi_slt_ofNat (by omega) (by omega), select_decide]
  rfl

/-- An exponential of a tile. -/
theorem expo_apply (x : FVec Ideal S640x256 .f32) (j : Fin 640) (r : Fin 256) :
    expo x (ix2 j r) = Ideal.exp2 (x (ix2 j r) - top fun j' => x (ix2 j' r)) := by
  pointwise [expo]
  rw [word_bot]
  rfl

/-- A weighted value. -/
theorem mixed_apply (v : FVec Ideal S128x640 .bf16) (e : FVec Ideal S640x256 .f32) (i : Fin 128) (r : Fin 256) :
    mixed v e (ix2 i r) = (∑ j : Fin 640, v (ix2 i j) * e (ix2 j r)) * Ideal.div 1 (∑ j : Fin 640, e (ix2 j r)) := by
  pointwise [mixed]

/-- Where the stored tile reads the weighted values. -/
theorem stored_apply (x : FVec Ideal S128x256 .f32) (i j : Fin 128) :
    stored x (ix2 i j) = x (ix2 j ⟨i.val + 128 * (j.val / 64), by omega⟩) := by
  pointwise [stored]
  have hj := j.isLt
  have hi := i.isLt
  by_cases h : j.val < 64
  · rw [dif_pos h]
    exact congrArg x (congrArg (ix2 j) (Fin.ext (by simp only; omega)))
  · rw [dif_neg h]
    exact congrArg x (congrArg₂ ix2 (Fin.ext (by simp only; omega)) (Fin.ext (by simp only; omega)))

/-- An entry of the tile: the average of its head's values under the exponentials of its scores. -/
theorem tile_apply (v : FVec Ideal S128x640 .bf16) (x : FVec Ideal S640x256 .f32) (i j : Fin 128) :
    tile v x (ix2 i j) = soft (fun n => x (ix2 n ⟨i.val + 128 * (j.val / 64), by omega⟩)) (fun n => v (ix2 j n)) := by
  unfold tile soft
  rw [stored_apply, mixed_apply]
  simp only [expo_apply]

end Attn
end
-- ==== Proof.Point.lean ====
module
public import proofs.«01_k».proof.Proof.Tile
public import proofs.«01_k».proof.Proof.Gen.KernelIdeal.Value
public import Idealize.ShloMosaic.Lib.Pipeline.ValueKit
public import Idealize.ShloMosaic.Lib.Pipeline.ReadBack

/-! What one grid point of the attention stores: the result block as sixteen tiles read at an index, and the two carried
arrays of keys and of values. -/

@[expose] public section
set_option maxRecDepth 16384
noncomputable section

namespace Attn
open Idealize.ShloMosaic Idealize.ShloMosaic.TcCoe Cert.KernelIdeal Cert.KernelIdeal.Gen

/-- The biased score of key `n` of the window of row `R`, for the head of column `X`, from the carried keys `K`, the queries
`Q` and the bias `B` of the point. -/
def scoreAt (K : FVec Ideal S1024x512 .bf16) (Q : FVec Ideal S512x512 .bf16) (B : FVec Ideal S4x640x256 .f32) (R X : Fin 512) (n : Fin 640) : EReal :=
  (∑ l : Fin 128, K (ix2 ⟨128 * (R.val / 128) + n.val, by omega⟩ ⟨128 * (X.val / 128) + l.val, by omega⟩) *
    (if l.val / 64 = X.val % 128 / 64 then Q (ix2 R ⟨128 * (X.val / 128) + l.val, by omega⟩) else 0)) +
  B (ix3 ⟨X.val / 128, by omega⟩ n ⟨R.val % 128 + 128 * (X.val % 128 / 64), by omega⟩)

/-- Row `R`, column `X` of the block that a point stores; at the first point of a batch row the keys before the row are taken out. -/
def pointAt (first : Prop) [Decidable first] (K : FVec Ideal S1024x512 .bf16) (V : FVec Ideal S512x1024 .bf16) (Q : FVec Ideal S512x512 .bf16)
    (B : FVec Ideal S4x640x256 .f32) (R X : Fin 512) : EReal :=
  soft (fun n : Fin 640 => if first ∧ n.val < 512 - 128 * (R.val / 128) then ⊥ else scoreAt K Q B R X n)
    (fun n => V (ix2 X ⟨128 * (R.val / 128) + n.val, by omega⟩))

/-- The biased scores of tile `(a, p)` are those of its rows and columns. -/
theorem biased_piece (a p : Fin 4) (K : FVec Ideal S1024x512 .bf16) (Q : FVec Ideal S512x512 .bf16) (B : FVec Ideal S4x640x256 .f32)
    (hk : ∀ b, (![128 * a.val, 128 * p.val] : Fin 2 → ℕ) b + (![640, 128] : Fin 2 → ℕ) b ≤ S1024x512.size b)
    (hq : ∀ b, (![128 * a.val, 128 * p.val] : Fin 2 → ℕ) b + (![128, 128] : Fin 2 → ℕ) b ≤ S512x512.size b)
    (hb : ∀ b, (![p.val, 0, 0] : Fin 3 → ℕ) b + (![1, 640, 256] : Fin 3 → ℕ) b ≤ S4x640x256.size b) (n : Fin 640) (R X : Fin 512) (i j : Fin 128) (hR : R.val = 128 * a.val + i.val) (hX : X.val = 128 * p.val + j.val) :
    biased (scores (View.ld (S := S1024x512) (e' := .bf16) (Val := Elt Ideal) K (Rect.unit ![128 * a.val, 128 * p.val] ![640, 128] hk))
        (View.ld (S := S512x512) (e' := .bf16) (Val := Elt Ideal) Q (Rect.unit ![128 * a.val, 128 * p.val] ![128, 128] hq)))
      (View.ld (S := S4x640x256) (e' := .f32) (Val := Elt Ideal) B (Rect.unit ![p.val, 0, 0] ![1, 640, 256] hb)) (ix2 n ⟨i.val + 128 * (j.val / 64), by omega⟩)
      = scoreAt K Q B R X n := by
  have hi := i.isLt
  have hj := j.isLt
  have hn := n.isLt
  have ha := a.isLt
  have hp := p.isLt
  rw [biased_apply, scores_apply]
  unfold scoreAt
  congr 1
  · refine Finset.sum_congr rfl fun l _ => ?_
    have hl := l.isLt
    congr 1
    · rw [View.ld_apply]
      refine congrArg K (funext fun b => ?_)
      fin_cases b <;> refine Fin.ext ?_ <;> rw [Rect.idx_unit_val] <;> simp [ix2] <;> omega
    · refine if_congr (by simp only; omega) ?_ rfl
      rw [View.ld_apply]
      refine congrArg Q (funext fun b => ?_)
      fin_cases b <;> refine Fin.ext ?_ <;> rw [Rect.idx_unit_val] <;> simp [ix2] <;> omega
  · rw [View.ld_apply]
    refine congrArg B (funext fun b => ?_)
    fin_cases b <;> refine Fin.ext ?_ <;> rw [Rect.idx_unit_val] <;> simp [ix3] <;> omega

/-- An entry of tile `(a, p)` of a point with no keys taken out. -/
theorem plain_piece (a p : Fin 4) (K : FVec Ideal S1024x512 .bf16) (V : FVec Ideal S512x1024 .bf16) (Q : FVec Ideal S512x512 .bf16) (B : FVec Ideal S4x640x256 .f32)
    (hv : ∀ b, (![128 * p.val, 128 * a.val] : Fin 2 → ℕ) b + (![128, 640] : Fin 2 → ℕ) b ≤ S512x1024.size b)
    (hk : ∀ b, (![128 * a.val, 128 * p.val] : Fin 2 → ℕ) b + (![640, 128] : Fin 2 → ℕ) b ≤ S1024x512.size b)
    (hq : ∀ b, (![128 * a.val, 128 * p.val] : Fin 2 → ℕ) b + (![128, 128] : Fin 2 → ℕ) b ≤ S512x512.size b)
    (hb : ∀ b, (![p.val, 0, 0] : Fin 3 → ℕ) b + (![1, 640, 256] : Fin 3 → ℕ) b ≤ S4x640x256.size b) (y : S512x512.Idx) (x : S128x128.Idx)
    (h0 : (y 0).val = 128 * a.val + (x 0).val) (h1 : (y 1).val = 128 * p.val + (x 1).val) :
    tile (View.ld (S := S512x1024) (e' := .bf16) (Val := Elt Ideal) V (Rect.unit ![128 * p.val, 128 * a.val] ![128, 640] hv))
      (biased (scores (View.ld (S := S1024x512) (e' := .bf16) (Val := Elt Ideal) K (Rect.unit ![128 * a.val, 128 * p.val] ![640, 128] hk))
        (View.ld (S := S512x512) (e' := .bf16) (Val := Elt Ideal) Q (Rect.unit ![128 * a.val, 128 * p.val] ![128, 128] hq)))
      (View.ld (S := S4x640x256) (e' := .f32) (Val := Elt Ideal) B (Rect.unit ![p.val, 0, 0] ![1, 640, 256] hb))) x
      = pointAt False K V Q B (y 0) (y 1) := by
  have hi : (x 0).val < 128 := (x 0).isLt
  have hj : (x 1).val < 128 := (x 1).isLt
  have ex : x = ix2 ⟨(x 0).val, hi⟩ ⟨(x 1).val, hj⟩ := funext fun b => by fin_cases b <;> rfl
  rw [ex, tile_apply]
  unfold pointAt
  have e1 : (fun n => biased (scores (View.ld (S := S1024x512) (e' := .bf16) (Val := Elt Ideal) K (Rect.unit ![128 * a.val, 128 * p.val] ![640, 128] hk))
        (View.ld (S := S512x512) (e' := .bf16) (Val := Elt Ideal) Q (Rect.unit ![128 * a.val, 128 * p.val] ![128, 128] hq)))
      (View.ld (S := S4x640x256) (e' := .f32) (Val := Elt Ideal) B (Rect.unit ![p.val, 0, 0] ![1, 640, 256] hb)) (ix2 n ⟨(x 0).val + 128 * ((x 1).val / 64), by omega⟩))
      = fun n => if False ∧ n.val < 512 - 128 * ((y 0).val / 128) then ⊥ else scoreAt K Q B (y 0) (y 1) n := by
    funext n
    rw [if_neg (fun h => h.1)]
    exact biased_piece a p K Q B hk hq hb n (y 0) (y 1) ⟨(x 0).val, hi⟩ ⟨(x 1).val, hj⟩ h0 h1
  refine congrArg₂ soft e1 (funext fun n => ?_)
  rw [View.ld_apply]
  refine congrArg V (funext fun b => ?_)
  fin_cases b <;> refine Fin.ext ?_ <;> rw [Rect.idx_unit_val] <;> simp [ix2] <;> omega

/-- An entry of tile `(a, p)` of a point with the keys before the row taken out. -/
theorem masked_piece (a p : Fin 4) (K : FVec Ideal S1024x512 .bf16) (V : FVec Ideal S512x1024 .bf16) (Q : FVec Ideal S512x512 .bf16) (B : FVec Ideal S4x640x256 .f32)
    (hv : ∀ b, (![128 * p.val, 128 * a.val] : Fin 2 → ℕ) b + (![128, 640] : Fin 2 → ℕ) b ≤ S512x1024.size b)
    (hk : ∀ b, (![128 * a.val, 128 * p.val] : Fin 2 → ℕ) b + (![640, 128] : Fin 2 → ℕ) b ≤ S1024x512.size b)
    (hq : ∀ b, (![128 * a.val, 128 * p.val] : Fin 2 → ℕ) b + (![128, 128] : Fin 2 → ℕ) b ≤ S512x512.size b)
    (hb : ∀ b, (![p.val, 0, 0] : Fin 3 → ℕ) b + (![1, 640, 256] : Fin 3 → ℕ) b ≤ S4x640x256.size b) (y : S512x512.Idx) (x : S128x128.Idx)
    (h0 : (y 0).val = 128 * a.val + (x 0).val) (h1 : (y 1).val = 128 * p.val + (x 1).val) :
    tile (View.ld (S := S512x1024) (e' := .bf16) (Val := Elt Ideal) V (Rect.unit ![128 * p.val, 128 * a.val] ![128, 640] hv)) (maskedBy (BitVec.ofNat 32 (512 - 128 * a.val))
      (biased (scores (View.ld (S := S1024x512) (e' := .bf16) (Val := Elt Ideal) K (Rect.unit ![128 * a.val, 128 * p.val] ![640, 128] hk))
        (View.ld (S := S512x512) (e' := .bf16) (Val := Elt Ideal) Q (Rect.unit ![128 * a.val, 128 * p.val] ![128, 128] hq)))
      (View.ld (S := S4x640x256) (e' := .f32) (Val := Elt Ideal) B (Rect.unit ![p.val, 0, 0] ![1, 640, 256] hb)))) x
      = pointAt True K V Q B (y 0) (y 1) := by
  have hi : (x 0).val < 128 := (x 0).isLt
  have hj : (x 1).val < 128 := (x 1).isLt
  have ex : x = ix2 ⟨(x 0).val, hi⟩ ⟨(x 1).val, hj⟩ := funext fun b => by fin_cases b <;> rfl
  rw [ex, tile_apply]
  unfold pointAt
  refine congrArg₂ soft (funext fun n => ?_) (funext fun n => ?_)
  · rw [maskedBy_apply _ (by omega)]
    have hy : (y 0).val / 128 = a.val := by omega
    refine if_congr ?_ rfl (biased_piece a p K Q B hk hq hb n (y 0) (y 1) ⟨(x 0).val, hi⟩ ⟨(x 1).val, hj⟩ h0 h1)
    rw [true_and, hy]
  · rw [View.ld_apply]
    refine congrArg V (funext fun b => ?_)
    fin_cases b <;> refine Fin.ext ?_ <;> rw [Rect.idx_unit_val] <;> simp [ix2] <;> omega

/-- The carried keys after a point: `lo` in the first 512 rows, `hi` in the last. -/
def keysOf (lo hi : FVec Ideal S512x512 .bf16) : FVec Ideal S1024x512 .bf16 :=
  View.canon (Val := Elt Ideal) (s := S1024x512) (e := .bf16)
    [⟨Rect.unit ![512, 0] ![512, 512] inb_S1024x512_S512x512_512_0, hi⟩, ⟨Rect.unit ![0, 0] ![512, 512] inb_S1024x512_S512x512_0_0, lo⟩]

/-- The carried values after a point, one column per key: `lo` in the first 512 columns, `hi` in the last. -/
def valsOf (lo hi : FVec Ideal S512x512 .bf16) : FVec Ideal S512x1024 .bf16 :=
  View.canon (Val := Elt Ideal) (s := S512x1024) (e := .bf16)
    [⟨Rect.unit ![0, 512] ![512, 512] inb_S512x1024_S512x512_0_512, hi⟩, ⟨Rect.unit ![0, 0] ![512, 512] inb_S512x1024_S512x512_0_0, lo⟩]

/-- The keys that a later point of a batch row leaves: the last 512 it was given, then its own block. -/
theorem keys_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x640x256 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S512x1024 .bf16) (harg10 : arg10.IsWhole) (arg11 : Memref sig .tc .vmem S8x640x256 .f32) (harg11 : arg11.IsWhole)
   (hc0 : ¬cond0_0 i) (hc1 : cond0_1 i) (hc2 : ¬cond0_2 i) (hc3 : cond0_3 i)
    (x0 : Vec Ideal S512x512 .bf16) (x1 : Vec Ideal S512x512 .bf16) (x2 : Vec Ideal S512x512 .bf16) (x3 : Vec Ideal S512x512 .bf16) (x4 : Vec Ideal S512x512 .bf16) (x5 : Vec Ideal S4x640x256 .f32) (xs0 : Vec Ideal S1024x512 .bf16) (xs1 : Vec Ideal S512x1024 .bf16) :
    sout0_B_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1
      = keysOf (k0_pay3 (View.ld (S := S1024x512) (e' := .bf16) (Val := Elt Ideal) xs0 (Rect.unit ![512, 0] ![512, 512] inb_S1024x512_S512x512_512_0))) (k0_pay5 x2) := by
  frame_open
  frame_out

/-- The values that a later point of a batch row leaves. -/
theorem vals_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x640x256 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S512x1024 .bf16) (harg10 : arg10.IsWhole) (arg11 : Memref sig .tc .vmem S8x640x256 .f32) (harg11 : arg11.IsWhole)
   (hc0 : ¬cond0_0 i) (hc1 : cond0_1 i) (hc2 : ¬cond0_2 i) (hc3 : cond0_3 i)
    (x0 : Vec Ideal S512x512 .bf16) (x1 : Vec Ideal S512x512 .bf16) (x2 : Vec Ideal S512x512 .bf16) (x3 : Vec Ideal S512x512 .bf16) (x4 : Vec Ideal S512x512 .bf16) (x5 : Vec Ideal S4x640x256 .f32) (xs0 : Vec Ideal S1024x512 .bf16) (xs1 : Vec Ideal S512x1024 .bf16) :
    sout0_B_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1
      = valsOf (k0_pay4 (View.ld (S := S512x1024) (e' := .bf16) (Val := Elt Ideal) xs1 (Rect.unit ![0, 512] ![512, 512] inb_S512x1024_S512x512_0_512))) (k0_pay6 x4) := by
  frame_open
  frame_out

/-- The block that a later point of a batch row stores, over the keys and values it leaves. -/
theorem out_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x640x256 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S512x1024 .bf16) (harg10 : arg10.IsWhole) (arg11 : Memref sig .tc .vmem S8x640x256 .f32) (harg11 : arg11.IsWhole)
   (hc0 : ¬cond0_0 i) (hc1 : cond0_1 i) (hc2 : ¬cond0_2 i) (hc3 : cond0_3 i)
    (x0 : Vec Ideal S512x512 .bf16) (x1 : Vec Ideal S512x512 .bf16) (x2 : Vec Ideal S512x512 .bf16) (x3 : Vec Ideal S512x512 .bf16) (x4 : Vec Ideal S512x512 .bf16) (x5 : Vec Ideal S4x640x256 .f32) (xs0 : Vec Ideal S1024x512 .bf16) (xs1 : Vec Ideal S512x1024 .bf16) (R X : Fin 512) :
    out0_B_6 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 (ix2 R X)
      = pointAt False (sout0_B_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1) (sout0_B_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1) x0 x5 R X := by
  rw [keys_B, vals_B]
  frame_open
  simp (disch := decide) only [↓ View.readCov_skip, ↓ View.readCov_cons_toLoadRect, ↓ View.readCov_fill]
  frame_out
  simp only [View.readCov_eq_canon']
  canon_tiles x h
  · exact plain_piece 3 3 _ _ _ _ _ _ _ _ (ix2 R X) x h0 h1
  · exact plain_piece 2 3 _ _ _ _ _ _ _ _ (ix2 R X) x h0 h1
  · exact plain_piece 1 3 _ _ _ _ _ _ _ _ (ix2 R X) x h0 h1
  · exact plain_piece 0 3 _ _ _ _ _ _ _ _ (ix2 R X) x (h0.trans (Nat.zero_add _).symm) h1
  · exact plain_piece 3 2 _ _ _ _ _ _ _ _ (ix2 R X) x h0 h1
  · exact plain_piece 2 2 _ _ _ _ _ _ _ _ (ix2 R X) x h0 h1
  · exact plain_piece 1 2 _ _ _ _ _ _ _ _ (ix2 R X) x h0 h1
  · exact plain_piece 0 2 _ _ _ _ _ _ _ _ (ix2 R X) x (h0.trans (Nat.zero_add _).symm) h1
  · exact plain_piece 3 1 _ _ _ _ _ _ _ _ (ix2 R X) x h0 h1
  · exact plain_piece 2 1 _ _ _ _ _ _ _ _ (ix2 R X) x h0 h1
  · exact plain_piece 1 1 _ _ _ _ _ _ _ _ (ix2 R X) x h0 h1
  · exact plain_piece 0 1 _ _ _ _ _ _ _ _ (ix2 R X) x (h0.trans (Nat.zero_add _).symm) h1
  · exact plain_piece 3 0 _ _ _ _ _ _ _ _ (ix2 R X) x h0 (h1.trans (Nat.zero_add _).symm)
  · exact plain_piece 2 0 _ _ _ _ _ _ _ _ (ix2 R X) x h0 (h1.trans (Nat.zero_add _).symm)
  · exact plain_piece 1 0 _ _ _ _ _ _ _ _ (ix2 R X) x h0 (h1.trans (Nat.zero_add _).symm)
  · exact plain_piece 0 0 _ _ _ _ _ _ _ _ (ix2 R X) x (h0.trans (Nat.zero_add _).symm) (h1.trans (Nat.zero_add _).symm)

/-- The keys that the first point of a batch row leaves. -/
theorem keys_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x640x256 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S512x1024 .bf16) (harg10 : arg10.IsWhole) (arg11 : Memref sig .tc .vmem S8x640x256 .f32) (harg11 : arg11.IsWhole)
   (hc0 : cond0_0 i) (hc1 : ¬cond0_1 i) (hc2 : cond0_2 i) (hc3 : ¬cond0_3 i)
    (x0 : Vec Ideal S512x512 .bf16) (x1 : Vec Ideal S512x512 .bf16) (x2 : Vec Ideal S512x512 .bf16) (x3 : Vec Ideal S512x512 .bf16) (x4 : Vec Ideal S512x512 .bf16) (x5 : Vec Ideal S4x640x256 .f32) :
    sout0_A_0 c i arg2 harg2 arg3 harg3 arg4 harg4 arg5 harg5 arg6 harg6 arg7 harg7 arg8 harg8 arg9 harg9 arg10 harg10 arg11 harg11 hc0 hc1 hc2 hc3 x0 x1 x2 x3 x4 x5 = keysOf (k0_pay1 x1) (k0_pay5 x2) := by
  frame_open
  frame_out

/-- The values that the first point of a batch row leaves. -/
theorem vals_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x640x256 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S512x1024 .bf16) (harg10 : arg10.IsWhole) (arg11 : Memref sig .tc .vmem S8x640x256 .f32) (harg11 : arg11.IsWhole)
   (hc0 : cond0_0 i) (hc1 : ¬cond0_1 i) (hc2 : cond0_2 i) (hc3 : ¬cond0_3 i)
    (x0 : Vec Ideal S512x512 .bf16) (x1 : Vec Ideal S512x512 .bf16) (x2 : Vec Ideal S512x512 .bf16) (x3 : Vec Ideal S512x512 .bf16) (x4 : Vec Ideal S512x512 .bf16) (x5 : Vec Ideal S4x640x256 .f32) :
    sout0_A_1 c i arg2 harg2 arg3 harg3 arg4 harg4 arg5 harg5 arg6 harg6 arg7 harg7 arg8 harg8 arg9 harg9 arg10 harg10 arg11 harg11 hc0 hc1 hc2 hc3 x0 x1 x2 x3 x4 x5 = valsOf (k0_pay2 x3) (k0_pay6 x4) := by
  frame_open
  frame_out

/-- The block that the first point of a batch row stores, over the keys and values it leaves. -/
theorem out_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x640x256 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S512x1024 .bf16) (harg10 : arg10.IsWhole) (arg11 : Memref sig .tc .vmem S8x640x256 .f32) (harg11 : arg11.IsWhole)
   (hc0 : cond0_0 i) (hc1 : ¬cond0_1 i) (hc2 : cond0_2 i) (hc3 : ¬cond0_3 i)
    (x0 : Vec Ideal S512x512 .bf16) (x1 : Vec Ideal S512x512 .bf16) (x2 : Vec Ideal S512x512 .bf16) (x3 : Vec Ideal S512x512 .bf16) (x4 : Vec Ideal S512x512 .bf16) (x5 : Vec Ideal S4x640x256 .f32) (R X : Fin 512) :
    out0_A_6 c i arg2 harg2 arg3 harg3 arg4 harg4 arg5 harg5 arg6 harg6 arg7 harg7 arg8 harg8 arg9 harg9 arg10 harg10 arg11 harg11 hc0 hc1 hc2 hc3 x0 x1 x2 x3 x4 x5 (ix2 R X)
      = pointAt True (sout0_A_0 c i arg2 harg2 arg3 harg3 arg4 harg4 arg5 harg5 arg6 harg6 arg7 harg7 arg8 harg8 arg9 harg9 arg10 harg10 arg11 harg11 hc0 hc1 hc2 hc3 x0 x1 x2 x3 x4 x5) (sout0_A_1 c i arg2 harg2 arg3 harg3 arg4 harg4 arg5 harg5 arg6 harg6 arg7 harg7 arg8 harg8 arg9 harg9 arg10 harg10 arg11 harg11 hc0 hc1 hc2 hc3 x0 x1 x2 x3 x4 x5) x0 x5 R X := by
  rw [keys_A, vals_A]
  frame_open
  simp (disch := decide) only [↓ View.readCov_skip, ↓ View.readCov_cons_toLoadRect, ↓ View.readCov_fill]
  frame_out
  simp only [View.readCov_eq_canon']
  canon_tiles x h
  · exact masked_piece 3 3 _ _ _ _ _ _ _ _ (ix2 R X) x h0 h1
  · exact masked_piece 2 3 _ _ _ _ _ _ _ _ (ix2 R X) x h0 h1
  · exact masked_piece 1 3 _ _ _ _ _ _ _ _ (ix2 R X) x h0 h1
  · exact masked_piece 0 3 _ _ _ _ _ _ _ _ (ix2 R X) x (h0.trans (Nat.zero_add _).symm) h1
  · exact masked_piece 3 2 _ _ _ _ _ _ _ _ (ix2 R X) x h0 h1
  · exact masked_piece 2 2 _ _ _ _ _ _ _ _ (ix2 R X) x h0 h1
  · exact masked_piece 1 2 _ _ _ _ _ _ _ _ (ix2 R X) x h0 h1
  · exact masked_piece 0 2 _ _ _ _ _ _ _ _ (ix2 R X) x (h0.trans (Nat.zero_add _).symm) h1
  · exact masked_piece 3 1 _ _ _ _ _ _ _ _ (ix2 R X) x h0 h1
  · exact masked_piece 2 1 _ _ _ _ _ _ _ _ (ix2 R X) x h0 h1
  · exact masked_piece 1 1 _ _ _ _ _ _ _ _ (ix2 R X) x h0 h1
  · exact masked_piece 0 1 _ _ _ _ _ _ _ _ (ix2 R X) x (h0.trans (Nat.zero_add _).symm) h1
  · exact masked_piece 3 0 _ _ _ _ _ _ _ _ (ix2 R X) x h0 (h1.trans (Nat.zero_add _).symm)
  · exact masked_piece 2 0 _ _ _ _ _ _ _ _ (ix2 R X) x h0 (h1.trans (Nat.zero_add _).symm)
  · exact masked_piece 1 0 _ _ _ _ _ _ _ _ (ix2 R X) x h0 (h1.trans (Nat.zero_add _).symm)
  · exact masked_piece 0 0 _ _ _ _ _ _ _ _ (ix2 R X) x (h0.trans (Nat.zero_add _).symm) (h1.trans (Nat.zero_add _).symm)

end Attn
end
-- ==== Proof.Blocks.lean ====
module
public import proofs.«01_k».proof.Proof.Point

/-! Which part of the arguments a grid point's blocks hold. -/

@[expose] public section
set_option maxRecDepth 16384
noncomputable section

namespace Attn
open Idealize.ShloMosaic Idealize.ShloMosaic.TcCoe Cert.KernelIdeal Cert.KernelIdeal.Gen

variable (m : (ℓ : Loc nD τ sig) → Buf (Elt Ideal) ℓ) (c : Dev nD)

/-- The inputs of the attention: queries, keys and values side by side, one row per token. -/
abbrev U : FVec Ideal S65536x2816 .bf16 := m ((c : Thread nD τ).loc main_arg0)

/-- The block indices of the windows at each point. -/
theorem idx : ∀ t : Fin cfg0.N, win0_0.index t = ![t.val, 0] ∧ win0_2.index t = ![t.val, 1] ∧ win0_4.index t = ![t.val, 2] ∧
    (t.val % 16 = 0 → win0_1.index t = ![t.val, 1] ∧ win0_3.index t = ![t.val, 2]) ∧ win0_5.index t = ![0, 0, 0] :=
  (by decide +kernel : ∀ t : Fin grid0.N, _)

theorem rows_lt (t : Fin cfg0.N) : t.val < 128 := lt_of_lt_of_eq t.isLt N_0

/-- The queries of a point. -/
theorem X0_apply (t : Fin cfg0.N) (r x : Fin 512) :
    X0_0 m c t (ix2 r x) = U m c (ix2 ⟨512 * t.val + r.val, by have := rows_lt t; omega⟩ ⟨x.val, by omega⟩) := by
  unfold X0_0 Pipeline.Window.fill
  rw [dif_pos (moved0_0 t _)]
  have e := (idx t).1
  blk_ext [iblk, V, e]

/-- The keys before a batch row, as its first point is given them: the point's own. -/
theorem X1_apply (t : Fin cfg0.N) (h : t.val % 16 = 0) (r x : Fin 512) :
    X0_1 m c t (ix2 r x) = U m c (ix2 ⟨512 * t.val + r.val, by have := rows_lt t; omega⟩ ⟨512 + x.val, by omega⟩) := by
  unfold X0_1 Pipeline.Window.fill
  rw [dif_pos (moved0_1 t _)]
  have e := ((idx t).2.2.2.1 h).1
  blk_ext [iblk, V, e]

/-- The keys of a point. -/
theorem X2_apply (t : Fin cfg0.N) (r x : Fin 512) :
    X0_2 m c t (ix2 r x) = U m c (ix2 ⟨512 * t.val + r.val, by have := rows_lt t; omega⟩ ⟨512 + x.val, by omega⟩) := by
  unfold X0_2 Pipeline.Window.fill
  rw [dif_pos (moved0_2 t _)]
  have e := (idx t).2.1
  blk_ext [iblk, V, e]

/-- The values before a batch row, as its first point is given them: the point's own. -/
theorem X3_apply (t : Fin cfg0.N) (h : t.val % 16 = 0) (r x : Fin 512) :
    X0_3 m c t (ix2 r x) = U m c (ix2 ⟨512 * t.val + r.val, by have := rows_lt t; omega⟩ ⟨1024 + x.val, by omega⟩) := by
  unfold X0_3 Pipeline.Window.fill
  rw [dif_pos (moved0_3 t _)]
  have e := ((idx t).2.2.2.1 h).2
  blk_ext [iblk, V, e]

/-- The values of a point. -/
theorem X4_apply (t : Fin cfg0.N) (r x : Fin 512) :
    X0_4 m c t (ix2 r x) = U m c (ix2 ⟨512 * t.val + r.val, by have := rows_lt t; omega⟩ ⟨1024 + x.val, by omega⟩) := by
  unfold X0_4 Pipeline.Window.fill
  rw [dif_pos (moved0_4 t _)]
  have e := (idx t).2.2.1
  blk_ext [iblk, V, e]

/-- The bias table, whole at every point. -/
theorem X5_apply (t : Fin cfg0.N) (p : Fin 4) (n : Fin 640) (r : Fin 256) : iblk m c 5 t (ix3 p n r) = V m c main_v40 (ix3 p n r) := by
  have e := (idx t).2.2.2.2
  blk_ext [iblk, e]

/-- The carried keys at an index. -/
theorem keysOf_apply (lo hi : FVec Ideal S512x512 .bf16) (n : Fin 1024) (x : Fin 512) :
    keysOf lo hi (ix2 n x) = if h : n.val < 512 then lo (ix2 ⟨n.val, h⟩ x) else hi (ix2 ⟨n.val - 512, by omega⟩ x) := by
  unfold keysOf
  canon_tiles y h
  · rw [dif_neg (by simp only [ix2] at h0; simp at h0; omega)]
    refine congrArg hi (funext fun b => ?_)
    fin_cases b <;> refine Fin.ext ?_ <;> simp [ix2] at h0 h1 ⊢ <;> omega
  · rw [dif_pos (by simp only [ix2] at h0; simp at h0; omega)]
    refine congrArg lo (funext fun b => ?_)
    fin_cases b <;> refine Fin.ext ?_ <;> simp [ix2] at h0 h1 ⊢ <;> omega

/-- The carried values at an index. -/
theorem valsOf_apply (lo hi : FVec Ideal S512x512 .bf16) (x : Fin 512) (n : Fin 1024) :
    valsOf lo hi (ix2 x n) = if h : n.val < 512 then lo (ix2 x ⟨n.val, h⟩) else hi (ix2 x ⟨n.val - 512, by omega⟩) := by
  unfold valsOf
  canon_tiles y h
  · rw [dif_neg (by simp only [ix2] at h1; simp at h1; omega)]
    refine congrArg hi (funext fun b => ?_)
    fin_cases b <;> refine Fin.ext ?_ <;> simp [ix2] at h0 h1 ⊢ <;> omega
  · rw [dif_pos (by simp only [ix2] at h1; simp at h1; omega)]
    refine congrArg lo (funext fun b => ?_)
    fin_cases b <;> refine Fin.ext ?_ <;> simp [ix2] at h0 h1 ⊢ <;> omega

theorem pay1_apply (x : FVec Ideal S512x512 .bf16) (i j : Fin 512) : k0_pay1 x (ix2 i j) = x (ix2 i j) := by pointwise [k0_pay1]
theorem pay2_apply (x : FVec Ideal S512x512 .bf16) (i j : Fin 512) : k0_pay2 x (ix2 i j) = x (ix2 j i) := by pointwise [k0_pay2]
theorem pay3_apply (x : FVec Ideal S512x512 .bf16) (i j : Fin 512) : k0_pay3 x (ix2 i j) = x (ix2 i j) := by pointwise [k0_pay3]
theorem pay4_apply (x : FVec Ideal S512x512 .bf16) (i j : Fin 512) : k0_pay4 x (ix2 i j) = x (ix2 i j) := by pointwise [k0_pay4]
theorem pay5_apply (x : FVec Ideal S512x512 .bf16) (i j : Fin 512) : k0_pay5 x (ix2 i j) = x (ix2 i j) := by pointwise [k0_pay5]
theorem pay6_apply (x : FVec Ideal S512x512 .bf16) (i j : Fin 512) : k0_pay6 x (ix2 i j) = x (ix2 j i) := by pointwise [k0_pay6]

/-- The token that row `n` of the carried keys and values holds after point `t`: the point's own block in the last 512 rows, the block
before it in the first (at the first point of a batch row, which has none, its own again). -/
def tok (t : Fin cfg0.N) (n : Fin 1024) : Fin 65536 :=
  ⟨if n.val < 512 then (if t.val % 16 = 0 then 512 * t.val + n.val else 512 * (t.val - 1) + n.val) else 512 * t.val + (n.val - 512), by
    have := rows_lt t; have := n.isLt; split_ifs <;> omega⟩

/-- The first rows hold what the last rows held a point earlier. -/
theorem tok_prev (t : Fin cfg0.N) (n : Fin 1024) (hn : n.val < 512) (h : ¬ t.val % 16 = 0) :
    tok t n = tok ⟨t.val - 1, by have := t.isLt; omega⟩ ⟨n.val + 512, by omega⟩ := by
  refine Fin.ext ?_
  unfold tok
  simp only
  rw [if_pos hn, if_neg h, if_neg (by omega)]
  omega

/-- The last 512 keys after a point are its own. -/
theorem keys_hi (t : Fin cfg0.N) (n : Fin 1024) (hn : ¬ n.val < 512) (x : Fin 512) :
    (outsAt0 m c t.val t.isLt).2.1 (ix2 n x) = U m c (ix2 (tok t n) ⟨512 + x.val, by omega⟩) := by
  have ht : tok t n = ⟨512 * t.val + (n.val - 512), by have := rows_lt t; omega⟩ := Fin.ext (if_neg hn)
  rw [ht]
  by_cases h : t.val % 16 = 0
  · rw [outsAt0_A m c t h (by omega) h (by omega)]
    dsimp only
    rw [keys_A, keysOf_apply, dif_neg hn, pay5_apply]
    exact X2_apply m c t _ x
  · rw [outsAt0_B m c t h (by omega) h (by omega)]
    dsimp only
    rw [keys_B, keysOf_apply, dif_neg hn, pay5_apply]
    exact X2_apply m c t _ x

/-- The keys carried after a point. -/
theorem keys_at (t : Fin cfg0.N) (n : Fin 1024) (x : Fin 512) :
    (outsAt0 m c t.val t.isLt).2.1 (ix2 n x) = U m c (ix2 (tok t n) ⟨512 + x.val, by omega⟩) := by
  by_cases hn : n.val < 512
  · by_cases h : t.val % 16 = 0
    · have ht : tok t n = ⟨512 * t.val + n.val, by have := rows_lt t; omega⟩ := Fin.ext ((if_pos hn).trans (if_pos h))
      rw [ht, outsAt0_A m c t h (by omega) h (by omega)]
      dsimp only
      rw [keys_A, keysOf_apply, dif_pos hn, pay1_apply]
      exact X1_apply m c t h _ x
    · have ht : tok t n = tok ⟨t.val - 1, by have := t.isLt; omega⟩ ⟨n.val + 512, by omega⟩ :=
        tok_prev t n hn h
      rw [ht, ← keys_hi m c ⟨t.val - 1, by have := t.isLt; omega⟩ ⟨n.val + 512, by omega⟩ (by simp) x, outsAt0_B m c t h (by omega) h (by omega)]
      dsimp only
      rw [keys_B, keysOf_apply, dif_pos hn, pay3_apply, View.ld_apply]
      refine congrArg _ (funext fun b => ?_)
      fin_cases b <;> refine Fin.ext ?_ <;> rw [Rect.idx_unit_val] <;> simp [ix2] <;> omega
  · exact keys_hi m c t n hn x

/-- The last 512 values after a point are its own. -/
theorem vals_hi (t : Fin cfg0.N) (n : Fin 1024) (hn : ¬ n.val < 512) (x : Fin 512) :
    (outsAt0 m c t.val t.isLt).2.2 (ix2 x n) = U m c (ix2 (tok t n) ⟨1024 + x.val, by omega⟩) := by
  have ht : tok t n = ⟨512 * t.val + (n.val - 512), by have := rows_lt t; omega⟩ := Fin.ext (if_neg hn)
  rw [ht]
  by_cases h : t.val % 16 = 0
  · rw [outsAt0_A m c t h (by omega) h (by omega)]
    dsimp only
    rw [vals_A, valsOf_apply, dif_neg hn, pay6_apply]
    exact X4_apply m c t _ x
  · rw [outsAt0_B m c t h (by omega) h (by omega)]
    dsimp only
    rw [vals_B, valsOf_apply, dif_neg hn, pay6_apply]
    exact X4_apply m c t _ x

/-- The values carried after a point. -/
theorem vals_at (t : Fin cfg0.N) (n : Fin 1024) (x : Fin 512) :
    (outsAt0 m c t.val t.isLt).2.2 (ix2 x n) = U m c (ix2 (tok t n) ⟨1024 + x.val, by omega⟩) := by
  by_cases hn : n.val < 512
  · by_cases h : t.val % 16 = 0
    · have ht : tok t n = ⟨512 * t.val + n.val, by have := rows_lt t; omega⟩ := Fin.ext ((if_pos hn).trans (if_pos h))
      rw [ht, outsAt0_A m c t h (by omega) h (by omega)]
      dsimp only
      rw [vals_A, valsOf_apply, dif_pos hn, pay2_apply]
      exact X3_apply m c t h _ x
    · have ht : tok t n = tok ⟨t.val - 1, by have := t.isLt; omega⟩ ⟨n.val + 512, by omega⟩ :=
        tok_prev t n hn h
      rw [ht, ← vals_hi m c ⟨t.val - 1, by have := t.isLt; omega⟩ ⟨n.val + 512, by omega⟩ (by simp) x, outsAt0_B m c t h (by omega) h (by omega)]
      dsimp only
      rw [vals_B, valsOf_apply, dif_pos hn, pay4_apply, View.ld_apply]
      refine congrArg _ (funext fun b => ?_)
      fin_cases b <;> refine Fin.ext ?_ <;> rw [Rect.idx_unit_val] <;> simp [ix2] <;> omega
  · exact vals_hi m c t n hn x

/-- What a point stores, over the keys and values it leaves. -/
theorem out_at (t : Fin cfg0.N) (R X : Fin 512) :
    (outsAt0 m c t.val t.isLt).1 (ix2 R X) =
      pointAt (t.val % 16 = 0) (outsAt0 m c t.val t.isLt).2.1 (outsAt0 m c t.val t.isLt).2.2 (X0_0 m c t) (iblk m c 5 t) R X := by
  by_cases h : t.val % 16 = 0
  · rw [outsAt0_A m c t h (by omega) h (by omega)]
    dsimp only
    rw [out_A]
    simp only [pointAt, h]
  · rw [outsAt0_B m c t h (by omega) h (by omega)]
    dsimp only
    rw [out_B]
    simp only [pointAt, h]

end Attn
end
-- ==== Proof.Bias.lean ====
module
public import proofs.«01_k».proof.Proof.Blocks
public import Idealize.ShloMosaic.Lib.Claim
public import Idealize.ShloMosaic.Lib.StableHlo.ReadAt
public import Idealize.ShloMosaic.Lib.Routing.Words
public import Idealize.ShloMosaic.Lib.WordCmp

/-! The bias table that the host hands to the kernel. -/

@[expose] public section
set_option maxRecDepth 16384
noncomputable section

namespace Attn
open Idealize.ShloMosaic Idealize.ShloMosaic.TcCoe Cert.KernelIdeal Cert.KernelIdeal.Gen

variable (m : (ℓ : Loc nD τ sig) → Buf (Elt Ideal) ℓ) (c : Dev nD)

/-- The bias of each head by clipped distance. -/
abbrev W : FVec Ideal S8x257 .f32 := m ((c : Thread nD τ).loc main_arg1)

/-- Rounding down to a multiple of 64, as the host computes it for the numbers below 128. -/
theorem floor64 (j : Fin 128) :
    IntOp.muli
      (Scalar.select
        (IntOp.andi
          (IntOp.cmpi CmpIPredicate.ne
            (if BitVec.ofNat 32 j.val = 0 then 0 else if (BitVec.ofNat 32 j.val).msb = true then -1 else 1)
            (if (64#32 : BitVec 32) = 0 then 0 else if BitVec.msb 64#32 = true then -1 else 1 : BitVec 32))
          (IntOp.cmpi CmpIPredicate.ne (IntOp.remsi ArithUnit.host (BitVec.ofNat 32 j.val) 64#32) 0#32))
        (IntOp.subi (IntOp.divsi ArithUnit.host (BitVec.ofNat 32 j.val) 64#32) 1#32)
        (IntOp.divsi ArithUnit.host (BitVec.ofNat 32 j.val) 64#32)) 64#32 = BitVec.ofNat 32 (64 * (j.val / 64)) := by
  rw [Routing.divsi_word .host (by omega) (by decide) (by decide), Routing.remsi_word .host (by omega) (by decide) (by decide)]
  revert j
  decide +kernel

/-- The bias by distance from the far end of the window: its first entry 512 times, then the row of the argument. -/
def lineOf (w : FVec Ideal S8x257 .f32) : FVec Ideal S8x768 .f32 :=
  concatenate S8x768 1 [⟨S8x512, broadcastInDim S8x512 ![0, 1] bcast_S8x1_S8x512_0_1 (extractStridedSlice S8x1 ![0, 0] w slices_S8x257_S8x1_0_0)⟩,
    ⟨S8x256, extractStridedSlice S8x256 ![0, 0] w slices_S8x257_S8x256_0_0⟩] concatenates_S8x512_S8x256_S8x768_d1

/-- The rows of the line, each shifted by one against the row before. -/
def shifted (l : FVec Ideal S8x768 .f32) : FVec Ideal S8x640x128 .f32 :=
  transpose S8x640x128 [0, 2, 1] (Host.reverse [1] (extractStridedSlice S8x128x640 ![0, 0, 1]
    (extractStridedSlice S8x128x641 ![0, 0, 0]
      (shapeCast S8x128x769 (extractStridedSlice S8x98432 ![0, 0]
        (shapeCast S8x99072 (broadcastInDim S1x8x129x768 ![0, 1, 2, 3] bcast_S1x8x1x768_S1x8x129x768_0_1_2_3
          (shapeCast S1x8x1x768 l shapeCasts_S8x768_S1x8x1x768)) shapeCasts_S1x8x129x768_S8x99072) slices_S8x99072_S8x98432_0_0)
        shapeCasts_S8x98432_S8x128x769) slices_S8x128x769_S8x128x641_0_0_0) slices_S8x128x641_S8x128x640_0_0_1))
    transposes_S8x128x640_S8x640x128_0_2_1

/-- Each row number, rounded down to a multiple of 64. -/
def startOf : IVec S1x128 32 :=
  muli (select (andi (cmpi .ne (signi (broadcastInDim S1x128 ![1] bcast_S128_S1x128_1 (iotaInDim S128 32 0)))
        (broadcastInDim S1x128 ![] bcast_S_S1x128 (signi (constantI S_ 32 64#32))))
      (cmpi .ne (Host.remsi (broadcastInDim S1x128 ![1] bcast_S128_S1x128_1 (iotaInDim S128 32 0))
        (broadcastInDim S1x128 ![] bcast_S_S1x128 (constantI S_ 32 64#32))) (broadcastInDim S1x128 ![] bcast_S_S1x128 (constantI S_ 32 0#32))))
    (subi (Host.divsi (broadcastInDim S1x128 ![1] bcast_S128_S1x128_1 (iotaInDim S128 32 0))
        (broadcastInDim S1x128 ![] bcast_S_S1x128 (constantI S_ 32 64#32))) (broadcastInDim S1x128 ![] bcast_S_S1x128 (constantI S_ 32 1#32)))
    (Host.divsi (broadcastInDim S1x128 ![1] bcast_S128_S1x128_1 (iotaInDim S128 32 0))
        (broadcastInDim S1x128 ![] bcast_S_S1x128 (constantI S_ 32 64#32))))
    (broadcastInDim S1x128 ![] bcast_S_S1x128 (constantI S_ 32 64#32))

/-- The keys that each query may see. -/
def seen (s : IVec S1x128 32) : IVec S8x640x128 1 :=
  broadcastInDim S8x640x128 ![0, 1, 2] bcast_S1x640x128_S8x640x128_0_1_2 (broadcastInDim S1x640x128 ![1, 2] bcast_S640x128_S1x640x128_1_2
    (andi (cmpi .sge (broadcastInDim S640x128 ![0, 1] bcast_S640x1_S640x128_0_1 (broadcastInDim S640x1 ![0] bcast_S640_S640x1_0 (iotaInDim S640 32 0)))
        (broadcastInDim S640x128 ![0, 1] bcast_S1x128_S640x128_0_1 s))
      (cmpi .slt (broadcastInDim S640x128 ![0, 1] bcast_S640x1_S640x128_0_1 (broadcastInDim S640x1 ![0] bcast_S640_S640x1_0 (iotaInDim S640 32 0)))
        (broadcastInDim S640x128 ![0, 1] bcast_S1x128_S640x128_0_1
          (addi (addi s (broadcastInDim S1x128 ![] bcast_S_S1x128 (constantI S_ 32 512#32))) (broadcastInDim S1x128 ![] bcast_S_S1x128 (constantI S_ 32 64#32)))))))

/-- One over the logarithm of two. -/
def unit2 : FVec Ideal S_ .f32 := Host.divf (constant S_ .f32 0x3F800000#32) (Host.log (constant S_ .f32 0x40000000#32))

/-- The heads in pairs, side by side. -/
def paired (a : FVec Ideal S8x640x128 .f32) : FVec Ideal S4x640x256 .f32 :=
  shapeCast S4x640x256 (transpose S4x640x2x128 [0, 2, 1, 3] (shapeCast S4x2x640x128 a shapeCasts_S8x640x128_S4x2x640x128)
    transposes_S4x2x640x128_S4x640x2x128_0_2_1_3) shapeCasts_S4x640x2x128_S4x640x256

/-- The table. -/
def table (w : FVec Ideal S8x257 .f32) : FVec Ideal S4x640x256 .f32 :=
  paired (select (seen startOf) (mulf (shifted (lineOf w)) (broadcastInDim S8x640x128 ![] bcast_S_S8x640x128 unit2))
    (broadcastInDim S8x640x128 ![] bcast_S_S8x640x128 (constant S_ .f32 0xFF800000#32)))

/-- What the host hands to the kernel is the table of its argument. -/
theorem V_table : (V m c main_v40 : FVec Ideal S4x640x256 .f32) = table (W m c) := by
  simp only [V, hostOps0, hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq]
  rfl

/-- The line at a place. -/
theorem lineOf_apply (w : FVec Ideal S8x257 .f32) (h : Fin 8) (k : Fin 768) :
    lineOf w (ix2 h k) = w (ix2 h ⟨if k.val < 512 then 0 else k.val - 512, by have := k.isLt; split <;> omega⟩) := by
  unfold lineOf
  pointwise
  by_cases hk : k.val < 512
  · rw [dif_pos hk]
    congr 2
    exact Fin.ext (if_pos hk).symm
  · rw [dif_neg hk]
    congr 2
    exact Fin.ext (if_neg hk).symm

/-- The shifted rows at a place. -/
theorem shifted_apply (l : FVec Ideal S8x768 .f32) (h : Fin 8) (n : Fin 640) (q : Fin 128) :
    shifted l (ix3 h n q) = l (ix2 h ⟨128 - q.val + n.val, by omega⟩) := by
  unfold shifted
  pointwise
  have key : ∀ (h' : Fin 8) (k' : Fin 768), h' = h → k'.val = 128 - q.val + n.val → l (ix2 h' k') = l (ix2 h ⟨128 - q.val + n.val, by omega⟩) := by
    rintro _ k' rfl e
    congr 2
    exact Fin.ext e
  refine key _ _ (if_neg (by decide)) ?_
  show ((if (1 : Fin 3) ∈ [(1 : Fin 3)] then q.rev else q : Fin 128).val * 769 + (1 + (if (2 : Fin 3) ∈ [(1 : Fin 3)] then n.rev else n : Fin 640).val)) % 768 = _
  rw [if_pos (by decide), if_neg (by decide)]
  simp only [Fin.val_rev]
  omega

/-- The start of a query's block. -/
theorem startOf_apply (j : Fin 128) : startOf (ix2 0 j) = BitVec.ofNat 32 (64 * (j.val / 64)) := by
  unfold startOf
  pointwise
  exact floor64 j

/-- The keys seen, as numbers. -/
theorem seen_apply (s : IVec S1x128 32) (h : Fin 8) (n : Fin 640) (j : Fin 128) {a : Nat} (ha : a < 1000)
    (hs : s (ix2 0 j) = BitVec.ofNat 32 a) :
    seen s (ix3 h n j) = BitVec.ofBool (decide (a ≤ n.val ∧ n.val < a + 576)) := by
  have hn : n.val < 2 ^ 31 := by omega
  unfold seen
  pointwise
  rw [hs]
  have e : IntOp.addi (IntOp.addi (BitVec.ofNat 32 a) 512#32) 64#32 = BitVec.ofNat 32 (a + 576) := by
    apply BitVec.eq_of_toNat_eq
    simp only [IntOp.addi, BitVec.toNat_add, BitVec.toNat_ofNat]
    omega
  rw [e, WordCmp.cmpi_slt_ofNat (w := 32) (b := a + 576) (by omega) (by omega), WordCmp.cmpi_sge_ofNat (w := 32) (by omega) (by omega)]
  by_cases h1 : a ≤ n.val <;> by_cases h2 : n.val < a + 576 <;> simp [h1, h2, IntOp.andi]

/-- The unit as a number. -/
theorem unit2_apply : unit2 ix0 = ((1 / Real.log 2 : ℝ) : EReal) := by
  have h2 : Ideal.ofBits .f32 1073741824#32 = ((2 : ℝ) : EReal) := by
    simp [Ideal.ofBits, Ideal.ieee]
    rw [← EReal.coe_mul]
    norm_num
  unfold unit2
  pointwise
  rw [h2, Ideal.log_coe, if_neg (by norm_num), Ideal.div_coe (Real.log_pos (by norm_num)).ne', one_mul]

/-- The paired heads at a place. -/
theorem paired_apply (a : FVec Ideal S8x640x128 .f32) (p : Fin 4) (n : Fin 640) (r : Fin 256) :
    paired a (ix3 p n r) = a (ix3 ⟨2 * p.val + r.val / 128, by omega⟩ n ⟨r.val % 128, by omega⟩) := by
  unfold paired
  pointwise
  congr 2
  exact Fin.ext (by simp only; omega)

/-- The table at a place: the bias over the logarithm of two where the key is seen, `⊥` elsewhere. -/
theorem table_apply (w : FVec Ideal S8x257 .f32) (p : Fin 4) (n : Fin 640) (r : Fin 256) :
    table w (ix3 p n r) = if 64 * (r.val % 128 / 64) ≤ n.val ∧ n.val < 64 * (r.val % 128 / 64) + 576 then
      w (ix2 ⟨2 * p.val + r.val / 128, by omega⟩ ⟨if 128 - r.val % 128 + n.val < 512 then 0 else 128 - r.val % 128 + n.val - 512, by
        have := n.isLt; split <;> omega⟩) * ((1 / Real.log 2 : ℝ) : EReal) else ⊥ := by
  unfold table
  rw [paired_apply]
  pointwise
  rw [seen_apply startOf _ n ⟨r.val % 128, by omega⟩ (a := 64 * (r.val % 128 / 64)) (by omega) (startOf_apply _), word_bot, unit2_apply,
    shifted_apply, lineOf_apply]
  exact select_decide _ _ _

end Attn
end
-- ==== Proof.Reference.lean ====
module
public import proofs.«01_k».proof.Proof.Gen.ReferenceIdeal.Read
public import proofs.«01_k».proof.Proof.Softmax
public import Idealize.ShloMosaic.Lib.Pointwise
public import Idealize.ShloMosaic.Lib.WordCmp

/-! The reference at an index. -/

@[expose] public section
set_option maxRecDepth 16384
noncomputable section

namespace Attn.Ref
open Idealize.ShloMosaic Idealize.ShloMosaic.TcCoe Cert.ReferenceIdeal Cert.ReferenceIdeal.Gen Cert.ReferenceIdeal.Read

variable (u : FVec Ideal S65536x2816 .bf16) (w : FVec Ideal S8x257 .f32)

/-- A choice by a decided condition. -/
theorem select_decide {α : Type} (p : Prop) [Decidable p] (a b : α) : Scalar.select (BitVec.ofBool (decide p)) a b = if p then a else b := by
  by_cases h : p <;> simp [h, Scalar.select]

/-- The word of `-inf` is `⊥`. -/
theorem word_bot : Ideal.ofBits .f32 0xFF800000#32 = ⊥ := by
  simp [Ideal.ofBits, Ideal.ieee]

/-- The word of two. -/
theorem word_2 : Ideal.ofBits .f32 1073741824#32 = ((2 : ℝ) : EReal) := by
  simp [Ideal.ofBits, Ideal.ieee]
  rw [← EReal.coe_mul]
  norm_num

/-- The word of eight. -/
theorem word_8 : Ideal.ofBits .f32 1090519040#32 = ((8 : ℝ) : EReal) := by
  simp [Ideal.ofBits, Ideal.ieee]
  rw [← EReal.coe_mul]
  norm_num

/-- The word of one eighth. -/
theorem word_eighth : Ideal.ofBits .f32 1040187392#32 = ((1 / 8 : ℝ) : EReal) := by
  simp [Ideal.ofBits, Ideal.ieee]
  rw [← EReal.coe_mul]
  norm_num

/-- The number of a key's row among the padded rows. -/
theorem band_apply (c : Fin 128) (k : Fin 576) : val_main_v23 (F := Ideal) (ix2 c k) = BitVec.ofNat 32 (64 * c.val + k.val) := by
  pointwise [val_main_v23, val_main_v21, val_main_v22, val_main_v18, val_main_v20, val_main_v17, val_main_v16, val_main_v15, val_main_v19, val_main_c]
  apply BitVec.eq_of_toNat_eq
  simp only [IntOp.addi, IntOp.muli, BitVec.toNat_add, BitVec.toNat_mul, BitVec.toNat_ofNat]
  omega

/-- A padded key. -/
theorem key_apply (b : Fin 8) (k : Fin 8704) (h : Fin 8) (d : Fin 64) : val_main_v13 (F := Ideal) u (ix4 b k h d) =
    if hk : k.val < 512 then 0 else u (ix2 ⟨8192 * b.val + (k.val - 512), by omega⟩ ⟨512 + (64 * h.val + d.val), by omega⟩) := by
  pointwise [val_main_v13, val_main_v12, val_main_v9, val_main_v8, val_main_v0, val_main_cst_1]
  by_cases hk : k.val < 512
  · rw [dif_pos hk, dif_pos hk]
  · rw [dif_neg hk, dif_neg hk]
    congr 2
    · exact Fin.ext (by simp only; omega)
    · exact Fin.ext (by simp only; omega)

/-- A padded value. -/
theorem val_apply (b : Fin 8) (k : Fin 8704) (h : Fin 8) (d : Fin 64) : val_main_v14 (F := Ideal) u (ix4 b k h d) =
    if hk : k.val < 512 then 0 else u (ix2 ⟨8192 * b.val + (k.val - 512), by omega⟩ ⟨1024 + (64 * h.val + d.val), by omega⟩) := by
  pointwise [val_main_v14, val_main_v12, val_main_v11, val_main_v10, val_main_v0, val_main_cst_1]
  by_cases hk : k.val < 512
  · rw [dif_pos hk, dif_pos hk]
  · rw [dif_neg hk, dif_neg hk]
    congr 2
    · exact Fin.ext (by simp only; omega)
    · exact Fin.ext (by simp only; omega)

/-- A query. -/
theorem query_apply (b : Fin 8) (c : Fin 128) (q : Fin 64) (h : Fin 8) (d : Fin 64) : val_main_v7 (F := Ideal) u (ix5 b c q h d) =
    u (ix2 ⟨8192 * b.val + 64 * c.val + q.val, by omega⟩ ⟨64 * h.val + d.val, by omega⟩) * ((8 * Real.log 2 : ℝ) : EReal) := by
  pointwise [val_main_v7, val_main_v6, val_main_v5, val_main_v4, val_main_v3, val_main_v2, val_main_v1, val_main_v0, val_main_cst, val_main_cst_0]
  have e : ((id (mulf (constant (F := Ideal) S_ FTy.f32 1090519040#32) (Host.log (constant (F := Ideal) S_ FTy.f32 1073741824#32))) : FVec Ideal S_ .f32) ix0 : EReal) = ((8 * Real.log 2 : ℝ) : EReal) := by
    show Ideal.ofBits .f32 1090519040#32 * Ideal.log (Ideal.ofBits .f32 1073741824#32) = _
    rw [word_8, word_2, Ideal.log_coe, if_neg (by norm_num), EReal.coe_mul]
  rw [e]
  congr 3
  · exact Fin.ext (by simp only; omega)
  · exact Fin.ext (by simp only; omega)

/-- Where the key rows are read. -/
theorem at30 (c : Fin 128) (k : Fin 576) : val_main_v29 (F := Ideal) (ix3 c k 0) = BitVec.ofNat 32 (64 * c.val + k.val) := by
  pointwise [val_main_v29, val_main_v28, val_main_v25, val_main_v27, val_main_v24, val_main_v26, val_main_c_2, val_main_c_3]
  rw [band_apply]
  rw [WordCmp.cmpi_slt_ofNat (w := 32) (b := 0) (by omega) (by omega)]
  simp [Scalar.select]

/-- Where the value rows are read. -/
theorem at37 (c : Fin 128) (k : Fin 576) : val_main_v36 (F := Ideal) (ix3 c k 0) = BitVec.ofNat 32 (64 * c.val + k.val) := by
  pointwise [val_main_v36, val_main_v35, val_main_v32, val_main_v34, val_main_v31, val_main_v33, val_main_c_4, val_main_c_5]
  rw [band_apply]
  rw [WordCmp.cmpi_slt_ofNat (w := 32) (b := 0) (by omega) (by omega)]
  simp [Scalar.select]

/-- The clipped distance as the reference computes it. -/
theorem clip_word (t : Fin 640) :
    Scalar.select
      (IntOp.cmpi CmpIPredicate.slt
        (IntOp.addi (IntOp.minsi 128#32 (IntOp.maxsi 4294967168#32 (BitVec.ofNat 32 t.val - 575#32))) 128#32) 0#32)
      (IntOp.addi (IntOp.addi (IntOp.minsi 128#32 (IntOp.maxsi 4294967168#32 (BitVec.ofNat 32 t.val - 575#32))) 128#32) 257#32)
      (IntOp.addi (IntOp.minsi 128#32 (IntOp.maxsi 4294967168#32 (BitVec.ofNat 32 t.val - 575#32))) 128#32) =
    BitVec.ofNat 32 (if t.val < 447 then 0 else t.val - 447) := by
  revert t
  decide +kernel

/-- Where the bias is read. -/
theorem at56 (q : Fin 64) (k : Fin 576) : val_main_v55 (F := Ideal) (ix3 q k 0) = BitVec.ofNat 32 (if k.val < q.val + 384 then 0 else k.val - q.val - 384) := by
  pointwise [val_main_v55, val_main_v54, val_main_v51, val_main_v53, val_main_v49, val_main_v50, val_main_v52, val_main_v47, val_main_v48, val_main_call0_v4, val_main_call0_v2, val_main_call0_v3, val_main_call0_v1, val_main_call0_v0, val_main_v46, val_main_v45, val_main_v44, val_main_v43, val_main_v42, val_main_v41, val_main_v40, val_main_v39, val_main_v38, val_main_c_6, val_main_c_7, val_main_c_8, val_main_c_9, val_main_c_10, val_main_c_11]
  have e : (IntOp.subi (IntOp.subi (BitVec.ofNat 32 k.val) 512#32) (BitVec.ofNat 32 q.val) : BitVec 32) = BitVec.ofNat 32 (k.val + 63 - q.val) - 575#32 := by
    apply BitVec.eq_of_toNat_eq
    simp only [IntOp.subi, BitVec.toNat_sub, BitVec.toNat_ofNat]
    omega
  rw [e]
  refine (clip_word ⟨k.val + 63 - q.val, by omega⟩).trans (congrArg (BitVec.ofNat 32) ?_)
  simp only
  split <;> split <;> omega

/-- A read of rows at given places. -/
theorem rows_apply (x : FVec Ideal S8x8704x8x64 .f32) (i : IVec S128x576x1 32) (b : Fin 8) (c : Fin 128) (k : Fin 576) (h : Fin 8) (d : Fin 64)
    {a : Nat} (ha : a < 8704) (hi : i (ix3 c k 0) = BitVec.ofNat 32 a) :
    Host.gather gather_S8x8704x8x64_S128x576x1_S8x128x576x8x64_034_1_n_n_1_2_81864 x i (ix5 b c k h d) = x (ix4 b ⟨a, ha⟩ h d) := by
  unfold Host.gather
  congr 1
  funext z
  refine Fin.ext ?_
  show GatherDims.start _ _ i z + GatherDims.batchCoord _ _ z + GatherDims.offCoord _ _ z = _
  have h4 : z = 0 ∨ z = 1 ∨ z = 2 ∨ z = 3 := by
    match z with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · rw [GatherDims.batchCoord_eq_zero _ _ _ List.not_mem_nil]
    unfold GatherDims.start
    rw [dif_neg (show ¬ (0 : Fin 4) ∈ gather_S8x8704x8x64_S128x576x1_S8x128x576x8x64_034_1_n_n_1_2_81864.startIndexMap by decide)]
    unfold GatherDims.offCoord
    rw [dif_pos (show (0 : Fin 4) ∈ gather_S8x8704x8x64_S128x576x1_S8x128x576x8x64_034_1_n_n_1_2_81864.sKept by decide)]
    exact (Nat.zero_add _)
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S8x8704x8x64_S128x576x1_S8x128x576x8x64_034_1_n_n_1_2_81864.startIndexMap from List.mem_singleton.mpr rfl)]
    have hsi : gather_S8x8704x8x64_S128x576x1_S8x128x576x8x64_034_1_n_n_1_2_81864.siIdx (ix5 b c k h d)
        ⟨List.idxOf (1 : Fin 4) gather_S8x8704x8x64_S128x576x1_S8x128x576x8x64_034_1_n_n_1_2_81864.startIndexMap,
          List.idxOf_lt_length_iff.2 (List.mem_singleton.mpr rfl)⟩ = ix3 c k 0 := by
      funext b; refine Fin.ext ?_
      match b with
      | ⟨0, _⟩ => rfl
      | ⟨1, _⟩ => rfl
      | ⟨2, _⟩ => rfl
    rw [hsi, hi, BitVec.toInt_eq_toNat_of_lt (by simp only [BitVec.toNat_ofNat]; omega)]
    simp only [BitVec.toNat_ofNat, Int.toNat_natCast]
    show min (a % 2 ^ 32) (8704 - 1) = a
    omega
  · rw [GatherDims.batchCoord_eq_zero _ _ _ List.not_mem_nil]
    unfold GatherDims.start
    rw [dif_neg (show ¬ (2 : Fin 4) ∈ gather_S8x8704x8x64_S128x576x1_S8x128x576x8x64_034_1_n_n_1_2_81864.startIndexMap by decide)]
    unfold GatherDims.offCoord
    rw [dif_pos (show (2 : Fin 4) ∈ gather_S8x8704x8x64_S128x576x1_S8x128x576x8x64_034_1_n_n_1_2_81864.sKept by decide)]
    exact (Nat.zero_add _)
  · rw [GatherDims.batchCoord_eq_zero _ _ _ List.not_mem_nil]
    unfold GatherDims.start
    rw [dif_neg (show ¬ (3 : Fin 4) ∈ gather_S8x8704x8x64_S128x576x1_S8x128x576x8x64_034_1_n_n_1_2_81864.startIndexMap by decide)]
    unfold GatherDims.offCoord
    rw [dif_pos (show (3 : Fin 4) ∈ gather_S8x8704x8x64_S128x576x1_S8x128x576x8x64_034_1_n_n_1_2_81864.sKept by decide)]
    exact (Nat.zero_add _)

/-- A read of the bias at given places. -/
theorem bias_apply (x : FVec Ideal S8x257 .f32) (i : IVec S64x576x1 32) (h : Fin 8) (q : Fin 64) (k : Fin 576)
    {a : Nat} (ha : a < 257) (hi : i (ix3 q k 0) = BitVec.ofNat 32 a) :
    Host.gather gather_S8x257_S64x576x1_S8x64x576_0_1_n_n_1_2_81 x i (ix3 h q k) = x (ix2 h ⟨a, ha⟩) := by
  unfold Host.gather
  congr 1
  funext z
  refine Fin.ext ?_
  show GatherDims.start _ _ i z + GatherDims.batchCoord _ _ z + GatherDims.offCoord _ _ z = _
  have h2 : z = 0 ∨ z = 1 := by
    match z with
    | ⟨0, _⟩ => exact Or.inl rfl
    | ⟨1, _⟩ => exact Or.inr rfl
  rcases h2 with rfl | rfl
  · rw [GatherDims.batchCoord_eq_zero _ _ _ List.not_mem_nil]
    unfold GatherDims.start
    rw [dif_neg (show ¬ (0 : Fin 2) ∈ gather_S8x257_S64x576x1_S8x64x576_0_1_n_n_1_2_81.startIndexMap by decide)]
    unfold GatherDims.offCoord
    rw [dif_pos (show (0 : Fin 2) ∈ gather_S8x257_S64x576x1_S8x64x576_0_1_n_n_1_2_81.sKept by decide)]
    exact (Nat.zero_add _)
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8x257_S64x576x1_S8x64x576_0_1_n_n_1_2_81.startIndexMap from List.mem_singleton.mpr rfl)]
    have hsi : gather_S8x257_S64x576x1_S8x64x576_0_1_n_n_1_2_81.siIdx (ix3 h q k)
        ⟨List.idxOf (1 : Fin 2) gather_S8x257_S64x576x1_S8x64x576_0_1_n_n_1_2_81.startIndexMap,
          List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi, hi, BitVec.toInt_eq_toNat_of_lt (by simp only [BitVec.toNat_ofNat]; omega)]
    simp only [BitVec.toNat_ofNat, Int.toNat_natCast]
    show min (a % 2 ^ 32) (257 - 1) = a
    omega

/-- The greatest score of a query. -/
theorem max_apply (b : Fin 8) (c : Fin 128) (h : Fin 8) (q : Fin 64) :
    val_main_v67 (F := Ideal) u w (ix4 b c h q) = top fun k : Fin 576 => val_main_v66 (F := Ideal) u w (ix5 b c h q k) := by
  pointwise [val_main_v67, val_main_cst_15]
  rw [word_bot]
  rfl

/-- The weight of a key for a query. -/
theorem weight_apply (b : Fin 8) (c : Fin 128) (h : Fin 8) (q : Fin 64) (k : Fin 576) :
    val_main_v73 (F := Ideal) u w (ix5 b c h q k) =
      Ideal.exp (val_main_v66 (F := Ideal) u w (ix5 b c h q k) - top fun k : Fin 576 => val_main_v66 (F := Ideal) u w (ix5 b c h q k)) := by
  have e : idx_main_v70 (idx_main_v71 (ix5 b c h q k)) = ix4 b c h q := by
    funext a
    match a with
    | ⟨0, _⟩ => rfl
    | ⟨1, _⟩ => rfl
    | ⟨2, _⟩ => rfl
    | ⟨3, _⟩ => rfl
  rw [val_main_v73_apply, val_main_v72_apply, val_main_v71_apply, val_main_v70_apply, val_main_v69_apply, val_main_v68_apply, e, max_apply]
  generalize top (fun k : Fin 576 => val_main_v66 (F := Ideal) u w (ix5 b c h q k)) = M
  generalize val_main_v66 (F := Ideal) u w (ix5 b c h q k) = x
  show Ideal.exp (x - max (Ideal.ofBits .f32 0xFF800000#32) M) = _
  rw [word_bot, max_eq_right bot_le]

/-- The sum of the weights of a query. -/
theorem total_apply (b : Fin 8) (c : Fin 128) (h : Fin 8) (q : Fin 64) :
    val_main_v74 (F := Ideal) u w (ix4 b c h q) = ∑ k : Fin 576, val_main_v73 (F := Ideal) u w (ix5 b c h q k) := by
  pointwise [val_main_v74, val_main_cst_17]

/-- A weighted sum of values. -/
theorem mix_apply (b : Fin 8) (c : Fin 128) (h : Fin 8) (d : Fin 64) (q : Fin 64) :
    val_main_v78 (F := Ideal) u w (ix5 b c h d q) = ∑ k : Fin 576, val_main_v37 (F := Ideal) u (ix5 b c k h d) *
      Ideal.div (val_main_v73 (F := Ideal) u w (ix5 b c h q k)) (val_main_v74 (F := Ideal) u w (ix4 b c h q)) := by
  pointwise [val_main_v78, val_main_v77, val_main_v76, val_main_v75]

/-- An entry of the result. -/
theorem out_apply (R : Fin 65536) (X : Fin 512) : val_main_v81 (F := Ideal) u w (ix2 R X) =
    val_main_v78 (F := Ideal) u w (ix5 ⟨R.val / 8192, by omega⟩ ⟨R.val / 64 % 128, by omega⟩ ⟨X.val / 64, by omega⟩ ⟨X.val % 64, by omega⟩ ⟨R.val % 64, by omega⟩) := by
  pointwise [val_main_v81, val_main_v80, val_main_v79]

/-- The score of the key at place `k` of the band for the query `q` of the chunk `c`, or `⊥` where that place is of the padding. -/
def sigma (b : Fin 8) (c : Fin 128) (h : Fin 8) (q : Fin 64) (k : Fin 576) : EReal :=
  if 512 ≤ 64 * c.val + k.val then
    (∑ d : Fin 64, u (ix2 ⟨8192 * b.val + 64 * c.val + q.val, by omega⟩ ⟨64 * h.val + d.val, by omega⟩) * ((8 * Real.log 2 : ℝ) : EReal)
      * u (ix2 ⟨8192 * b.val + (64 * c.val + k.val - 512), by omega⟩ ⟨512 + (64 * h.val + d.val), by omega⟩)) * ((1 / 8 : ℝ) : EReal)
    + w (ix2 h ⟨if k.val < q.val + 384 then 0 else k.val - q.val - 384, by have := k.isLt; split <;> omega⟩)
  else ⊥

/-- The value at place `k` of the band, or zero where that place is of the padding. -/
def value (b : Fin 8) (c : Fin 128) (h : Fin 8) (d : Fin 64) (k : Fin 576) : EReal :=
  if 512 ≤ 64 * c.val + k.val then u (ix2 ⟨8192 * b.val + (64 * c.val + k.val - 512), by omega⟩ ⟨1024 + (64 * h.val + d.val), by omega⟩) else 0

/-- The masked scores of the reference. -/
theorem score_apply (b : Fin 8) (c : Fin 128) (h : Fin 8) (q : Fin 64) (k : Fin 576) :
    val_main_v66 (F := Ideal) u w (ix5 b c h q k) = sigma u w b c h q k := by
  pointwise [val_main_v66, val_main_v62, val_main_v64, val_main_v65, val_main_v63, val_main_v61, val_main_v60, val_main_v59, val_main_v58, val_main_v57, val_main_call1_v1, val_main_call1_v2, val_main_call1_v0, val_main_c_13, val_main_cst_12, val_main_cst_14]
  have hb : ((id (constant (F := Ideal) S_ FTy.f32 4286578688#32) : FVec Ideal S_ .f32) ix0 : EReal) = ⊥ := word_bot
  rw [hb, band_apply, WordCmp.cmpi_sge_ofNat (w := 32) (by omega) (by omega), select_decide, sigma]
  by_cases hk : 512 ≤ 64 * c.val + k.val
  · rw [if_pos hk, if_pos hk, word_eighth]
    congr 1
    · congr 1
      refine Finset.sum_congr rfl fun d _ => ?_
      rw [query_apply, val_main_v30, rows_apply _ _ b c k h d (a := 64 * c.val + k.val) (by omega) (at30 c k), key_apply, dif_neg (by simp only; omega)]
    · rw [val_main_v56]
      exact bias_apply w _ h q k (by have := k.isLt; split <;> omega) (at56 q k)
  · rw [if_neg hk, if_neg hk]

/-- The values of the reference. -/
theorem value_apply (b : Fin 8) (c : Fin 128) (h : Fin 8) (d : Fin 64) (k : Fin 576) :
    val_main_v37 (F := Ideal) u (ix5 b c k h d) = value u b c h d k := by
  rw [val_main_v37, rows_apply _ _ b c k h d (a := 64 * c.val + k.val) (by omega) (at37 c k), val_apply, value]
  by_cases hk : 64 * c.val + k.val < 512
  · rw [dif_pos hk, if_neg (by omega)]
  · rw [dif_neg hk, if_pos (by omega)]

/-- An entry of the result, written out. -/
theorem result_apply (R : Fin 65536) (X : Fin 512) (b : Fin 8) (c : Fin 128) (h : Fin 8) (d : Fin 64) (q : Fin 64)
    (eb : b.val = R.val / 8192) (ec : c.val = R.val / 64 % 128) (eh : h.val = X.val / 64) (ed : d.val = X.val % 64) (eq : q.val = R.val % 64) :
    val_main_v81 (F := Ideal) u w (ix2 R X) = ∑ k : Fin 576, value u b c h d k *
      Ideal.div (Ideal.exp (sigma u w b c h q k - top (sigma u w b c h q)))
        (∑ k : Fin 576, Ideal.exp (sigma u w b c h q k - top (sigma u w b c h q))) := by
  obtain ⟨b, hb⟩ := b
  obtain ⟨c, hc⟩ := c
  obtain ⟨h, hh⟩ := h
  obtain ⟨d, hd⟩ := d
  obtain ⟨q, hq⟩ := q
  simp only at eb ec eh ed eq
  subst eb ec eh ed eq
  rw [out_apply, mix_apply, total_apply]
  simp only [weight_apply, score_apply, value_apply]

end Attn.Ref
end
-- ==== Proof.Equation.lean ====
module
public import proofs.«01_k».proof.Proof.Bias
public import proofs.«01_k».proof.Proof.Reference
public import proofs.«01_k».proof.Pre_finite
public import Idealize.ShloMosaic.Lib.ReduceAll

/-! An entry that the kernel stores is the reference's. -/

@[expose] public section
set_option maxRecDepth 16384
noncomputable section

namespace Attn
open Idealize.ShloMosaic Idealize.ShloMosaic.TcCoe Cert.KernelIdeal Cert.KernelIdeal.Gen

variable (m : (ℓ : Loc nD τ sig) → Buf (Elt Ideal) ℓ) (c : Dev nD)

/-- A number that is less than `⊤` in absolute value is real. -/
theorem real_of_abs (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- What the precondition says of the arguments: the queries, the keys and the bias are real. -/
theorem real_of_pre [Cert.Pre_finite.Facts] (u : FVec Ideal S65536x2816 .bf16) (w : FVec Ideal S8x257 .f32) (h : Cert.Pre_finite.fn u w = fun _ => 1#1) :
    (∀ (i : Fin 65536) (x : Fin 2816), x.val < 1024 → ∃ r : ℝ, u (ix2 i x) = r) ∧ ∀ (i : Fin 8) (x : Fin 257), ∃ r : ℝ, w (ix2 i x) = r := by
  have h0 := congrFun h ValueIdx.ix0
  unfold Cert.Pre_finite.fn at h0
  have key : ∀ c d : BitVec 1, IntOp.andi c d = 1#1 → c = 1#1 ∧ d = 1#1 := by decide
  obtain ⟨h1, h2⟩ := key _ _ h0
  constructor
  · intro i x hx
    have g := Host.reduce_andi_all _ _ _ _ _ h1 (ix2 (n1 := 1024) i ⟨x.val, hx⟩)
    have e : extractStridedSlice Cert.Pre_finite.S65536x1024 ![0, 0] u Cert.Pre_finite.Facts.slices_S65536x2816_S65536x1024_0_0 (ix2 (n1 := 1024) i ⟨x.val, hx⟩) = u (ix2 i x) := by
      pointwise
    rw [← e]
    exact real_of_abs _ g
  · intro i x
    exact real_of_abs _ (Host.reduce_andi_all _ _ _ _ _ h2 (ix2 i x))

/-- A product over the lanes of a pair of heads, of which one head counts, is the product over the lanes of that head. -/
theorem sum_lanes (f g : Fin 128 → EReal) (hh : ℕ) (hlt : hh < 2) :
    (∑ l : Fin 128, f l * (if l.val / 64 = hh then g l else 0)) = ∑ d : Fin 64, f ⟨64 * hh + d.val, by omega⟩ * g ⟨64 * hh + d.val, by omega⟩ := by
  rw [sum_window (fun d : Fin 64 => (⟨64 * hh + d.val, by omega⟩ : Fin 128)) (fun a b e => by
    have := congrArg Fin.val e
    simp only at this
    exact Fin.ext (by omega))]
  · refine Finset.sum_congr rfl fun d _ => ?_
    rw [if_pos (by simp only; omega)]
  · intro j hj
    rw [if_neg, mul_zero]
    intro e
    exact hj ⟨j.val - 64 * hh, by omega⟩ (Fin.ext (by simp only; omega))

/-- The two scores of real numbers, the kernel's in base two and the reference's, are the same but for the base. -/
theorem score_real (a b : Fin 64 → EReal) (y : EReal) (ha : ∀ d, ∃ r : ℝ, a d = r) (hb : ∀ d, ∃ r : ℝ, b d = r) (hy : ∃ r : ℝ, y = r) :
    (∃ r : ℝ, (∑ d, a d * ((8 * Real.log 2 : ℝ) : EReal) * b d) * ((1 / 8 : ℝ) : EReal) + y = r) ∧
    (∑ d, b d * a d) + y * ((1 / Real.log 2 : ℝ) : EReal) =
      ((1 / Real.log 2 : ℝ) : EReal) * ((∑ d, a d * ((8 * Real.log 2 : ℝ) : EReal) * b d) * ((1 / 8 : ℝ) : EReal) + y) := by
  choose A hA using ha
  choose B hB using hb
  obtain ⟨Y, hY⟩ := hy
  have hl : Real.log 2 ≠ 0 := (Real.log_pos (by norm_num)).ne'
  simp only [hA, hB, hY, ← EReal.coe_mul, ← coe_sum_real, ← EReal.coe_add]
  refine ⟨⟨_, rfl⟩, ?_⟩
  rw [EReal.coe_eq_coe_iff]
  have e : ∑ d, A d * (8 * Real.log 2) * B d = 8 * Real.log 2 * ∑ d, B d * A d := by
    rw [Finset.mul_sum]
    exact Finset.sum_congr rfl fun d _ => by ring
  rw [e]
  field_simp

/-- The position in the kernel's window of the key at place `k` of the reference's band. -/
def at_ (R : Fin 512) (k : Fin 576) : Fin 640 := ⟨k.val + 64 * (R.val % 128 / 64), by omega⟩

/-- No two places of the band share a position. -/
theorem at_inj (R : Fin 512) : Function.Injective (at_ R) := by
  intro a b e
  have := congrArg Fin.val e
  simp only [at_] at this
  exact Fin.ext (by omega)

/-- The row that the kernel reads for a place of the band is the reference's. -/
theorem tok_eq (t : Fin cfg0.N) (R : Fin 512) (k : Fin 576) (hk : 512 ≤ 64 * (8 * (t.val % 16) + R.val / 64) + k.val) (n : Fin 1024)
    (hn : n.val = 128 * (R.val / 128) + (at_ R k).val) :
    (tok t n).val = 8192 * (t.val / 16) + (64 * (8 * (t.val % 16) + R.val / 64) + k.val - 512) := by
  simp only [at_] at hn
  unfold tok
  simp only
  split_ifs <;> omega

/-- The kernel's score of a key of the band: the reference's, in base two. -/
theorem score_eq (t : Fin cfg0.N) (R X : Fin 512) (b : Fin 8) (ch : Fin 128) (h : Fin 8) (q : Fin 64)
    (eb : b.val = t.val / 16) (ec : ch.val = 8 * (t.val % 16) + R.val / 64) (eh : h.val = X.val / 64) (eq : q.val = R.val % 64)
    (hu : ∀ (i : Fin 65536) (x : Fin 2816), x.val < 1024 → ∃ r : ℝ, U m c (ix2 i x) = r) (hw : ∀ (i : Fin 8) (x : Fin 257), ∃ r : ℝ, W m c (ix2 i x) = r)
    (k : Fin 576) (hk : 512 ≤ 64 * ch.val + k.val) :
    (∃ r : ℝ, Ref.sigma (U m c) (W m c) b ch h q k = r) ∧
    scoreAt (outsAt0 m c t.val t.isLt).2.1 (X0_0 m c t) (iblk m c 5 t) R X (at_ R k) =
      ((1 / Real.log 2 : ℝ) : EReal) * Ref.sigma (U m c) (W m c) b ch h q k := by
  have hN := rows_lt t
  have hs := score_real (fun d => U m c (ix2 ⟨8192 * b.val + 64 * ch.val + q.val, by omega⟩ ⟨64 * h.val + d.val, by omega⟩))
    (fun d => U m c (ix2 ⟨8192 * b.val + (64 * ch.val + k.val - 512), by omega⟩ ⟨512 + (64 * h.val + d.val), by omega⟩))
    (W m c (ix2 h ⟨if k.val < q.val + 384 then 0 else k.val - q.val - 384, by have := k.isLt; split <;> omega⟩))
    (fun d => hu _ _ (by simp only; omega)) (fun d => hu _ _ (by simp only; omega)) (hw _ _)
  rw [Ref.sigma, if_pos hk]
  refine ⟨hs.1, Eq.trans ?_ hs.2⟩
  unfold scoreAt
  rw [sum_lanes _ _ _ (by omega), X5_apply, V_table, table_apply, if_pos (by simp only [at_]; omega)]
  congr 1
  · refine Finset.sum_congr rfl fun d _ => ?_
    rw [keys_at, X0_apply]
    congr 1
    · congr 2
      · exact Fin.ext ((tok_eq t R k (by omega) _ rfl).trans (by simp only; omega))
      · exact Fin.ext (by simp only; omega)
    · congr 2
      · exact Fin.ext (by simp only; omega)
      · exact Fin.ext (by simp only; omega)
  · congr 3
    · exact Fin.ext (by simp only; omega)
    · refine Fin.ext ?_
      have e1 : (R.val % 128 + 128 * (X.val % 128 / 64)) % 128 = R.val % 128 := by omega
      have e2 : R.val % 128 = 64 * (R.val % 128 / 64) + q.val := by omega
      have e3 : 128 - R.val % 128 + (k.val + 64 * (R.val % 128 / 64)) = 128 - q.val + k.val := by omega
      simp only [at_]
      simp only [e1, e3]
      clear hs hu hw hk e1 e2 e3
      by_cases h1 : k.val < q.val + 384
      · rw [if_pos h1]
        exact if_pos (by omega)
      · rw [if_neg h1]
        exact (if_neg (by omega)).trans (by omega)

/-- An entry that the kernel stores is the reference's. -/
theorem point_eq (t : Fin cfg0.N) (R X : Fin 512) (b : Fin 8) (ch : Fin 128) (h : Fin 8) (d : Fin 64) (q : Fin 64)
    (eb : b.val = t.val / 16) (ec : ch.val = 8 * (t.val % 16) + R.val / 64) (eh : h.val = X.val / 64) (ed : d.val = X.val % 64) (eq : q.val = R.val % 64)
    (hu : ∀ (i : Fin 65536) (x : Fin 2816), x.val < 1024 → ∃ r : ℝ, U m c (ix2 i x) = r) (hw : ∀ (i : Fin 8) (x : Fin 257), ∃ r : ℝ, W m c (ix2 i x) = r) :
    (outsAt0 m c t.val t.isLt).1 (ix2 R X) = ∑ k : Fin 576, Ref.value (U m c) b ch h d k *
      Ideal.div (Ideal.exp (Ref.sigma (U m c) (W m c) b ch h q k - top (Ref.sigma (U m c) (W m c) b ch h q)))
        (∑ k : Fin 576, Ideal.exp (Ref.sigma (U m c) (W m c) b ch h q k - top (Ref.sigma (U m c) (W m c) b ch h q))) := by
  have hN := rows_lt t
  rw [out_at]
  unfold pointAt soft
  refine softmax_eq (at_ R) (at_inj R) (Ref.sigma (U m c) (W m c) b ch h q) (Ref.value (U m c) b ch h d) _ _ ?_ ?_ ?_ ?_ ?_
  · intro k
    by_cases hk : 512 ≤ 64 * ch.val + k.val
    · exact Or.inr (score_eq m c t R X b ch h q eb ec eh eq hu hw k hk).1
    · exact Or.inl (if_neg hk)
  · exact ⟨⟨575, by omega⟩, (score_eq m c t R X b ch h q eb ec eh eq hu hw ⟨575, by omega⟩ (by simp only; omega)).1⟩
  · intro k
    by_cases hk : 512 ≤ 64 * ch.val + k.val
    · rw [if_neg (by simp only [at_]; omega)]
      exact (score_eq m c t R X b ch h q eb ec eh eq hu hw k hk).2
    · rw [if_pos (by simp only [at_]; omega), Ref.sigma, if_neg hk, EReal.coe_mul_bot_of_pos (by have := Real.log_pos (show (1 : ℝ) < 2 by norm_num); positivity)]
  · intro j hj
    split
    · rfl
    · unfold scoreAt
      rw [X5_apply, V_table, table_apply, if_neg, EReal.add_bot]
      intro hr
      simp only at hr
      exact hj ⟨j.val - 64 * (R.val % 128 / 64), by omega⟩ (Fin.ext (by simp only [at_]; omega))
  · intro k hk
    have hk' : 512 ≤ 64 * ch.val + k.val := by
      by_contra hn
      exact hk (if_neg hn)
    rw [Ref.value, if_pos hk', vals_at]
    congr 2
    · exact Fin.ext (Eq.trans (by simp only; omega) (tok_eq t R k (by omega) _ rfl).symm)
    · exact Fin.ext (by simp only; omega)

end Attn
end
-- ==== Proof.ExpertsIdealRun.lean ====
/-
One grid point of the experts' kernel, run on any buffers.
-/
module

public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Init

@[expose] public section

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of each tile's expert, the number of active tiles, and the two scratch buffers, whole. -/
abbrev tileExp : Memref sig .tc .smem S264 .i32 := Memref.whole main_arg1
abbrev nActive : Memref sig .tc .smem S1 .i32 := Memref.whole main_arg2
abbrev rows : Memref sig .tc .vmem S512x1024 .bf16 := Memref.whole cc0_scratch0
abbrev sums : Memref sig .tc .vmem S512x1024 .f32 := Memref.whole cc0_scratch1

/-- The number of active tiles as the kernel reads it off its one-word table. -/
abbrev count (T1 : S1.Idx → Elt F .i32) : Elt F .i32 :=
  View.readAt (Elt F) nActive.view (Rect.unit (s := S1) ![0] S1.size inb_S1_S1_0).toLoadRect T1
    (Shape.Idx.first (numel1_S1.symm ▸ Nat.one_pos))

set_option backward.proofsInPublic true in
set_option maxHeartbeats 8000000 in
/-- What an active tile's grid point leaves in its output block, as the list of the parts it stores (last first),
    with the proof that the kernel runs there: from the tile's rows and its expert's three matrices, the two tables,
    the output block at anything and both scratch buffers at anything, to the same with the output's parts written. -/
def active (c : Dev nD) (i : grid0.Coords)
    (arg3 : Memref sig .tc .vmem S4096x128 .f32) (harg3 : arg3.IsWhole)
    (arg4 : Memref sig .tc .vmem S1x1024x2048 .bf16) (harg4 : arg4.IsWhole)
    (arg5 : Memref sig .tc .vmem S1x1024x2048 .bf16) (harg5 : arg5.IsWhole)
    (arg6 : Memref sig .tc .vmem S1x2048x1024 .bf16) (harg6 : arg6.IsWhole)
    (arg7 : Memref sig .tc .vmem S4096x128 .f32) (harg7 : arg7.IsWhole)
    (T0 : S264.Idx → Elt F .i32) (T1 : S1.Idx → Elt F .i32)
    (x0 : S4096x128.Idx → Elt F .f32) (x1 : S1x1024x2048.Idx → Elt F .bf16)
    (x2 : S1x1024x2048.Idx → Elt F .bf16) (x3 : S1x2048x1024.Idx → Elt F .bf16)
    (h1 : k0_cond1 i (count (F := F) T1) = 1#1) (h2 : ¬ k0_cond2 i (count (F := F) T1) = 1#1) :
    { L : List (View.Piece (Elt F) S4096x128 .f32) //
      ∀ (a0 : Buf (Elt F) ((c : Thread nD τ).loc cc0_scratch0)) (a1 : Buf (Elt F) ((c : Thread nD τ).loc cc0_scratch1))
        (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tileExp.view.loc (c : Thread nD τ) ↦{fullShare.right} T0)
          ∗ (nActive.view.loc (c : Thread nD τ) ↦{fullShare.right} T1)
          ∗ (∃ d, owns (c : Thread nD τ) arg7 fullShare d)
          ∗ (rows.view.loc (c : Thread nD τ) ↦{fullShare} a0)
          ∗ (sums.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tileExp.view.loc (c : Thread nD τ) ↦{fullShare.right} T0)
              ∗ (nActive.view.loc (c : Thread nD τ) ↦{fullShare.right} T1)
              ∗ (∃ f, arg7.view.loc (c : Thread nD τ) ↦[arg7.view.set]{fullShare} arg7.view.writes (Elt F) f L)
              ∗ (∃ f, rows.view.loc (c : Thread nD τ) ↦{fullShare} f)
              ∗ (∃ f, sums.view.loc (c : Thread nD τ) ↦{fullShare} f)) -∗ K ⟨⟩))
          ⊢ wp frame (wpE (defs₀ (F := F)) Variants.none c none) Set.univ
              (cc0__expert_kernel i tileExp (Memref.isWhole_whole _) nActive (Memref.isWhole_whole _) arg3 harg3 arg4 harg4
                arg5 harg5 arg6 harg6 arg7 harg7 rows (Memref.isWhole_whole _) sums (Memref.isWhole_whole _)) K } := by
  refine ⟨?_, fun a0 a1 K => ?run⟩
  case run =>
    rw [cc0__expert_kernel_eq_skeleton]; unfold cc0__expert_kernel_skel
    rw [k0_part1_eq_skeleton, k0_part2_eq_skeleton, k0_part3_eq_skeleton, k0_part4_eq_skeleton, k0_part5_eq_skeleton]
    unfold owns
    iintro ⟨H0, H1, H2, H3, HT0, HT1, ⟨%d4, %f4, -, HO4⟩, HS0, HS1, Hk⟩
    have hS0 : rows.IsWhole := Memref.isWhole_whole _
    have hS1 : sums.IsWhole := Memref.isWhole_whole _
    have hT0 : tileExp.IsWhole := Memref.isWhole_whole _
    have hT1 : nActive.IsWhole := Memref.isWhole_whole _
    sl_exec! (disch := first | (guard_target = ¬(k0_cond2 _ _ = _); exact h2) | (guard_target = k0_cond1 _ _ = _; exact h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexists _; iexact HS0
    iexists _; iexact HS1

set_option backward.proofsInPublic true in
set_option maxHeartbeats 8000000 in
/-- The same at a grid point past the active tiles: the one part it stores, and the proof that the kernel runs there. -/
def inactive (c : Dev nD) (i : grid0.Coords)
    (arg3 : Memref sig .tc .vmem S4096x128 .f32) (harg3 : arg3.IsWhole)
    (arg4 : Memref sig .tc .vmem S1x1024x2048 .bf16) (harg4 : arg4.IsWhole)
    (arg5 : Memref sig .tc .vmem S1x1024x2048 .bf16) (harg5 : arg5.IsWhole)
    (arg6 : Memref sig .tc .vmem S1x2048x1024 .bf16) (harg6 : arg6.IsWhole)
    (arg7 : Memref sig .tc .vmem S4096x128 .f32) (harg7 : arg7.IsWhole)
    (T0 : S264.Idx → Elt F .i32) (T1 : S1.Idx → Elt F .i32)
    (x0 : S4096x128.Idx → Elt F .f32) (x1 : S1x1024x2048.Idx → Elt F .bf16)
    (x2 : S1x1024x2048.Idx → Elt F .bf16) (x3 : S1x2048x1024.Idx → Elt F .bf16)
    (h1 : ¬ k0_cond1 i (count (F := F) T1) = 1#1) (h2 : k0_cond2 i (count (F := F) T1) = 1#1) :
    { L : List (View.Piece (Elt F) S4096x128 .f32) //
      ∀ (a0 : Buf (Elt F) ((c : Thread nD τ).loc cc0_scratch0)) (a1 : Buf (Elt F) ((c : Thread nD τ).loc cc0_scratch1))
        (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tileExp.view.loc (c : Thread nD τ) ↦{fullShare.right} T0)
          ∗ (nActive.view.loc (c : Thread nD τ) ↦{fullShare.right} T1)
          ∗ (∃ d, owns (c : Thread nD τ) arg7 fullShare d)
          ∗ (rows.view.loc (c : Thread nD τ) ↦{fullShare} a0)
          ∗ (sums.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tileExp.view.loc (c : Thread nD τ) ↦{fullShare.right} T0)
              ∗ (nActive.view.loc (c : Thread nD τ) ↦{fullShare.right} T1)
              ∗ (∃ f, arg7.view.loc (c : Thread nD τ) ↦[arg7.view.set]{fullShare} arg7.view.writes (Elt F) f L)
              ∗ (∃ f, rows.view.loc (c : Thread nD τ) ↦{fullShare} f)
              ∗ (∃ f, sums.view.loc (c : Thread nD τ) ↦{fullShare} f)) -∗ K ⟨⟩))
          ⊢ wp frame (wpE (defs₀ (F := F)) Variants.none c none) Set.univ
              (cc0__expert_kernel i tileExp (Memref.isWhole_whole _) nActive (Memref.isWhole_whole _) arg3 harg3 arg4 harg4
                arg5 harg5 arg6 harg6 arg7 harg7 rows (Memref.isWhole_whole _) sums (Memref.isWhole_whole _)) K } := by
  refine ⟨?_, fun a0 a1 K => ?run⟩
  case run =>
    rw [cc0__expert_kernel_eq_skeleton]; unfold cc0__expert_kernel_skel
    unfold owns
    iintro ⟨H0, H1, H2, H3, HT0, HT1, ⟨%d4, %f4, -, HO4⟩, HS0, HS1, Hk⟩
    have hS0 : rows.IsWhole := Memref.isWhole_whole _
    have hS1 : sums.IsWhole := Memref.isWhole_whole _
    have hT0 : tileExp.IsWhole := Memref.isWhole_whole _
    have hT1 : nActive.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexists _; iexact HS0
    iexists _; iexact HS1

/-- One staging buffer of the output window, through which its contents are stated. -/
abbrev outView : View sig .tc .vmem S4096x128 .f32 :=
  (Memref.whole cc0_stg4_0 : Memref sig .tc .vmem S4096x128 .f32).view

/-- Row `y` of the block lies in part `o`, every eighth row from the `o`-th on, when `y mod 8` is `o`. -/
theorem mem_part (o : ℕ) (hb : ∀ a : Fin S4096x128.rank, S512x128.size a = 0 ∨ ![o, 0] a + ![8, 1] a * (S512x128.size a - 1) < S4096x128.size a)
    (y : S4096x128.Idx) (h : (y 0).val % 8 = o) :
    y ∈ (⟨(⟨![o, 0], S512x128.size, ![8, 1], hb⟩ : LoadRect S4096x128), spos_8_1⟩ : Rect S4096x128).set := by
  have hy0 : (y 0).val < 4096 := (y 0).isLt
  have hy1 : (y 1).val < 128 := (y 1).isLt
  refine (LoadRect.mem_set _).2 fun | 0 => ⟨(y 0).val / 8, ?_, ?_⟩ | 1 => ⟨(y 1).val, hy1, ?_⟩
  · show _ < 512; omega
  · show (y 0).val = o + 8 * ((y 0).val / 8); omega
  · show (y 1).val = 0 + 1 * (y 1).val; omega

/-- The eight parts an active point stores, every eighth row from the `s`-th on, fill the block: row `y` lies in part
    `y mod 8`. -/
theorem active_cover (c : Dev nD) (i : grid0.Coords)
    (arg3 : Memref sig .tc .vmem S4096x128 .f32) (harg3 : arg3.IsWhole)
    (arg4 : Memref sig .tc .vmem S1x1024x2048 .bf16) (harg4 : arg4.IsWhole)
    (arg5 : Memref sig .tc .vmem S1x1024x2048 .bf16) (harg5 : arg5.IsWhole)
    (arg6 : Memref sig .tc .vmem S1x2048x1024 .bf16) (harg6 : arg6.IsWhole)
    (arg7 : Memref sig .tc .vmem S4096x128 .f32) (harg7 : arg7.IsWhole)
    (T0 : S264.Idx → Elt F .i32) (T1 : S1.Idx → Elt F .i32)
    (x0 : S4096x128.Idx → Elt F .f32) (x1 : S1x1024x2048.Idx → Elt F .bf16)
    (x2 : S1x1024x2048.Idx → Elt F .bf16) (x3 : S1x2048x1024.Idx → Elt F .bf16)
    (h1 : k0_cond1 i (count (F := F) T1) = 1#1) (h2 : ¬ k0_cond2 i (count (F := F) T1) = 1#1) (y : S4096x128.Idx) :
    ∃ pc ∈ (active c i arg3 harg3 arg4 harg4 arg5 harg5 arg6 harg6 arg7 harg7 T0 T1 x0 x1 x2 x3 h1 h2).1, y ∈ pc.1.set := by
  unfold active
  have h8 : (y 0).val % 8 < 8 := Nat.mod_lt _ (by decide)
  rcases (show (y 0).val % 8 = 0 ∨ (y 0).val % 8 = 1 ∨ (y 0).val % 8 = 2 ∨ (y 0).val % 8 = 3 ∨ (y 0).val % 8 = 4
      ∨ (y 0).val % 8 = 5 ∨ (y 0).val % 8 = 6 ∨ (y 0).val % 8 = 7 by omega) with h | h | h | h | h | h | h | h
  · exact ⟨_, .tail _ (.tail _ (.tail _ (.tail _ (.tail _ (.tail _ (.tail _ (.head _))))))), mem_part 0 _ y h⟩
  · exact ⟨_, .tail _ (.tail _ (.tail _ (.tail _ (.tail _ (.tail _ (.head _)))))), mem_part 1 _ y h⟩
  · exact ⟨_, .tail _ (.tail _ (.tail _ (.tail _ (.tail _ (.head _))))), mem_part 2 _ y h⟩
  · exact ⟨_, .tail _ (.tail _ (.tail _ (.tail _ (.head _)))), mem_part 3 _ y h⟩
  · exact ⟨_, .tail _ (.tail _ (.tail _ (.head _))), mem_part 4 _ y h⟩
  · exact ⟨_, .tail _ (.tail _ (.head _)), mem_part 5 _ y h⟩
  · exact ⟨_, .tail _ (.head _), mem_part 6 _ y h⟩
  · exact ⟨_, .head _, mem_part 7 _ y h⟩

/-- The one part an inactive point stores is the block. -/
theorem inactive_cover (c : Dev nD) (i : grid0.Coords)
    (arg3 : Memref sig .tc .vmem S4096x128 .f32) (harg3 : arg3.IsWhole)
    (arg4 : Memref sig .tc .vmem S1x1024x2048 .bf16) (harg4 : arg4.IsWhole)
    (arg5 : Memref sig .tc .vmem S1x1024x2048 .bf16) (harg5 : arg5.IsWhole)
    (arg6 : Memref sig .tc .vmem S1x2048x1024 .bf16) (harg6 : arg6.IsWhole)
    (arg7 : Memref sig .tc .vmem S4096x128 .f32) (harg7 : arg7.IsWhole)
    (T0 : S264.Idx → Elt F .i32) (T1 : S1.Idx → Elt F .i32)
    (x0 : S4096x128.Idx → Elt F .f32) (x1 : S1x1024x2048.Idx → Elt F .bf16)
    (x2 : S1x1024x2048.Idx → Elt F .bf16) (x3 : S1x2048x1024.Idx → Elt F .bf16)
    (h1 : ¬ k0_cond1 i (count (F := F) T1) = 1#1) (h2 : k0_cond2 i (count (F := F) T1) = 1#1) (y : S4096x128.Idx) :
    ∃ pc ∈ (inactive c i arg3 harg3 arg4 harg4 arg5 harg5 arg6 harg6 arg7 harg7 T0 T1 x0 x1 x2 x3 h1 h2).1, y ∈ pc.1.set :=
  View.cover_of_tiledL (inactive c i arg3 harg3 arg4 harg4 arg5 harg5 arg6 harg6 arg7 harg7 T0 T1 x0 x1 x2 x3 h1 h2).1
    S4096x128.size (by sl_kernel_rfl) y

/-- A comparison's bit, widened to a word and tested against zero, is the bit. -/
theorem widened (b : Bool) :
    IntOp.cmpi .ne (BitVec.setWidth 32 (BitVec.ofBool b)) 0#32 = 1#1 ↔ b = true := by
  cases b <;> decide

/-- A grid point is active when its number, as a word, is below the number of active tiles. -/
theorem cond1_iff (i : grid0.Coords) (v : BitVec 32) :
    k0_cond1 i v = 1#1 ↔ (BitVec.ofNat 32 (i 0).val).slt v = true := widened _

/-- A grid point is past the active tiles exactly when it is not among them. -/
theorem cond2_iff (i : grid0.Coords) (v : BitVec 32) : k0_cond2 i v = 1#1 ↔ ¬ k0_cond1 i v = 1#1 := by
  rw [cond1_iff]
  refine (widened (BitVec.sle v (BitVec.ofNat 32 (i 0).val))).trans ?_
  rw [BitVec.sle_eq_not_slt]
  cases (BitVec.ofNat 32 (i 0).val).slt v <;> decide

end Cert.ExpertsIdeal.Run
-- ==== Proof.ExpertsPay.lean ====
module
public import proofs.«01_k».proof.Proof.ExpertsIdealRun
public import Idealize.ShloMosaic.Lib.Pointwise

/-! What the experts' kernel computes from a tile's rows and one quarter of an expert's hidden units, entry by entry. -/

@[expose] public section
set_option maxRecDepth 16384
noncomputable section

namespace Moe
open Idealize.ShloMosaic Idealize.ShloMosaic.TcCoe Cert.ExpertsIdeal Cert.ExpertsIdeal.Gen Cert.ExpertsIdeal.Run

/-- The gated unit: `a` times its logistic, times `b`. -/
def gated (a b : EReal) : EReal := a * Ideal.div 1 (1 + Ideal.exp (0 - a)) * b

/-- A hidden unit: the gated unit of the row's products with its two columns. -/
def unit (x g u : Fin 1024 → EReal) : EReal := gated (∑ d, x d * g d) (∑ d, x d * u d)

/-- What the first quarter contributes. -/
theorem pay10_apply (x : FVec Ideal S512x1024 .bf16) (g u : FVec Ideal S1x1024x512 .bf16) (w : FVec Ideal S1x512x1024 .bf16) (r : Fin 512) (n : Fin 1024) :
    k0_pay10 (F := Ideal) x g u w (ix2 r n) = ∑ f : Fin 512, unit (fun d => x (ix2 r d)) (fun d => g (ix3 0 d f)) (fun d => u (ix3 0 d f)) * w (ix3 0 f n) := by
  pointwise [k0_pay10, unit, gated]

/-- What the second quarter adds to what was accumulated. -/
theorem pay12_apply (x : FVec Ideal S512x1024 .bf16) (g u : FVec Ideal S1x1024x512 .bf16) (w : FVec Ideal S1x512x1024 .bf16)
    (z : FVec Ideal S512x1024 .f32) (r : Fin 512) (n : Fin 1024) :
    k0_pay12 (F := Ideal) x g u w z (ix2 r n)
      = z (ix2 r n) + ∑ f : Fin 512, unit (fun d => x (ix2 r d)) (fun d => g (ix3 0 d f)) (fun d => u (ix3 0 d f)) * w (ix3 0 f n) := by
  pointwise [k0_pay12, unit, gated]

/-- What the third quarter adds to what was accumulated. -/
theorem pay15_apply (x : FVec Ideal S512x1024 .bf16) (g u : FVec Ideal S1x1024x512 .bf16) (w : FVec Ideal S1x512x1024 .bf16)
    (z : FVec Ideal S512x1024 .f32) (r : Fin 512) (n : Fin 1024) :
    k0_pay15 (F := Ideal) x (k0_pay13 (F := Ideal) x g) (k0_pay14 (F := Ideal) u) (constant S512x512 .f32 0x00000000#32) w z (ix2 r n)
      = z (ix2 r n) + ∑ f : Fin 512, unit (fun d => x (ix2 r d)) (fun d => g (ix3 0 d f)) (fun d => u (ix3 0 d f)) * w (ix3 0 f n) := by
  pointwise [k0_pay15, k0_pay13, k0_pay14, unit, gated]

/-- What the last quarter adds to what was accumulated. -/
theorem pay17_apply (x : FVec Ideal S512x1024 .bf16) (g u : FVec Ideal S1x1024x512 .bf16) (w : FVec Ideal S1x512x1024 .bf16)
    (z : FVec Ideal S512x1024 .f32) (r : Fin 512) (n : Fin 1024) :
    k0_pay17 (F := Ideal) (k0_pay16 (F := Ideal) x g u) w z (ix2 r n)
      = z (ix2 r n) + ∑ f : Fin 512, unit (fun d => x (ix2 r d)) (fun d => g (ix3 0 d f)) (fun d => u (ix3 0 d f)) * w (ix3 0 f n) := by
  pointwise [k0_pay17, k0_pay16, unit, gated]

/-- The first quarter is stored as it is. -/
theorem pay11_apply (z : FVec Ideal S512x1024 .f32) (r : Fin 512) (n : Fin 1024) : k0_pay11 (F := Ideal) z (ix2 r n) = z (ix2 r n) := by
  pointwise [k0_pay11]

/-- Each block of the rows is stored as it is. -/
theorem pay2_apply (z : FVec Ideal S512x128 .f32) (i : S512x128.Idx) : k0_pay2 (F := Ideal) z i = z i := by pointwise [k0_pay2]
theorem pay3_apply (z : FVec Ideal S512x128 .f32) (i : S512x128.Idx) : k0_pay3 (F := Ideal) z i = z i := by pointwise [k0_pay3]
theorem pay4_apply (z : FVec Ideal S512x128 .f32) (i : S512x128.Idx) : k0_pay4 (F := Ideal) z i = z i := by pointwise [k0_pay4]
theorem pay5_apply (z : FVec Ideal S512x128 .f32) (i : S512x128.Idx) : k0_pay5 (F := Ideal) z i = z i := by pointwise [k0_pay5]
theorem pay6_apply (z : FVec Ideal S512x128 .f32) (i : S512x128.Idx) : k0_pay6 (F := Ideal) z i = z i := by pointwise [k0_pay6]
theorem pay7_apply (z : FVec Ideal S512x128 .f32) (i : S512x128.Idx) : k0_pay7 (F := Ideal) z i = z i := by pointwise [k0_pay7]
theorem pay8_apply (z : FVec Ideal S512x128 .f32) (i : S512x128.Idx) : k0_pay8 (F := Ideal) z i = z i := by pointwise [k0_pay8]
theorem pay9_apply (z : FVec Ideal S512x128 .f32) (i : S512x128.Idx) : k0_pay9 (F := Ideal) z i = z i := by pointwise [k0_pay9]

/-- An inactive point's block is zero. -/
theorem pay1_apply (i : S4096x128.Idx) : k0_pay1 (F := Ideal) i = (0 : EReal) := by pointwise [k0_pay1]

end Moe
end
-- ==== Proof.ExpertsPoint.lean ====
module
public import proofs.«01_k».proof.Proof.ExpertsPay

/-! What a grid point of the experts' kernel leaves in its output block, entry by entry. -/

@[expose] public section
set_option maxRecDepth 16384
noncomputable section

namespace Moe
open Idealize.ShloMosaic Idealize.ShloMosaic.TcCoe Cert.ExpertsIdeal Cert.ExpertsIdeal.Gen Cert.ExpertsIdeal.Run

/-- Entry `d` of a tile's row `r`: of the eight stored rows that make up the row, lane `d mod 128` of the `d / 128`-th. -/
def rowOf (x : S4096x128.Idx → EReal) (r : Fin 512) (d : Fin 1024) : EReal :=
  x (ix2 ⟨8 * r.val + d.val / 128, by have := r.isLt; have := d.isLt; omega⟩ ⟨d.val % 128, Nat.mod_lt _ (by decide)⟩)

/-- What a list of pieces of a 512 × 1024 buffer leaves at an entry of the newest one, a block of 128 columns from `o` on. -/
theorem canon_hit {e : EltTy} (o : ℕ) (h : ∀ a, ![0, o] a + S512x128.size a ≤ S512x1024.size a) (w : S512x128.Idx → Elt Ideal e) (L : List (View.Piece (Elt Ideal) S512x1024 e))
    (r : Fin 512) (d : Fin 1024) (k : Fin 128) (hd : d.val = o + k.val) :
    View.canon (⟨Rect.unit (s := S512x1024) ![0, o] S512x128.size h, w⟩ :: L) (ix2 r d) = w (ix2 r k) := by
  have e : (ix2 r d : S512x1024.Idx) = (Rect.unit (s := S512x1024) ![0, o] S512x128.size h).emb (ix2 r k) :=
    funext fun | 0 => Fin.ext (by show r.val = 0 + 1 * r.val; omega) | 1 => Fin.ext (by show d.val = o + 1 * k.val; omega)
  rw [e]
  exact View.canon_cons_emb (Rect.unit (s := S512x1024) ![0, o] S512x128.size h) w L (ix2 r k)

/-- And at an entry off that block. -/
theorem canon_miss {e : EltTy} (o : ℕ) (h : ∀ a, ![0, o] a + S512x128.size a ≤ S512x1024.size a) (w : S512x128.Idx → Elt Ideal e) (L : List (View.Piece (Elt Ideal) S512x1024 e))
    (r : Fin 512) (d : Fin 1024) (hd : d.val < o ∨ o + 128 ≤ d.val) :
    View.canon (⟨Rect.unit (s := S512x1024) ![0, o] S512x128.size h, w⟩ :: L) (ix2 r d) = View.canon L (ix2 r d) :=
  View.canon_cons_of_not_mem _ L (Rect.not_mem_set_of_axis _ _ (1 : Fin 2) o 128 rfl rfl rfl hd)

/-- And where the newest piece is the whole buffer. -/
theorem canon_whole {e : EltTy} (h : ∀ a, ![0, 0] a + S512x1024.size a ≤ S512x1024.size a) (w : S512x1024.Idx → Elt Ideal e) (L : List (View.Piece (Elt Ideal) S512x1024 e))
    (r : Fin 512) (d : Fin 1024) :
    View.canon (⟨Rect.unit (s := S512x1024) ![0, 0] S512x1024.size h, w⟩ :: L) (ix2 r d) = w (ix2 r d) := by
  have e : (ix2 r d : S512x1024.Idx) = (Rect.unit (s := S512x1024) ![0, 0] S512x1024.size h).emb (ix2 r d) :=
    funext fun | 0 => Fin.ext (by show r.val = 0 + 1 * r.val; omega) | 1 => Fin.ext (by show d.val = 0 + 1 * d.val; omega)
  refine (congrArg (View.canon _) e).trans ?_
  exact View.canon_cons_emb (Rect.unit (s := S512x1024) ![0, 0] S512x1024.size h) w L (ix2 r d)

/-- A load of every eighth stored row from the `o`-th on. -/
theorem load_strided (m : Memref sig .tc .vmem S4096x128 .f32) (x : S4096x128.Idx → Elt Ideal .f32) (o : ℕ)
    (h : ∀ a : Fin S4096x128.rank, S512x128.size a = 0 ∨ ![o, 0] a + ![8, 1] a * (S512x128.size a - 1) < S4096x128.size a)
    (r : Fin 512) (d : Fin 1024) (k : Fin 128) (hd : d.val = 128 * o + k.val) :
    View.readAt (Elt Ideal) m.view (⟨![o, 0], S512x128.size, ![8, 1], h⟩ : LoadRect S4096x128) (m.view.rep x) (ix2 r k) = rowOf x r d := by
  have hk := k.isLt
  rw [View.readAt_rep]
  refine congrArg x (funext fun | 0 => Fin.ext ?_ | 1 => Fin.ext ?_)
  · show o + 8 * r.val = 8 * r.val + d.val / 128; omega
  · show 0 + 1 * k.val = d.val % 128; omega

/-- The tile's rows as the kernel collects them. -/
theorem rows_apply (m : Memref sig .tc .vmem S4096x128 .f32) (x : S4096x128.Idx → Elt Ideal .f32) (r : Fin 512) (d : Fin 1024) :
    active.sl.v48 (F := Ideal) m x (ix2 r d) = rowOf x r d := by
  have hd := d.isLt
  unfold active.sl.v48
  rw [View.readCov_eq_canon']
  have e : (Rect.unit (s := S512x1024) ![0, 0] S512x1024.size inb_S512x1024_S512x1024_0_0).toLoadRect.idx (ix2 r d) = ix2 r d :=
    funext fun | 0 => Fin.ext (by show 0 + 1 * r.val = r.val; omega) | 1 => Fin.ext (by show 0 + 1 * d.val = d.val; omega)
  show View.canon _ ((Rect.unit (s := S512x1024) ![0, 0] S512x1024.size inb_S512x1024_S512x1024_0_0).toLoadRect.idx (ix2 r d)) = _
  rw [e]
  unfold active.sl.HS0_8
  have hq : d.val / 128 < 8 := by omega
  have hk : d.val % 128 < 128 := Nat.mod_lt _ (by decide)
  rcases (show d.val / 128 = 0 ∨ d.val / 128 = 1 ∨ d.val / 128 = 2 ∨ d.val / 128 = 3 ∨ d.val / 128 = 4
      ∨ d.val / 128 = 5 ∨ d.val / 128 = 6 ∨ d.val / 128 = 7 by omega) with h | h | h | h | h | h | h | h
  · rw [canon_miss, canon_miss, canon_miss, canon_miss, canon_miss, canon_miss, canon_miss, canon_hit 0 _ _ _ r d ⟨d.val % 128, hk⟩ (by show d.val = 0 + d.val % 128; omega)]
    · exact (pay2_apply _ _).trans (load_strided m x 0 _ r d _ (by show d.val = _ + d.val % 128; omega))
    all_goals omega
  · rw [canon_miss, canon_miss, canon_miss, canon_miss, canon_miss, canon_miss, canon_hit 128 _ _ _ r d ⟨d.val % 128, hk⟩ (by show d.val = _ + d.val % 128; omega)]
    · exact (pay3_apply _ _).trans (load_strided m x 1 _ r d _ (by show d.val = _ + d.val % 128; omega))
    all_goals omega
  · rw [canon_miss, canon_miss, canon_miss, canon_miss, canon_miss, canon_hit 256 _ _ _ r d ⟨d.val % 128, hk⟩ (by show d.val = _ + d.val % 128; omega)]
    · exact (pay4_apply _ _).trans (load_strided m x 2 _ r d _ (by show d.val = _ + d.val % 128; omega))
    all_goals omega
  · rw [canon_miss, canon_miss, canon_miss, canon_miss, canon_hit 384 _ _ _ r d ⟨d.val % 128, hk⟩ (by show d.val = _ + d.val % 128; omega)]
    · exact (pay5_apply _ _).trans (load_strided m x 3 _ r d _ (by show d.val = _ + d.val % 128; omega))
    all_goals omega
  · rw [canon_miss, canon_miss, canon_miss, canon_hit 512 _ _ _ r d ⟨d.val % 128, hk⟩ (by show d.val = _ + d.val % 128; omega)]
    · exact (pay6_apply _ _).trans (load_strided m x 4 _ r d _ (by show d.val = _ + d.val % 128; omega))
    all_goals omega
  · rw [canon_miss, canon_miss, canon_hit 640 _ _ _ r d ⟨d.val % 128, hk⟩ (by show d.val = _ + d.val % 128; omega)]
    · exact (pay7_apply _ _).trans (load_strided m x 5 _ r d _ (by show d.val = _ + d.val % 128; omega))
    all_goals omega
  · rw [canon_miss, canon_hit 768 _ _ _ r d ⟨d.val % 128, hk⟩ (by show d.val = _ + d.val % 128; omega)]
    · exact (pay8_apply _ _).trans (load_strided m x 6 _ r d _ (by show d.val = _ + d.val % 128; omega))
    all_goals omega
  · rw [canon_hit 896 _ _ _ r d ⟨d.val % 128, hk⟩ (by show d.val = _ + d.val % 128; omega)]
    exact (pay9_apply _ _).trans (load_strided m x 7 _ r d _ (by show d.val = _ + d.val % 128; omega))

/-- The columns of 512 hidden units from the `o`-th on. -/
theorem load_columns (m : Memref sig .tc .vmem S1x1024x2048 .bf16) (x : S1x1024x2048.Idx → Elt Ideal .bf16) (o : ℕ)
    (h : ∀ a, ![0, 0, o] a + S1x1024x512.size a ≤ S1x1024x2048.size a) (d : Fin 1024) (f : Fin 512) (hf : o + f.val < 2048) :
    View.readAt (Elt Ideal) m.view (Rect.unit (s := S1x1024x2048) ![0, 0, o] S1x1024x512.size h).toLoadRect (m.view.rep x) (ix3 0 d f)
      = x (ix3 0 d ⟨o + f.val, hf⟩) := by
  rw [View.readAt_rep]
  refine congrArg x (funext fun | 0 => Fin.ext rfl | 1 => Fin.ext ?_ | 2 => Fin.ext ?_)
  · show 0 + 1 * d.val = d.val; omega
  · show o + 1 * f.val = o + f.val; omega

/-- The rows of 512 hidden units from the `o`-th on. -/
theorem load_rows (m : Memref sig .tc .vmem S1x2048x1024 .bf16) (x : S1x2048x1024.Idx → Elt Ideal .bf16) (o : ℕ)
    (h : ∀ a, ![0, o, 0] a + S1x512x1024.size a ≤ S1x2048x1024.size a) (f : Fin 512) (n : Fin 1024) (hf : o + f.val < 2048) :
    View.readAt (Elt Ideal) m.view (Rect.unit (s := S1x2048x1024) ![0, o, 0] S1x512x1024.size h).toLoadRect (m.view.rep x) (ix3 0 f n)
      = x (ix3 0 ⟨o + f.val, hf⟩ n) := by
  rw [View.readAt_rep]
  refine congrArg x (funext fun | 0 => Fin.ext rfl | 1 => Fin.ext ?_ | 2 => Fin.ext ?_)
  · show o + 1 * f.val = o + f.val; omega
  · show 0 + 1 * n.val = n.val; omega

/-- Hidden unit `f`'s contribution to output `n` of a row. -/
def part (x : Fin 1024 → EReal) (g u : S1x1024x2048.Idx → EReal) (w : S1x2048x1024.Idx → EReal) (n : Fin 1024) (f : Fin 2048) : EReal :=
  unit x (fun d => g (ix3 0 d f)) (fun d => u (ix3 0 d f)) * w (ix3 0 f n)

/-- 2048 terms, 512 at a time. -/
theorem sum_quarters (p : Fin 2048 → EReal) :
    (∑ f : Fin 512, p ⟨f.val, by omega⟩) + (∑ f : Fin 512, p ⟨512 + f.val, by omega⟩) + (∑ f : Fin 512, p ⟨1024 + f.val, by omega⟩)
      + (∑ f : Fin 512, p ⟨1536 + f.val, by omega⟩) = ∑ f, p f := by
  have h1 := Fin.sum_univ_add (a := 512) (b := 1536) p
  have h2 := Fin.sum_univ_add (a := 512) (b := 1024) fun f => p (Fin.natAdd 512 f)
  have h3 := Fin.sum_univ_add (a := 512) (b := 512) fun f => p (Fin.natAdd 512 (Fin.natAdd 512 f))
  rw [h1, h2, h3, ← add_assoc, ← add_assoc]
  refine congrArg₂ (· + ·) (congrArg₂ (· + ·) rfl ?_) ?_ <;>
    exact Finset.sum_congr rfl fun f _ => congrArg p (Fin.ext (by simp [Fin.natAdd]; try omega))

section
variable (m3 : Memref sig .tc .vmem S4096x128 .f32) (m4 m5 : Memref sig .tc .vmem S1x1024x2048 .bf16) (m6 : Memref sig .tc .vmem S1x2048x1024 .bf16)
  (x : S4096x128.Idx → Elt Ideal .f32) (g u : S1x1024x2048.Idx → Elt Ideal .bf16) (w : S1x2048x1024.Idx → Elt Ideal .bf16)

/-- The accumulated sums after the first quarter, and after each further one. -/
theorem first_apply (r : Fin 512) (n : Fin 1024) :
    active.sl.v90 (F := Ideal) m3 m4 m5 m6 x g u w (ix2 r n) = ∑ f : Fin 512, part (rowOf x r) g u w n ⟨f.val, by omega⟩ := by
  unfold active.sl.v90 active.sl.HS1_1
  refine (congrFun (View.readCov_cons_toLoadRect _ _ _ _) _).trans ?_
  refine (pay11_apply _ r n).trans ?_
  unfold active.sl.r_1
  rw [pay10_apply]
  refine Finset.sum_congr rfl fun f _ => ?_
  unfold part
  simp only [rows_apply, load_columns _ _ 0 _ _ f (by have := f.isLt; omega), load_rows _ _ 0 _ f _ (by have := f.isLt; omega), Nat.zero_add]

theorem second_apply (r : Fin 512) (n : Fin 1024) :
    active.sl.v114 (F := Ideal) m3 m4 m5 m6 x g u w (ix2 r n)
      = active.sl.v90 (F := Ideal) m3 m4 m5 m6 x g u w (ix2 r n) + ∑ f : Fin 512, part (rowOf x r) g u w n ⟨512 + f.val, by omega⟩ := by
  rw [active.sl.v114, active.sl.HS1_2]
  refine (congrFun (View.readCov_cons_toLoadRect _ _ _ _) _).trans ?_
  refine (pay12_apply _ _ _ _ _ r n).trans (congrArg _ ?_)
  refine Finset.sum_congr rfl fun f _ => ?_
  unfold part
  simp only [rows_apply, load_columns _ _ 512 _ _ f (by have := f.isLt; omega), load_rows _ _ 512 _ f _ (by have := f.isLt; omega)]

theorem third_apply (r : Fin 512) (n : Fin 1024) :
    active.sl.v138 (F := Ideal) m3 m4 m5 m6 x g u w (ix2 r n)
      = active.sl.v114 (F := Ideal) m3 m4 m5 m6 x g u w (ix2 r n) + ∑ f : Fin 512, part (rowOf x r) g u w n ⟨1024 + f.val, by omega⟩ := by
  rw [active.sl.v138, active.sl.HS1_3]
  refine (congrFun (View.readCov_cons_toLoadRect _ _ _ _) _).trans ?_
  rw [active.sl.r_3, active.sl.r_4, active.sl.cst_63, pay15_apply]
  refine congrArg _ ?_
  refine Finset.sum_congr rfl fun f _ => ?_
  unfold part
  simp only [rows_apply, load_columns _ _ 1024 _ _ f (by have := f.isLt; omega), load_rows _ _ 1024 _ f _ (by have := f.isLt; omega)]

/-- The whole sum, as the last store leaves it. -/
theorem sums_canon (r : Fin 512) (n : Fin 1024) :
    View.canon (active.sl.HS1_4 (F := Ideal) m3 m4 m5 m6 x g u w) (ix2 r n) = ∑ f, part (rowOf x r) g u w n f := by
  rw [active.sl.HS1_4]
  rw [canon_whole, active.sl.r_5, pay17_apply, third_apply, second_apply, first_apply, ← sum_quarters]
  refine congrArg _ (Finset.sum_congr rfl fun f _ => ?_)
  unfold part
  simp only [rows_apply, load_columns _ _ 1536 _ _ f (by have := f.isLt; omega), load_rows _ _ 1536 _ f _ (by have := f.isLt; omega)]

/-- A load of 128 columns of the sums, from the `o`-th on. -/
theorem load_sums (o : ℕ) (h : ∀ a, ![0, o] a + S512x128.size a ≤ S512x1024.size a) (r : Fin 512) (k : Fin 128) (hk : o + k.val < 1024) :
    sums.view.readCov (active.sl.HS1_4 (F := Ideal) m3 m4 m5 m6 x g u w) (Rect.unit (s := S512x1024) ![0, o] S512x128.size h).toLoadRect (ix2 r k)
      = ∑ f, part (rowOf x r) g u w ⟨o + k.val, hk⟩ f := by
  rw [View.readCov_eq_canon', ← sums_canon m3 m4 m5 m6]
  refine congrArg (View.canon _) (funext fun | 0 => Fin.ext ?_ | 1 => Fin.ext ?_)
  · show 0 + 1 * r.val = r.val; omega
  · show o + 1 * k.val = o + k.val; omega

end

end Moe
end
-- ==== Proof.ExpertsIdealFrame.lean ====
/-
The experts' kernel from the launch to the end of its grid, whatever the tables hold that name an expert for every tile.
-/
module

public import proofs.«01_k».proof.Proof.ExpertsIdealRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables and the grid at them -/

/-- The one device. -/
abbrev dev0 : Dev nD := (0 : Fin 1)

/-- What the two tables hold at the launch. -/
abbrev expOf : S264.Idx → Elt F .i32 := m ((dev0 : Thread nD τ).loc main_arg1)
abbrev numOf : S1.Idx → Elt F .i32 := m ((dev0 : Thread nD τ).loc main_arg2)

/-- The same as the contents of the grid's two tables. -/
def tables : pre0.Contents (Elt F) := fun
  | ⟨0, _⟩ => expOf m
  | ⟨1, _⟩ => numOf m
  | ⟨_ + 2, h⟩ => absurd h (by simp)

/-- The tables name an expert for every tile: each expert's matrices lie in their arrays. -/
abbrev Named : Prop := ok0 (F := F) (tables m)

variable (hn : Named m)

/-- The grid at the launch's tables. -/
def adm : (pcfg0 (F := F)).Adm := ⟨tables m, hn⟩
abbrev cfgA : Pipeline.Cfg sig Λ₀ := cfg0 (F := F) (adm m hn)
abbrev pcs : Fin 1 → Pipeline.Cfg sig Λ₀ := Pipeline.pin (pcfgs (F := F)) fun _ => adm m hn

/-- Point `t`'s coordinates. -/
abbrev crd (t : Fin (cfgA m hn).N) : (cfgA m hn).grid.Coords := (cfgA m hn).grid.coords t

/-- Each window's staging buffer at point `t`, and that it is a whole buffer. -/
abbrev st0 (t : Fin (cfgA m hn).N) : Memref sig .tc .vmem S4096x128 .f32 := spec0_0.stage ((cfgA m hn).slots t (0 : Fin 5))
abbrev wh0 (t : Fin (cfgA m hn).N) : (st0 m hn t).IsWhole := hstage0_0 (((cfgA m hn).slots t (0 : Fin 5)).cast nbuf0_0)
abbrev st1 (t : Fin (cfgA m hn).N) : Memref sig .tc .vmem S1x1024x2048 .bf16 := spec0_1.stage ((cfgA m hn).slots t (1 : Fin 5))
abbrev wh1 (t : Fin (cfgA m hn).N) : (st1 m hn t).IsWhole := hstage0_1 (((cfgA m hn).slots t (1 : Fin 5)).cast nbuf0_1)
abbrev st2 (t : Fin (cfgA m hn).N) : Memref sig .tc .vmem S1x1024x2048 .bf16 := spec0_2.stage ((cfgA m hn).slots t (2 : Fin 5))
abbrev wh2 (t : Fin (cfgA m hn).N) : (st2 m hn t).IsWhole := hstage0_2 (((cfgA m hn).slots t (2 : Fin 5)).cast nbuf0_2)
abbrev st3 (t : Fin (cfgA m hn).N) : Memref sig .tc .vmem S1x2048x1024 .bf16 := spec0_3.stage ((cfgA m hn).slots t (3 : Fin 5))
abbrev wh3 (t : Fin (cfgA m hn).N) : (st3 m hn t).IsWhole := hstage0_3 (((cfgA m hn).slots t (3 : Fin 5)).cast nbuf0_3)
abbrev st4 (t : Fin (cfgA m hn).N) : Memref sig .tc .vmem S4096x128 .f32 := spec0_4.stage ((cfgA m hn).slots t (4 : Fin 5))
abbrev wh4 (t : Fin (cfgA m hn).N) : (st4 m hn t).IsWhole := hstage0_4 (((cfgA m hn).slots t (4 : Fin 5)).cast nbuf0_4)

/-- Window `w`'s block at point `t`, read off its array at the launch. -/
def iblk (c : Dev nD) (w : Fin (cfgA m hn).W) (t : Fin (cfgA m hn).N) :
    (((cfgA m hn).win w).xblock (crd m hn t)).Idx → Elt F ((cfgA m hn).win w).elt :=
  (((cfgA m hn).win w).blk t).view.read (Elt F) ((s₀ m ρ).mem (((cfgA m hn).win w).arr.view.loc (c : Thread nD τ)))

/-! ## What each point leaves in its output block -/

/-- Whether point `t` is active. -/
abbrev Live (t : Fin (cfgA m hn).N) : Prop := k0_cond1 (crd m hn t) (count (F := F) (numOf m)) = 1#1

/-- The parts an active point stores. -/
abbrev liveRun (c : Dev nD) (t : Fin (cfgA m hn).N) (h : Live m hn t) :=
  active c (crd m hn t) (st0 m hn t) (wh0 m hn t) (st1 m hn t) (wh1 m hn t) (st2 m hn t) (wh2 m hn t) (st3 m hn t) (wh3 m hn t)
    (st4 m hn t) (wh4 m hn t) (expOf m) (numOf m) (iblk m ρ hn c (0 : Fin 5) t) (iblk m ρ hn c (1 : Fin 5) t)
    (iblk m ρ hn c (2 : Fin 5) t) (iblk m ρ hn c (3 : Fin 5) t) h (fun h2 => (cond2_iff _ _).1 h2 h)

/-- The part an inactive point stores. -/
abbrev deadRun (c : Dev nD) (t : Fin (cfgA m hn).N) (h : ¬ Live m hn t) :=
  inactive c (crd m hn t) (st0 m hn t) (wh0 m hn t) (st1 m hn t) (wh1 m hn t) (st2 m hn t) (wh2 m hn t) (st3 m hn t) (wh3 m hn t)
    (st4 m hn t) (wh4 m hn t) (expOf m) (numOf m) (iblk m ρ hn c (0 : Fin 5) t) (iblk m ρ hn c (1 : Fin 5) t)
    (iblk m ρ hn c (2 : Fin 5) t) (iblk m ρ hn c (3 : Fin 5) t) h ((cond2_iff _ _).2 h)

/-- What point `t` leaves in the output's staging buffer. -/
def outOf (c : Dev nD) (t : Fin (cfgA m hn).N) : S4096x128.Idx → Elt F .f32 :=
  open Classical in
  if h : Live m hn t then outView.read (Elt F) (outView.writes (Elt F) outView.junk (liveRun m ρ hn c t h).1)
  else outView.read (Elt F) (outView.writes (Elt F) outView.junk (deadRun m ρ hn c t h).1)

/-- At an active point. -/
theorem outOf_live (c : Dev nD) (t : Fin (cfgA m hn).N) (h : Live m hn t) :
    outOf m ρ hn c t = outView.read (Elt F) (outView.writes (Elt F) outView.junk (liveRun m ρ hn c t h).1) := dif_pos h

/-- At an inactive point. -/
theorem outOf_dead (c : Dev nD) (t : Fin (cfgA m hn).N) (h : ¬ Live m hn t) :
    outOf m ρ hn c t = outView.read (Elt F) (outView.writes (Elt F) outView.junk (deadRun m ρ hn c t h).1) := dif_neg h

/-! ## The data of the grid's run -/

/-- Between two points: both scratch buffers at anything, and the body's halves of the tables. -/
def Between (c : Dev nD) : sProp 𝕄 :=
  iprop((∃ a, rows.view.loc (c : Thread nD τ) ↦{fullShare} a) ∗ (∃ a, sums.view.loc (c : Thread nD τ) ↦{fullShare} a)
    ∗ (tileExp.view.loc (c : Thread nD τ) ↦{fullShare.right} expOf m) ∗ (nActive.view.loc (c : Thread nD τ) ↦{fullShare.right} numOf m))

/-- What each window's staging buffer holds after each point. -/
def dats (_ : Fin 1) (c : Dev nD) : Dat τ (Elt F) Unit ℕ (UR sig nD τ) ℕ (cfgA m hn) c where
  A w := (s₀ m ρ).mem (((cfgA m hn).win w).arr.view.loc (c : Thread nD τ))
  after w t := match w with
    | ⟨0, _⟩ => iblk m ρ hn c (0 : Fin 5) t
    | ⟨1, _⟩ => iblk m ρ hn c (1 : Fin 5) t
    | ⟨2, _⟩ => iblk m ρ hn c (2 : Fin 5) t
    | ⟨3, _⟩ => iblk m ρ hn c (3 : Fin 5) t
    | ⟨4, _⟩ => outOf m ρ hn c t
  Φ t := Between m c
  q _ := fullShare
  owed _ := 0

theorem after_0 (c : Dev nD) (t : Fin (cfgA m hn).N) : (dats m ρ hn 0 c).after (0 : Fin 5) t = iblk m ρ hn c (0 : Fin 5) t := rfl
theorem after_1 (c : Dev nD) (t : Fin (cfgA m hn).N) : (dats m ρ hn 0 c).after (1 : Fin 5) t = iblk m ρ hn c (1 : Fin 5) t := rfl
theorem after_2 (c : Dev nD) (t : Fin (cfgA m hn).N) : (dats m ρ hn 0 c).after (2 : Fin 5) t = iblk m ρ hn c (2 : Fin 5) t := rfl
theorem after_3 (c : Dev nD) (t : Fin (cfgA m hn).N) : (dats m ρ hn 0 c).after (3 : Fin 5) t = iblk m ρ hn c (3 : Fin 5) t := rfl
theorem after_4 (c : Dev nD) (t : Fin (cfgA m hn).N) : (dats m ρ hn 0 c).after (4 : Fin 5) t = outOf m ρ hn c t := rfl

/-- An input's staging buffer holds its block at every point, fetched there or not. -/
theorem before_0 (c : Dev nD) (t : Fin (cfgA m hn).N) (d) : (dats m ρ hn 0 c).before (0 : Fin 5) t d = iblk m ρ hn c (0 : Fin 5) t :=
  ((dats m ρ hn 0 c).before_in_eq_fetched (0 : Fin 5) rfl (fun _ => rfl) (fun _ _ _ => rfl)
    (fun t => by rw [after_0]; unfold Dat.blockOf iblk; rfl) t d).trans (by unfold Dat.fetched Dat.blockOf iblk; rfl)
theorem before_1 (c : Dev nD) (t : Fin (cfgA m hn).N) (d) : (dats m ρ hn 0 c).before (1 : Fin 5) t d = iblk m ρ hn c (1 : Fin 5) t :=
  ((dats m ρ hn 0 c).before_in_eq_fetched (1 : Fin 5) rfl (fun _ => rfl) (fun _ _ _ => rfl)
    (fun t => by rw [after_1]; unfold Dat.blockOf iblk; rfl) t d).trans (by unfold Dat.fetched Dat.blockOf iblk; rfl)
theorem before_2 (c : Dev nD) (t : Fin (cfgA m hn).N) (d) : (dats m ρ hn 0 c).before (2 : Fin 5) t d = iblk m ρ hn c (2 : Fin 5) t :=
  ((dats m ρ hn 0 c).before_in_eq_fetched (2 : Fin 5) rfl (fun _ => rfl) (fun _ _ _ => rfl)
    (fun t => by rw [after_2]; unfold Dat.blockOf iblk; rfl) t d).trans (by unfold Dat.fetched Dat.blockOf iblk; rfl)
theorem before_3 (c : Dev nD) (t : Fin (cfgA m hn).N) (d) : (dats m ρ hn 0 c).before (3 : Fin 5) t d = iblk m ρ hn c (3 : Fin 5) t :=
  ((dats m ρ hn 0 c).before_in_eq_fetched (3 : Fin 5) rfl (fun _ => rfl) (fun _ _ _ => rfl)
    (fun t => by rw [after_3]; unfold Dat.blockOf iblk; rfl) t d).trans (by unfold Dat.fetched Dat.blockOf iblk; rfl)

/-- Every point writes its output block back: the next point's is another. -/
theorem flush_4 (t : Fin (cfgA m hn).N) : ((cfgA m hn).win (4 : Fin 5)).flush t = true :=
  (by decide +kernel : ∀ t : Fin grid0.N, Window.flushOf grid0 true cc0_transform_4 t = true) t

/-- Every point stores its output block: a point is active or it is not. -/
theorem idle_4 (t : Fin (cfgA m hn).N) : (cfgA m hn).idle (4 : Fin 5) ((cfgA m hn).grid.coords t) = false := by
  show (!(k0_cond1 (crd m hn t) ((tables m).atD 1 ![0]) == 1#1) && !(k0_cond2 (crd m hn t) ((tables m).atD 1 ![0]) == 1#1)) = false
  by_cases h : k0_cond1 (crd m hn t) ((tables m).atD 1 ![0]) = 1#1
  · rw [h]; rfl
  · rw [(cond2_iff _ _).2 h]; exact Bool.and_false _

/-! ## The body at a point -/

/-- The kernel at point `t` on its staging buffers. -/
abbrev bodyAt (t : Fin (cfgA m hn).N) : Prog (TpuEff nD τ sig (Elt F) Λ₀ .tc) PUnit :=
  cc0__expert_kernel (crd m hn t) tileExp (Memref.isWhole_whole _) nActive (Memref.isWhole_whole _) (st0 m hn t) (wh0 m hn t)
    (st1 m hn t) (wh1 m hn t) (st2 m hn t) (wh2 m hn t) (st3 m hn t) (wh3 m hn t) (st4 m hn t) (wh4 m hn t)
    rows (Memref.isWhole_whole _) sums (Memref.isWhole_whole _)

set_option maxHeartbeats 4000000 in
/-- At point `t`, from the windows' staging buffers as the grid hands them over, the kernel runs and leaves each as the
    data say: the inputs at their blocks, the output at the point's parts. -/
theorem body_runs (c : Dev nD) (t : Fin (cfgA m hn).N) :
    iprop((dats m ρ hn 0 c).Φ t.castSucc ∗ (dats m ρ hn 0 c).owesAt () t.castSucc
        ∗ (∃ d, owns (c : Thread nD τ) (st0 m hn t) fullShare ((dats m ρ hn 0 c).before (0 : Fin 5) t d))
        ∗ (∃ d, owns (c : Thread nD τ) (st1 m hn t) fullShare ((dats m ρ hn 0 c).before (1 : Fin 5) t d))
        ∗ (∃ d, owns (c : Thread nD τ) (st2 m hn t) fullShare ((dats m ρ hn 0 c).before (2 : Fin 5) t d))
        ∗ (∃ d, owns (c : Thread nD τ) (st3 m hn t) fullShare ((dats m ρ hn 0 c).before (3 : Fin 5) t d))
        ∗ (∃ d, owns (c : Thread nD τ) (st4 m hn t) fullShare ((dats m ρ hn 0 c).before (4 : Fin 5) t d)))
      ⊢ wp frame (wpE (defs₀ (F := F)) Variants.none c none) Set.univ (bodyAt m hn t) fun _ =>
          iprop((dats m ρ hn 0 c).Φ t.succ ∗ (dats m ρ hn 0 c).owesAt () t.succ
            ∗ bigSep Finset.univ fun w : Fin (cfgA m hn).W =>
                match (cfgA m hn).idle w ((cfgA m hn).grid.coords t) with
                | true =>
                  match ((cfgA m hn).win w).flush t with
                  | false => iprop(∃ d, owns (c : Thread nD τ) (((cfgA m hn).win w).stage ((cfgA m hn).slots t w)) fullShare ((dats m ρ hn 0 c).before w t d))
                  | true => owns (c : Thread nD τ) (((cfgA m hn).win w).stage ((cfgA m hn).slots t w)) fullShare ((dats m ρ hn 0 c).after w t)
                | false => owns (c : Thread nD τ) (((cfgA m hn).win w).stage ((cfgA m hn).slots t w)) fullShare ((dats m ρ hn 0 c).after w t)) := by
  rw [bigSep_W0]
  rewrite [idle_4 m hn t]
  simp only [before_0, before_1, before_2, before_3, after_0, after_1, after_2, after_3, after_4]
  rewrite [show (dats m ρ hn 0 c).Φ t.succ = Between m c from rfl, show (dats m ρ hn 0 c).Φ t.castSucc = Between m c from rfl,
    show (dats m ρ hn 0 c).owesAt () t.succ = (dats m ρ hn 0 c).owesAt () t.castSucc from rfl]
  unfold Between
  by_cases h : Live m hn t
  · rw [outOf_live m ρ hn c t h]
    iintro ⟨⟨⟨%a0, HS0⟩, ⟨%a1, HS1⟩, HT0, HT1⟩, Ho, ⟨%d0, H0⟩, ⟨%d1, H1⟩, ⟨%d2, H2⟩, ⟨%d3, H3⟩, ⟨%d4, H4⟩⟩
    iapply ((liveRun m ρ hn c t h).2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]; · iexact HS0
      isplitl [HS1]; · iexact HS1
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      exact View.read_writes_of_cover _ _ _ _ _ (active_cover c _ _ _ _ _ _ _ _ _ _ _ _ _ _ _ _ _ _ _)
  · rw [outOf_dead m ρ hn c t h]
    iintro ⟨⟨⟨%a0, HS0⟩, ⟨%a1, HS1⟩, HT0, HT1⟩, Ho, ⟨%d0, H0⟩, ⟨%d1, H1⟩, ⟨%d2, H2⟩, ⟨%d3, H3⟩, ⟨%d4, H4⟩⟩
    iapply ((deadRun m ρ hn c t h).2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]; · iexact HS0
      isplitl [HS1]; · iexact HS1
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      exact View.read_writes_of_cover _ _ _ _ _ (inactive_cover c _ _ _ _ _ _ _ _ _ _ _ _ _ _ _ _ _ _ _)

/-- So at every point. -/
theorem body_obligation (c : Dev nD) : BodyObligation (dats m ρ hn 0 c) (defs₀ (F := F)) Variants.none () Set.univ := fun t => by
  rw [bigSep_W0]
  exact body_runs m ρ hn c t

/-! ## The launch -/

/-- The proof's resource algebra, embedded whole, and the launch's element of it. -/
abbrev EP : Emb (UR sig nD τ) 𝕄 := emb₁
def u₀ : UR sig nD τ :=
  initOf (Pipeline.cells (pcs m hn) ((launch0 (F := F)).cellOf_inj fun _ => adm m hn))
    (Pipeline.launchToks (pcs m hn) ((launch0 (F := F)).cellOf_inj fun _ => adm m hn))

theorem share_eq (c : Dev nD) (w : Fin (cfgA m hn).W) : (dats m ρ hn 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The tables and the scratch buffers are what is held before the first point; -/
theorem first_point (c : Dev nD) :
    iprop(BI.emp ∗ Pipeline.prefHeld pre0 c (fun _ => fullShare.right) (adm m hn).1 ∗ Pipeline.scopedRest spec0 c) ⊢ (dats m ρ hn 0 c).Φ 0 := by
  rw [tables_held, scopedRest0_eq, show (dats m ρ hn 0 c).Φ 0 = Between m c from rfl]
  unfold Between
  iintro ⟨-, ⟨HT0, HT1⟩, ⟨%a0, HS0⟩, ⟨%a1, HS1⟩⟩
  isplitl [HS0]; · iexists a0; iexact HS0
  isplitl [HS1]; · iexists a1; iexact HS1
  isplitl [HT0]; · iexact HT0
  iexact HT1

/-- what is held after the last gives the scratch buffers back. -/
theorem last_point (c : Dev nD) : (dats m ρ hn 0 c).Φ (Fin.last (cfgA m hn).N) ⊢ iprop(BI.emp ∗ Pipeline.scopedRest spec0 c) := by
  rw [scopedRest0_eq, show (dats m ρ hn 0 c).Φ (Fin.last (cfgA m hn).N) = Between m c from rfl]
  unfold Between
  iintro ⟨⟨%a0, HS0⟩, ⟨%a1, HS1⟩, -, -⟩
  isplitr; · iempintro
  isplitl [HS0]
  · iexists a0; iexact HS0
  iexists a1; iexact HS1

/-- Every array at what the grid's run leaves in it, every table as it was. -/
def Ends : PUnit × MemSt nD τ sig (Elt F) → Prop := fun r =>
  ∀ c : Dev nD, (∀ w : Fin (cfgA m hn).W, r.2.mem (((cfgA m hn).win w).arr.view.loc (c : Thread nD τ)) = (dats m ρ hn 0 c).arrAt w (cfgA m hn).N)
    ∧ ∀ j, r.2.mem ((c : Thread nD τ).loc (pre0.ref j)) = (adm m hn).1 j

theorem tables_eq (c : Dev nD) (j : Fin 2) : m ((c : Thread nD τ).loc (pre0.ref j)) = (adm m hn).1 j := by
  obtain rfl : c = dev0 := Subsingleton.elim _ _
  fin_cases j <;> rfl

set_option backward.isDefEq.respectTransparency.types false in
set_option maxHeartbeats 4000000 in
/-- From any memory whose tables name experts, every fair execution ends, with each array at what the grid's run leaves
    in it and every semaphore counter at zero. -/
theorem run_main : θ_run (defs (F := F)) (onTc (τ := τ) (main (F := F))) (s₀ m ρ) (fun r => Ends m ρ hn r ∧ r.2.sem = fun _ => 0) :=
  Pipeline.θ_run_region_noSem_pf_quiescent pcfgs (fun _ => adm m hn) (dats m ρ hn) () ((launch0 (F := F)).cellOf_inj fun _ => adm m hn) (0 : Fin 1)
    (launch0 (F := F)).win.to₀ (launch0 (F := F)).pre EP defs₀ Variants.none m ρ main
    (hbody := fun c => (body_obligation m ρ hn c).loose) (hne := (launch0 (F := F)).block_pos)
    (harr := (launch0 (F := F)).arr_whole) (hstage := (launch0 (F := F)).stage_whole) (howed := fun _ _ => rfl)
    (u₀ := u₀ m hn) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hn) (dats m ρ hn) 0 (launch0 (F := F)).win.arr_inj c (launch0 (F := F)).arr_whole
      (share_eq m ρ hn c) _ _ fun _ => rfl)
    (hpf := tables_eq m hn)
    (X := fun _ => iprop(emp)) (Y := fun _ => iprop(emp)) (Z := fun _ => iprop(emp))
    (hX := fun c => by rw [unscopedRestP0_eq]; iintro -; isplitr <;> iempintro)
    (hin := first_point m ρ hn)
    (hout := last_point m ρ hn)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- From any memory whose tables name experts, every fair execution ends, the result array at what the grid's run leaves
    in it, every argument as it was and every semaphore counter at zero. -/
theorem run_ends : θ_run (defs (F := F)) (onTc (τ := τ) (main (F := F))) ⟨m, fun _ => 0, ρ⟩ (fun r => (∀ c : Dev nD,
      r.2.mem ((c.tc : Thread nD τ).loc main_v0) = (dats m ρ hn 0 c).arrAt (4 : Fin 5) (cfgA m hn).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats m ρ hn 0 c).arrAt_in (0 : Fin 5) rfl _),
    ((h.1 c).2 0).trans (tables_eq m hn c 0).symm, ((h.1 c).2 1).trans (tables_eq m hn c 1).symm,
    ((h.1 c).1 (1 : Fin 5)).trans ((dats m ρ hn 0 c).arrAt_in (1 : Fin 5) rfl _), ((h.1 c).1 (2 : Fin 5)).trans ((dats m ρ hn 0 c).arrAt_in (2 : Fin 5) rfl _),
    ((h.1 c).1 (3 : Fin 5)).trans ((dats m ρ hn 0 c).arrAt_in (3 : Fin 5) rfl _)⟩, h.2⟩) (run_main m ρ hn)

end Cert.ExpertsIdeal.Run
-- ==== Proof.ExpertsIdealNamed.lean ====
module
public import proofs.«01_k».proof.Proof.ExpertsIdealFrame
public import proofs.«01_k».proof.Proof.Gen.Pre_named_experts
public import Idealize.ShloMosaic.Lib.Pointwise

/-! Where every tile's expert is one of the eight, the tables name experts. -/

@[expose] public section
set_option maxRecDepth 16384
noncomputable section

namespace Cert.ExpertsIdeal.Run
open Cert.ExpertsIdeal Cert.ExpertsIdeal.Gen
open Idealize.ShloMosaic Idealize.ShloMosaic.TcCoe

variable {F : FTy → Type} [FloatOps F] (m : (ℓ : Loc nD τ sig) → Buf (Elt F) ℓ)

/-- A word that is at least 0 and below 8, as signed words, is below 8 as a number. -/
theorem word_lt (v : BitVec 32) (h : IntOp.andi (IntOp.cmpi .sge v 0#32) (IntOp.cmpi .slt v 8#32) = 1#1) : v.toNat < 8 := by
  have key : ∀ a b : Bool, IntOp.andi (BitVec.ofBool a) (BitVec.ofBool b) = 1#1 → a = true ∧ b = true := by decide
  obtain ⟨h0, h8⟩ := key (BitVec.sle 0#32 v) (BitVec.slt v 8#32) h
  rw [BitVec.sle_iff_toInt_le] at h0
  rw [BitVec.slt_iff_toInt_lt] at h8
  have e0 : (0#32 : BitVec 32).toInt = 0 := rfl
  have e8 : (8#32 : BitVec 32).toInt = 8 := rfl
  rw [e0] at h0
  rw [e8] at h8
  rw [BitVec.toInt_eq_toNat_cond] at h0 h8
  have := v.isLt
  split at h8 <;> omega

/-- The precondition, tile by tile. -/
theorem lt_of_pre (x0 : FVec F Cert.Pre_named_experts.S1081344x128 .f32) (x1 : IVec Cert.Pre_named_experts.S264 32) (x2 : IVec Cert.Pre_named_experts.S1 32)
    (x3 x4 : FVec F Cert.Pre_named_experts.S8x1024x2048 .bf16) (x5 : FVec F Cert.Pre_named_experts.S8x2048x1024 .bf16)
    (h : Cert.Pre_named_experts.fn (F := F) x0 x1 x2 x3 x4 x5 = fun _ => 1#1) (i : Cert.Pre_named_experts.S264.Idx) : (x1 i).toNat < 8 :=
  word_lt _ (congrFun h i)

/-- The word the index maps read at a grid point is the table's at its number. -/
theorem word_at (i : grid0.Coords) :
    (tables m).at 0 (Rect.unit (s := S264) ![(Scalar.indexCast (BitVec.ofNat 32 (i 0).val)).toNat] S1.size (k0_off1_inb i)) numel1_S1
      = expOf m (ix1 ⟨(i 0).val, (i 0).isLt⟩) := by
  have hi : (i 0).val < 264 := (i 0).isLt
  refine congrArg (expOf m) (funext fun (a : Fin 1) => Fin.ext ?_)
  obtain rfl : a = 0 := Subsingleton.elim _ _
  show (BitVec.ofNat 32 (i 0).val).toNat + 1 * 0 = (i 0).val
  rw [BitVec.toNat_ofNat, Nat.mod_eq_of_lt (by omega)]
  omega

/-- So the tables name experts. -/
theorem named_of_lt (h : ∀ i, (expOf m i).toNat < 8) : Named m := by
  have hw : ∀ i : grid0.Coords, ((tables m).at 0 (Rect.unit (s := S264) ![(Scalar.indexCast (BitVec.ofNat 32 (i 0).val)).toNat] S1.size (k0_off1_inb i)) numel1_S1).toNat < 8 :=
    fun i => by rw [word_at]; exact h _
  refine ⟨fun i => ⟨fun | 0 => ?_ | 1 => ?_ | 2 => ?_, .inr (Affine.block_words_dvd (s := S8x1024x2048) (p := EltTy.packing .bf16) (by decide) (by decide))⟩,
    fun i => ⟨fun | 0 => ?_ | 1 => ?_ | 2 => ?_, .inr (Affine.block_words_dvd (s := S8x1024x2048) (p := EltTy.packing .bf16) (by decide) (by decide))⟩,
    fun i => ⟨fun | 0 => ?_ | 1 => ?_ | 2 => ?_, .inr (Affine.block_words_dvd (s := S8x2048x1024) (p := EltTy.packing .bf16) (by decide) (by decide))⟩⟩
  · have := hw i; show (_ + 1) * 1 ≤ 8; exact (Nat.mul_one _).le.trans this
  · show (0 + 1) * 1024 ≤ 1024; decide
  · show (0 + 1) * 2048 ≤ 2048; decide
  · have := hw i; show (_ + 1) * 1 ≤ 8; exact (Nat.mul_one _).le.trans this
  · show (0 + 1) * 1024 ≤ 1024; decide
  · show (0 + 1) * 2048 ≤ 2048; decide
  · have := hw i; show (_ + 1) * 1 ≤ 8; exact (Nat.mul_one _).le.trans this
  · show (0 + 1) * 2048 ≤ 2048; decide
  · show (0 + 1) * 1024 ≤ 1024; decide

end Cert.ExpertsIdeal.Run
end
-- ==== Proof.ExpertsValue.lean ====
module
public import proofs.«01_k».proof.Proof.ExpertsPoint
public import proofs.«01_k».proof.Proof.ExpertsIdealNamed
public import Idealize.ShloMosaic.Lib.Pipeline.Covers
public import Idealize.ShloMosaic.Lib.Pipeline.ValueKit

/-! The array the experts' kernel leaves, entry by entry. -/

@[expose] public section
set_option maxRecDepth 16384
noncomputable section

namespace Moe
open Idealize.ShloMosaic Idealize.ShloMosaic.TcCoe Cert.ExpertsIdeal Cert.ExpertsIdeal.Gen Cert.ExpertsIdeal.Run Idealize.SL.Sem

/-- What a list of pieces leaves at an entry of the newest one, every eighth row from the `o`-th on. -/
theorem strided_hit (o : ℕ) (h : ∀ a : Fin S4096x128.rank, S512x128.size a = 0 ∨ ![o, 0] a + ![8, 1] a * (S512x128.size a - 1) < S4096x128.size a)
    (w : S512x128.Idx → Elt Ideal .f32) (L : List (View.Piece (Elt Ideal) S4096x128 .f32)) (y : Fin 4096) (r : Fin 512) (k : Fin 128) (hy : y.val = o + 8 * r.val) :
    View.canon (⟨(⟨(⟨![o, 0], S512x128.size, ![8, 1], h⟩ : LoadRect S4096x128), spos_8_1⟩ : Rect S4096x128), w⟩ :: L) (ix2 y k) = w (ix2 r k) := by
  have e : (ix2 y k : S4096x128.Idx) = (⟨(⟨![o, 0], S512x128.size, ![8, 1], h⟩ : LoadRect S4096x128), spos_8_1⟩ : Rect S4096x128).emb (ix2 r k) :=
    funext fun | 0 => Fin.ext (by show y.val = o + 8 * r.val; omega) | 1 => Fin.ext (by show k.val = 0 + 1 * k.val; omega)
  rw [e]
  exact View.canon_cons_emb (⟨(⟨![o, 0], S512x128.size, ![8, 1], h⟩ : LoadRect S4096x128), spos_8_1⟩ : Rect S4096x128) w L (ix2 r k)

/-- And at an entry of another row. -/
theorem strided_miss (o : ℕ) (h : ∀ a : Fin S4096x128.rank, S512x128.size a = 0 ∨ ![o, 0] a + ![8, 1] a * (S512x128.size a - 1) < S4096x128.size a)
    (w : S512x128.Idx → Elt Ideal .f32) (L : List (View.Piece (Elt Ideal) S4096x128 .f32)) (y : Fin 4096) (k : Fin 128) (hy : y.val % 8 ≠ o % 8) :
    View.canon (⟨(⟨(⟨![o, 0], S512x128.size, ![8, 1], h⟩ : LoadRect S4096x128), spos_8_1⟩ : Rect S4096x128), w⟩ :: L) (ix2 y k) = View.canon L (ix2 y k) := by
  refine View.canon_cons_of_not_mem _ L fun hm => hy ?_
  obtain ⟨j, -, e⟩ := (LoadRect.mem_set _).1 hm 0
  have e' : y.val = o + 8 * j := e
  omega

variable (c : Dev nD) (i : grid0.Coords)
    (m3 : Memref sig .tc .vmem S4096x128 .f32) (h3 : m3.IsWhole)
    (m4 : Memref sig .tc .vmem S1x1024x2048 .bf16) (h4 : m4.IsWhole)
    (m5 : Memref sig .tc .vmem S1x1024x2048 .bf16) (h5 : m5.IsWhole)
    (m6 : Memref sig .tc .vmem S1x2048x1024 .bf16) (h6 : m6.IsWhole)
    (m7 : Memref sig .tc .vmem S4096x128 .f32) (h7 : m7.IsWhole)
    (T0 : S264.Idx → Elt Ideal .i32) (T1 : S1.Idx → Elt Ideal .i32)
    (x : S4096x128.Idx → Elt Ideal .f32) (g u : S1x1024x2048.Idx → Elt Ideal .bf16) (w : S1x2048x1024.Idx → Elt Ideal .bf16)

/-- An active point's block: stored row `8 r + s`, lane `l` is output `128 s + l` of the tile's row `r`. -/
theorem live_apply (h1 : k0_cond1 i (count (F := Ideal) T1) = 1#1) (h2 : ¬ k0_cond2 i (count (F := Ideal) T1) = 1#1)
    (y : Fin 4096) (k : Fin 128) :
    outView.read (Elt Ideal) (outView.writes (Elt Ideal) outView.junk (active (F := Ideal) c i m3 h3 m4 h4 m5 h5 m6 h6 m7 h7 T0 T1 x g u w h1 h2).1) (ix2 y k)
      = ∑ f, part (rowOf x ⟨y.val / 8, by omega⟩) g u w ⟨128 * (y.val % 8) + k.val, by omega⟩ f := by
  rw [View.read_writes_junk_apply_eq_canon]
  have hk := k.isLt
  have hy : y.val / 8 < 512 := by omega
  unfold active
  dsimp only
  rcases (show y.val % 8 = 0 ∨ y.val % 8 = 1 ∨ y.val % 8 = 2 ∨ y.val % 8 = 3 ∨ y.val % 8 = 4
      ∨ y.val % 8 = 5 ∨ y.val % 8 = 6 ∨ y.val % 8 = 7 by omega) with h | h | h | h | h | h | h | h
  · rw [strided_miss, strided_miss, strided_miss, strided_miss, strided_miss, strided_miss, strided_miss, strided_hit 0 _ _ _ y ⟨y.val / 8, hy⟩ k (by show y.val = 0 + 8 * (y.val / 8); omega)]
    · rw [active.sl.v143, load_sums (hk := by omega)]
      simp only [h]
    all_goals omega
  · rw [strided_miss, strided_miss, strided_miss, strided_miss, strided_miss, strided_miss, strided_hit 1 _ _ _ y ⟨y.val / 8, hy⟩ k (by show y.val = 1 + 8 * (y.val / 8); omega)]
    · rw [active.sl.v145, load_sums (hk := by omega)]
      simp only [h]
    all_goals omega
  · rw [strided_miss, strided_miss, strided_miss, strided_miss, strided_miss, strided_hit 2 _ _ _ y ⟨y.val / 8, hy⟩ k (by show y.val = 2 + 8 * (y.val / 8); omega)]
    · rw [active.sl.v147, load_sums (hk := by omega)]
      simp only [h]
    all_goals omega
  · rw [strided_miss, strided_miss, strided_miss, strided_miss, strided_hit 3 _ _ _ y ⟨y.val / 8, hy⟩ k (by show y.val = 3 + 8 * (y.val / 8); omega)]
    · rw [active.sl.v149, load_sums (hk := by omega)]
      simp only [h]
    all_goals omega
  · rw [strided_miss, strided_miss, strided_miss, strided_hit 4 _ _ _ y ⟨y.val / 8, hy⟩ k (by show y.val = 4 + 8 * (y.val / 8); omega)]
    · rw [active.sl.v151, load_sums (hk := by omega)]
      simp only [h]
    all_goals omega
  · rw [strided_miss, strided_miss, strided_hit 5 _ _ _ y ⟨y.val / 8, hy⟩ k (by show y.val = 5 + 8 * (y.val / 8); omega)]
    · rw [active.sl.v153, load_sums (hk := by omega)]
      simp only [h]
    all_goals omega
  · rw [strided_miss, strided_hit 6 _ _ _ y ⟨y.val / 8, hy⟩ k (by show y.val = 6 + 8 * (y.val / 8); omega)]
    · rw [active.sl.v, load_sums (hk := by omega)]
      simp only [h]
    all_goals omega
  · rw [strided_hit 7 _ _ _ y ⟨y.val / 8, hy⟩ k (by show y.val = 7 + 8 * (y.val / 8); omega)]
    rw [active.sl.v157, load_sums (hk := by omega)]
    simp only [h]

/-- An inactive point's block is zero. -/
theorem dead_apply (h1 : ¬ k0_cond1 i (count (F := Ideal) T1) = 1#1) (h2 : k0_cond2 i (count (F := Ideal) T1) = 1#1)
    (y : S4096x128.Idx) :
    outView.read (Elt Ideal) (outView.writes (Elt Ideal) outView.junk (inactive (F := Ideal) c i m3 h3 m4 h4 m5 h5 m6 h6 m7 h7 T0 T1 x g u w h1 h2).1) y = (0 : EReal) := by
  rw [View.read_writes_junk_apply_eq_canon]
  unfold inactive
  dsimp only
  unfold inactive.sl.HO4_1
  have e : (y : S4096x128.Idx) = (Rect.unit (s := S4096x128) ![0, 0] S4096x128.size inb_S4096x128_S4096x128_0_0).emb y :=
    funext fun | 0 => Fin.ext (by show (y 0).val = 0 + 1 * (y 0).val; omega) | 1 => Fin.ext (by show (y 1).val = 0 + 1 * (y 1).val; omega)
  rw [e]
  exact (View.canon_cons_emb (Rect.unit (s := S4096x128) ![0, 0] S4096x128.size inb_S4096x128_S4096x128_0_0) _ _ y).trans (pay1_apply _)

end Moe
end
-- ==== Proof.ExpertsReference.lean ====
module
public import proofs.«01_k».proof.Proof.Gen.ExpertsReferenceIdeal.Read
public import proofs.«01_k».proof.Proof.ExpertsPay
public import Idealize.ShloMosaic.Lib.Pointwise
public import Idealize.ShloMosaic.Lib.WordCmp

/-! The experts' reference at an entry. -/

@[expose] public section
set_option maxRecDepth 16384
noncomputable section

namespace Moe
open Idealize.ShloMosaic

/-- The expert a tile's word names. -/
def named (v : BitVec 32) : Fin 8 := ⟨v.toNat % 8, Nat.mod_lt _ (by decide)⟩

/-- What expert `e` makes of row `ρ` of the dispatched rows, at output `n`: the gated hidden units times the expert's last matrix. A row of
1024 numbers is stored as eight rows of 128. -/
def expert (X : (⟨_, ![1081344, 128]⟩ : Shape).Idx → EReal) (g u : (⟨_, ![8, 1024, 2048]⟩ : Shape).Idx → EReal) (w : (⟨_, ![8, 2048, 1024]⟩ : Shape).Idx → EReal)
    (e : Fin 8) (ρ : Fin 135168) (n : Fin 1024) : EReal :=
  ∑ f : Fin 2048, unit (fun d => X (ix2 ⟨8 * ρ.val + d.val / 128, by omega⟩ ⟨d.val % 128, Nat.mod_lt _ (by decide)⟩))
    (fun d => g (ix3 e d f)) (fun d => u (ix3 e d f)) * w (ix3 e f n)

/-- The experts' layer at stored row `R`, lane `l`: the tile's expert if the tile is active, and zero if it is not. -/
def layer (X : (⟨_, ![1081344, 128]⟩ : Shape).Idx → EReal) (T : (⟨_, ![264]⟩ : Shape).Idx → BitVec 32) (N : (⟨_, ![1]⟩ : Shape).Idx → BitVec 32)
    (g u : (⟨_, ![8, 1024, 2048]⟩ : Shape).Idx → EReal) (w : (⟨_, ![8, 2048, 1024]⟩ : Shape).Idx → EReal) (R : Fin 1081344) (l : Fin 128) : EReal :=
  if (BitVec.ofNat 32 (R.val / 4096)).slt (N (ix1 0)) = true then
    expert X g u w (named (T (ix1 ⟨R.val / 4096, by omega⟩))) ⟨R.val / 8, by omega⟩ ⟨128 * (R.val % 8) + l.val, by omega⟩
  else 0

namespace Ref
open Idealize.ShloMosaic.TcCoe Cert.ExpertsReferenceIdeal Cert.ExpertsReferenceIdeal.Gen Cert.ExpertsReferenceIdeal.Read

variable (x0 : FVec Ideal S1081344x128 .f32) (x1 : IVec S264 32) (x2 : IVec S1 32) (x3 x4 : FVec Ideal S8x1024x2048 .bf16) (x5 : FVec Ideal S8x2048x1024 .bf16)

/-- A bit as a number. -/
theorem bit_value (p q : Bool) : FloatOps.uitofp (F := Ideal) .f32 (IntOp.andi (BitVec.ofBool p) (BitVec.ofBool q)) = if p = true ∧ q = true then (1 : EReal) else 0 := by
  cases p <;> cases q <;> simp [IntOp.andi, FloatOps.uitofp]

/-- The weight of expert `e` for row `ρ`: one if the row's tile is active and names `e`, zero otherwise. -/
theorem weight (ρ : Fin 135168) (e : Fin 8) (n : Fin 1024) :
    val_main_v28 (F := Ideal) x1 x2 (ix3 ρ e n) = if (x1 (ix1 ⟨ρ.val / 512, by omega⟩) == BitVec.ofNat 32 e.val) = true ∧ (BitVec.ofNat 32 (ρ.val / 512)).slt (x2 (ix1 0)) = true then (1 : EReal) else 0 := by
  have he := e.isLt
  have ht : (ρ.val * 8 + e.val) / 4096 = ρ.val / 512 := by omega
  have hk : (ρ.val * 8 + e.val) % 8 = e.val := by omega
  rw [← bit_value, val_main_v28_apply, val_main_v27_apply, val_main_v20_apply, val_main_v19_apply, val_main_v18_apply, val_main_v17_apply, val_main_v16_apply,
    val_main_v10_apply, val_main_v15_apply, val_main_v14_apply, val_main_v8_apply, val_main_v5_apply, val_main_v9_apply, val_main_v7_apply, val_main_v6_apply,
    val_main_v11_apply, val_main_v4_apply, val_main_v13_apply, val_main_v12_apply]
  refine congrArg (FloatOps.uitofp (F := Ideal) .f32) (congrArg₂ IntOp.andi ?_ ?_)
  · refine congrArg BitVec.ofBool (congrArg₂ (· == ·) (congrArg x1 (funext fun (a : Fin 1) => Fin.ext ?_)) (congrArg (BitVec.ofNat 32) ?_))
    · obtain rfl : a = 0 := Subsingleton.elim _ _
      exact ht
    · exact hk
  · refine congrArg BitVec.ofBool (congrArg₂ BitVec.slt (congrArg (BitVec.ofNat 32) ht) (congrArg x2 (funext fun (a : Fin 1) => Fin.ext ?_)))
    obtain rfl : a = 0 := Subsingleton.elim _ _
    rfl

/-- A row's product with a column of the first matrix. -/
theorem gate (ρ : Fin 135168) (e : Fin 8) (f : Fin 2048) :
    val_main_v21 (F := Ideal) x0 x3 (ix3 ρ e f) = ∑ d : Fin 1024, x0 (ix2 ⟨8 * ρ.val + d.val / 128, by omega⟩ ⟨d.val % 128, Nat.mod_lt _ (by decide)⟩) * x3 (ix3 e d f) := by
  rw [val_main_v21_apply]
  refine Finset.sum_congr rfl fun d _ => ?_
  rw [val_main_v0_apply, val_main_v1_apply]
  refine congrArg₂ (· * ·) (congrArg x0 (funext fun a => Fin.ext ?_)) (congrArg x3 (funext fun a => Fin.ext ?_))
  · match a with
    | 0 => show (ρ.val * 1024 + d.val) / 128 = 8 * ρ.val + d.val / 128; omega
    | 1 => show (ρ.val * 1024 + d.val) % 128 = d.val % 128; omega
  · match a with
    | 0 => rfl
    | 1 => rfl
    | 2 => rfl

/-- And of the second. -/
theorem up (ρ : Fin 135168) (e : Fin 8) (f : Fin 2048) :
    val_main_v23 (F := Ideal) x0 x4 (ix3 ρ e f) = ∑ d : Fin 1024, x0 (ix2 ⟨8 * ρ.val + d.val / 128, by omega⟩ ⟨d.val % 128, Nat.mod_lt _ (by decide)⟩) * x4 (ix3 e d f) := by
  rw [val_main_v23_apply]
  refine Finset.sum_congr rfl fun d _ => ?_
  rw [val_main_v0_apply, val_main_v2_apply]
  refine congrArg₂ (· * ·) (congrArg x0 (funext fun a => Fin.ext ?_)) (congrArg x4 (funext fun a => Fin.ext ?_))
  · match a with
    | 0 => show (ρ.val * 1024 + d.val) / 128 = 8 * ρ.val + d.val / 128; omega
    | 1 => show (ρ.val * 1024 + d.val) % 128 = d.val % 128; omega
  · match a with
    | 0 => rfl
    | 1 => rfl
    | 2 => rfl

/-- The word of one. -/
theorem word_1 : Ideal.ofBits .f32 0x3F800000#32 = (1 : EReal) := by
  simp [Ideal.ofBits, Ideal.ieee]
  rw [← EReal.coe_mul]
  norm_num

/-- A hidden unit. -/
theorem hidden (ρ : Fin 135168) (e : Fin 8) (f : Fin 2048) :
    val_main_v24 (F := Ideal) x0 x3 x4 (ix3 ρ e f) = unit (fun d => x0 (ix2 ⟨8 * ρ.val + d.val / 128, by omega⟩ ⟨d.val % 128, Nat.mod_lt _ (by decide)⟩))
      (fun d => x3 (ix3 e d f)) (fun d => x4 (ix3 e d f)) := by
  rw [val_main_v24_apply, val_main_v22_apply, val_main_call0_v5_apply, val_main_call0_v4_apply, val_main_call0_cst_0_apply, val_main_call0_v3_apply,
    val_main_call0_v2_apply, val_main_call0_cst_apply, val_main_call0_v1_apply, val_main_call0_v0_apply, gate, up]
  unfold unit gated
  generalize (∑ d : Fin 1024, x0 (ix2 ⟨8 * ρ.val + d.val / 128, _⟩ ⟨d.val % 128, _⟩) * x3 (ix3 e d f)) = a
  generalize (∑ d : Fin 1024, x0 (ix2 ⟨8 * ρ.val + d.val / 128, _⟩ ⟨d.val % 128, _⟩) * x4 (ix3 e d f)) = b
  show a * Ideal.div (Ideal.ofBits .f32 0x3F800000#32) (Ideal.ofBits .f32 0x3F800000#32 + Ideal.exp (-a)) * b = _
  rw [word_1, zero_sub]

/-- Expert `e`'s output for row `ρ`. -/
theorem output (ρ : Fin 135168) (e : Fin 8) (n : Fin 1024) : val_main_v26 (F := Ideal) x0 x3 x4 x5 (ix3 ρ e n) = expert x0 x3 x4 x5 e ρ n := by
  rw [val_main_v26_apply, val_main_v25_apply]
  unfold expert
  refine Finset.sum_congr rfl fun f _ => ?_
  rw [mul_comm, val_main_v3_apply, ← hidden]
  refine congrArg₂ (· * ·) (congrArg (val_main_v24 (F := Ideal) x0 x3 x4) (funext fun a => Fin.ext ?_)) (congrArg x5 (funext fun a => Fin.ext ?_))
  · match a with
    | 0 => rfl
    | 1 => rfl
    | 2 => rfl
  · match a with
    | 0 => rfl
    | 1 => rfl
    | 2 => rfl

/-- The word of zero. -/
theorem word_0 : Ideal.ofBits .f32 0x00000000#32 = (0 : EReal) := by
  simp [Ideal.ofBits, Ideal.ieee]

/-- The reference is the experts' layer. -/
theorem main_apply (h : ∀ i, (x1 i).toNat < 8) (R : Fin 1081344) (l : Fin 128) :
    val_main_v31 (F := Ideal) x0 x1 x2 x3 x4 x5 (ix2 R l) = layer x0 x1 x2 x3 x4 x5 R l := by
  have hl := l.isLt
  have hR : (R.val * 128 + l.val) / 1024 = R.val / 8 := by omega
  have hn : (R.val * 128 + l.val) % 1024 = 128 * (R.val % 8) + l.val := by omega
  have hT : R.val / 8 / 512 = R.val / 4096 := by omega
  have key : ∀ e : Fin 8, val_main_v29 (F := Ideal) x0 x1 x2 x3 x4 x5 (idx_main_v30 (idx_main_v31 (ix2 R l)) e)
      = (if (x1 (ix1 ⟨R.val / 4096, by omega⟩) == BitVec.ofNat 32 e.val) = true ∧ (BitVec.ofNat 32 (R.val / 4096)).slt (x2 (ix1 0)) = true then (1 : EReal) else 0)
        * expert x0 x3 x4 x5 e ⟨R.val / 8, by omega⟩ ⟨128 * (R.val % 8) + l.val, by omega⟩ := by
    intro e
    have ei : idx_main_v30 (idx_main_v31 (ix2 R l)) e = ix3 ⟨R.val / 8, by omega⟩ e ⟨128 * (R.val % 8) + l.val, by omega⟩ :=
      funext fun a => Fin.ext (by
        match a with
        | 0 => exact hR
        | 1 => rfl
        | 2 => exact hn)
    rw [val_main_v29_apply, ei, weight, output]
    simp only [hT]
    rfl
  rw [val_main_v31_apply, val_main_v30_apply, val_main_cst_apply]
  simp only [key]
  show Ideal.ofBits .f32 0x00000000#32 + _ = _
  rw [word_0, zero_add]
  unfold layer
  by_cases hs : (BitVec.ofNat 32 (R.val / 4096)).slt (x2 (ix1 0)) = true
  · have hv := h (ix1 ⟨R.val / 4096, by omega⟩)
    rw [if_pos hs]
    generalize x1 (ix1 ⟨R.val / 4096, _⟩) = v at hv ⊢
    rw [Finset.sum_eq_single (named v)]
    · have e : v = BitVec.ofNat 32 (named v).val := BitVec.eq_of_toNat_eq (by
        show v.toNat = (BitVec.ofNat 32 (v.toNat % 8)).toNat
        rw [BitVec.toNat_ofNat]; omega)
      rw [if_pos ⟨beq_iff_eq.2 e, hs⟩, one_mul]
    · intro e _ he
      rw [if_neg, zero_mul]
      rintro ⟨h1, -⟩
      refine he (Fin.ext ?_)
      have := congrArg BitVec.toNat (beq_iff_eq.1 h1)
      rw [BitVec.toNat_ofNat] at this
      show e.val = v.toNat % 8
      omega
    · exact fun hh => absurd (Finset.mem_univ _) hh
  · rw [if_neg hs]
    refine Finset.sum_eq_zero fun e _ => ?_
    rw [if_neg (fun hh => hs hh.2), zero_mul]

end Ref
end Moe
end
-- ==== Proof.ExpertsBlocks.lean ====
module
public import proofs.«01_k».proof.Proof.ExpertsValue
public import proofs.«01_k».proof.Proof.ExpertsReference

/-! Which part of the arguments a grid point's blocks hold, and the array the experts' kernel leaves. -/

@[expose] public section
set_option maxRecDepth 16384
noncomputable section

namespace Moe
open Idealize.ShloMosaic Idealize.ShloMosaic.TcCoe Cert.ExpertsIdeal Cert.ExpertsIdeal.Gen Cert.ExpertsIdeal.Run Idealize.SL.Sem

variable (m : (ℓ : Loc nD τ sig) → Buf (Elt Ideal) ℓ) (ρ : Dev nD → PrngReg) (hn : Named m) (c : Dev nD)

/-- A point's only coordinate is its number. -/
theorem crd_val : ∀ t : Fin grid0.N, (grid0.coords t 0).val = t.val := by decide +kernel

/-- There are 264 points. -/
theorem points_lt (t : Fin (cfgA m hn).N) : t.val < 264 := lt_of_lt_of_eq t.isLt (show grid0.N = 264 by decide)

/-- The word of a grid point's tile, which names its expert. -/
abbrev wordOf (t : Fin (cfgA m hn).N) : BitVec 32 := expOf m (ix1 ⟨t.val, points_lt m hn t⟩)

theorem word_point (t : Fin (cfgA m hn).N) :
    (tables m).at 0 (Rect.unit (s := S264) ![(Scalar.indexCast (BitVec.ofNat 32 (crd m hn t 0).val)).toNat] S1.size (k0_off1_inb (crd m hn t))) numel1_S1 = wordOf m hn t := by
  rw [word_at]
  exact congrArg (fun k : Fin 264 => expOf m (ix1 k)) (Fin.ext (crd_val t))

theorem index_rows (t : Fin (cfgA m hn).N) : ((cfgA m hn).win (0 : Fin 5)).index t = ![t.val, 0] := by
  have e : (BitVec.ofNat 32 (crd m hn t 0).val).toNat = t.val := by
    have h := crd_val t
    have := points_lt m hn t
    show (BitVec.ofNat 32 (grid0.coords t 0).val).toNat = t.val
    rw [h, BitVec.toNat_ofNat]; omega
  show ![(BitVec.ofNat 32 (crd m hn t 0).val).toNat, 0] = _
  rw [e]

theorem index_gate (t : Fin (cfgA m hn).N) : ((cfgA m hn).win (1 : Fin 5)).index t = ![(wordOf m hn t).toNat, 0, 0] := by
  rw [← word_point]; rfl

theorem index_up (t : Fin (cfgA m hn).N) : ((cfgA m hn).win (2 : Fin 5)).index t = ![(wordOf m hn t).toNat, 0, 0] := by
  rw [← word_point]; rfl

theorem index_down (t : Fin (cfgA m hn).N) : ((cfgA m hn).win (3 : Fin 5)).index t = ![(wordOf m hn t).toNat, 0, 0] := by
  rw [← word_point]; rfl

theorem index_out (t : Fin (cfgA m hn).N) : ((cfgA m hn).win (4 : Fin 5)).index t = ![t.val, 0] := index_rows m hn t

/-- The rows of a point. -/
theorem rows_block (t : Fin (cfgA m hn).N) (a : Fin 4096) (b : Fin 128) :
    iblk m ρ hn c (0 : Fin 5) t (ix2 a b) = m ((c : Thread nD τ).loc main_arg0) (ix2 ⟨4096 * t.val + a.val, by have := points_lt m hn t; omega⟩ b) := by
  have e := index_rows m hn t
  refine congrArg (m ((c : Thread nD τ).loc main_arg0)) (funext fun k => Fin.ext ?_)
  match k with
  | 0 =>
    show ((cfgA m hn).win (0 : Fin 5)).index t 0 * 4096 + 1 * a.val = 4096 * t.val + a.val
    rw [e]; show t.val * 4096 + 1 * a.val = _; omega
  | 1 =>
    show ((cfgA m hn).win (0 : Fin 5)).index t 1 * 128 + 1 * b.val = b.val
    rw [e]; show 0 * 128 + 1 * b.val = _; omega

/-- The point's expert's first matrix. -/
theorem gate_block (hlt : ∀ i, (expOf m i).toNat < 8) (t : Fin (cfgA m hn).N) (d : Fin 1024) (f : Fin 2048) :
    iblk m ρ hn c (1 : Fin 5) t (ix3 0 d f) = m ((c : Thread nD τ).loc main_arg3) (ix3 (named (wordOf m hn t)) d f) := by
  have e := index_gate m hn t
  have hw : (wordOf m hn t).toNat < 8 := hlt _
  refine congrArg (m ((c : Thread nD τ).loc main_arg3)) (funext fun k => Fin.ext ?_)
  match k with
  | 0 =>
    show ((cfgA m hn).win (1 : Fin 5)).index t 0 * 1 + 1 * 0 = (wordOf m hn t).toNat % 8
    rw [e]; show (wordOf m hn t).toNat * 1 + 1 * 0 = _; omega
  | 1 =>
    show ((cfgA m hn).win (1 : Fin 5)).index t 1 * 1024 + 1 * d.val = d.val
    rw [e]; show 0 * 1024 + 1 * d.val = _; omega
  | 2 =>
    show ((cfgA m hn).win (1 : Fin 5)).index t 2 * 2048 + 1 * f.val = f.val
    rw [e]; show 0 * 2048 + 1 * f.val = _; omega

/-- Its second. -/
theorem up_block (hlt : ∀ i, (expOf m i).toNat < 8) (t : Fin (cfgA m hn).N) (d : Fin 1024) (f : Fin 2048) :
    iblk m ρ hn c (2 : Fin 5) t (ix3 0 d f) = m ((c : Thread nD τ).loc main_arg4) (ix3 (named (wordOf m hn t)) d f) := by
  have e := index_up m hn t
  have hw : (wordOf m hn t).toNat < 8 := hlt _
  refine congrArg (m ((c : Thread nD τ).loc main_arg4)) (funext fun k => Fin.ext ?_)
  match k with
  | 0 =>
    show ((cfgA m hn).win (2 : Fin 5)).index t 0 * 1 + 1 * 0 = (wordOf m hn t).toNat % 8
    rw [e]; show (wordOf m hn t).toNat * 1 + 1 * 0 = _; omega
  | 1 =>
    show ((cfgA m hn).win (2 : Fin 5)).index t 1 * 1024 + 1 * d.val = d.val
    rw [e]; show 0 * 1024 + 1 * d.val = _; omega
  | 2 =>
    show ((cfgA m hn).win (2 : Fin 5)).index t 2 * 2048 + 1 * f.val = f.val
    rw [e]; show 0 * 2048 + 1 * f.val = _; omega

/-- Its third. -/
theorem down_block (hlt : ∀ i, (expOf m i).toNat < 8) (t : Fin (cfgA m hn).N) (f : Fin 2048) (n : Fin 1024) :
    iblk m ρ hn c (3 : Fin 5) t (ix3 0 f n) = m ((c : Thread nD τ).loc main_arg5) (ix3 (named (wordOf m hn t)) f n) := by
  have e := index_down m hn t
  have hw : (wordOf m hn t).toNat < 8 := hlt _
  refine congrArg (m ((c : Thread nD τ).loc main_arg5)) (funext fun k => Fin.ext ?_)
  match k with
  | 0 =>
    show ((cfgA m hn).win (3 : Fin 5)).index t 0 * 1 + 1 * 0 = (wordOf m hn t).toNat % 8
    rw [e]; show (wordOf m hn t).toNat * 1 + 1 * 0 = _; omega
  | 1 =>
    show ((cfgA m hn).win (3 : Fin 5)).index t 1 * 2048 + 1 * f.val = f.val
    rw [e]; show 0 * 2048 + 1 * f.val = _; omega
  | 2 =>
    show ((cfgA m hn).win (3 : Fin 5)).index t 2 * 1024 + 1 * n.val = n.val
    rw [e]; show 0 * 1024 + 1 * n.val = _; omega

/-- A point is active when its number is below the number of active tiles. -/
theorem live_iff (t : Fin (cfgA m hn).N) : Live m hn t ↔ (BitVec.ofNat 32 t.val).slt (numOf m (ix1 0)) = true := by
  have e : count (F := Ideal) (numOf m) = numOf m (ix1 0) := by
    refine congrArg (numOf m) (funext fun (a : Fin 1) => Fin.ext ?_)
    obtain rfl : a = 0 := Subsingleton.elim _ _
    rfl
  have h := crd_val t
  show k0_cond1 (crd m hn t) (count (F := Ideal) (numOf m)) = 1#1 ↔ _
  rw [cond1_iff, e]
  show (BitVec.ofNat 32 (grid0.coords t 0).val).slt _ = true ↔ _
  rw [h]

/-- The layer the arguments on device `c` give. -/
def layerOf (R : Fin 1081344) (l : Fin 128) : EReal :=
  layer (m ((c : Thread nD τ).loc main_arg0)) (expOf m) (numOf m) (m ((c : Thread nD τ).loc main_arg3)) (m ((c : Thread nD τ).loc main_arg4))
    (m ((c : Thread nD τ).loc main_arg5)) R l

/-- What an active point leaves, as a sum over the hidden units of its blocks. -/
theorem live_sum (t : Fin (cfgA m hn).N) (h : Live m hn t) (a : Fin 4096) (b : Fin 128) :
    outOf m ρ hn c t (ix2 a b) = ∑ f, part (rowOf (iblk m ρ hn c (0 : Fin 5) t) ⟨a.val / 8, by omega⟩) (iblk m ρ hn c (1 : Fin 5) t)
      (iblk m ρ hn c (2 : Fin 5) t) (iblk m ρ hn c (3 : Fin 5) t) ⟨128 * (a.val % 8) + b.val, by omega⟩ f := by
  rw [outOf_live m ρ hn c t h]
  exact live_apply (c := c) (i := crd m hn t) (h1 := h) (h2 := fun h2 => (cond2_iff _ _).1 h2 h) (y := a) (k := b) ..

/-- One of its terms, from the arguments. -/
theorem part_block (hlt : ∀ i, (expOf m i).toNat < 8) (t : Fin (cfgA m hn).N) (a : Fin 4096) (n : Fin 1024) (f : Fin 2048) :
    part (rowOf (iblk m ρ hn c (0 : Fin 5) t) ⟨a.val / 8, by omega⟩) (iblk m ρ hn c (1 : Fin 5) t)
      (iblk m ρ hn c (2 : Fin 5) t) (iblk m ρ hn c (3 : Fin 5) t) n f
      = unit (fun d => m ((c : Thread nD τ).loc main_arg0) (ix2 ⟨8 * (512 * t.val + a.val / 8) + d.val / 128, by have := points_lt m hn t; omega⟩ ⟨d.val % 128, Nat.mod_lt _ (by decide)⟩))
        (fun d => m ((c : Thread nD τ).loc main_arg3) (ix3 (named (wordOf m hn t)) d f)) (fun d => m ((c : Thread nD τ).loc main_arg4) (ix3 (named (wordOf m hn t)) d f))
        * m ((c : Thread nD τ).loc main_arg5) (ix3 (named (wordOf m hn t)) f n) := by
  have hx : rowOf (iblk m ρ hn c (0 : Fin 5) t) ⟨a.val / 8, by omega⟩ = fun d =>
      m ((c : Thread nD τ).loc main_arg0) (ix2 ⟨8 * (512 * t.val + a.val / 8) + d.val / 128, by have := points_lt m hn t; omega⟩ ⟨d.val % 128, Nat.mod_lt _ (by decide)⟩) := by
    funext d
    refine (rows_block m ρ hn c t _ _).trans ?_
    refine congrArg (fun R : Fin 1081344 => m ((c : Thread nD τ).loc main_arg0) (ix2 R ⟨d.val % 128, Nat.mod_lt _ (by decide)⟩)) (Fin.ext ?_)
    show 4096 * t.val + (8 * (a.val / 8) + d.val / 128) = 8 * (512 * t.val + a.val / 8) + d.val / 128
    omega
  have hg : (fun d => iblk m ρ hn c (1 : Fin 5) t (ix3 0 d f)) = fun d => m ((c : Thread nD τ).loc main_arg3) (ix3 (named (wordOf m hn t)) d f) :=
    funext fun d => gate_block m ρ hn c hlt t d f
  have hu : (fun d => iblk m ρ hn c (2 : Fin 5) t (ix3 0 d f)) = fun d => m ((c : Thread nD τ).loc main_arg4) (ix3 (named (wordOf m hn t)) d f) :=
    funext fun d => up_block m ρ hn c hlt t d f
  unfold part
  rw [hx, hg, hu, down_block m ρ hn c hlt t]

/-- What a point leaves is its block of the layer. -/
theorem point_apply (hlt : ∀ i, (expOf m i).toNat < 8) (t : Fin (cfgA m hn).N) (a : Fin 4096) (b : Fin 128) :
    outOf m ρ hn c t (ix2 a b) = layerOf m c ⟨4096 * t.val + a.val, by have := points_lt m hn t; omega⟩ b := by
  have ht := points_lt m hn t
  have ha := a.isLt
  have hb := b.isLt
  have hq : (4096 * t.val + a.val) / 4096 = t.val := by omega
  unfold layerOf layer
  simp only [hq]
  by_cases h : Live m hn t
  · rw [if_pos ((live_iff m hn t).1 h)]
    refine (live_sum m ρ hn c t h a b).trans (Finset.sum_congr rfl fun f _ => (part_block m ρ hn c hlt t a _ f).trans ?_)
    have h8 : (4096 * t.val + a.val) / 8 = 512 * t.val + a.val / 8 := by omega
    have h9 : (4096 * t.val + a.val) % 8 = a.val % 8 := by omega
    simp only [h8, h9]
  · rw [if_neg (fun hh => h ((live_iff m hn t).2 hh)), outOf_dead m ρ hn c t h]
    exact dead_apply (c := c) (i := crd m hn t) (h1 := h) (h2 := (cond2_iff _ _).2 h) (y := ix2 a b) ..

/-- The layer as an array. -/
def layerArr : Buf (Elt Ideal) (((cfgA m hn).win (4 : Fin 5)).arr.view.loc (c : Thread nD τ)) :=
  fun (i : S1081344x128.Idx) => layerOf m c (i 0) (i 1)

/-- The array the kernel leaves is the layer. -/
theorem array_eq (hlt : ∀ i, (expOf m i).toNat < 8) : (dats m ρ hn 0 c).arrAt (4 : Fin 5) (cfgA m hn).N = layerArr m hn c := by
  refine (dats m ρ hn 0 c).arrAt_eq_of_covers (4 : Fin 5) (layerArr m hn c)
    (((cfgA m hn).win (4 : Fin 5)).covers_of_indexMap_surj rfl (show ∀ a : Fin 2, 0 < S4096x128.size a by decide) fun β =>
      ⟨fun | 0 => ⟨(β 0).val, lt_of_lt_of_eq (β 0).isLt (show (1081344 + 4096 - 1) / 4096 = 264 by decide)⟩, fun | 0 => ?_ | 1 => ?_⟩) fun t _ y => ?_
  · have h : (β 0).val < 264 := lt_of_lt_of_eq (β 0).isLt (show (1081344 + 4096 - 1) / 4096 = 264 by decide)
    show (BitVec.ofNat 32 (β 0).val).toNat = (β 0).val
    rw [BitVec.toNat_ofNat]; omega
  · have h : (β 1).val < 1 := lt_of_lt_of_eq (β 1).isLt (show (128 + 128 - 1) / 128 = 1 by decide)
    show 0 = (β 1).val
    omega
  · have e := index_out m hn t
    let z : S4096x128.Idx := ((cfgA m hn).win (4 : Fin 5)).xinj ((cfgA m hn).grid.coords t) y
    have ez : z = ix2 (z 0) (z 1) := funext fun | 0 => rfl | 1 => rfl
    show outOf m ρ hn c t z = _
    refine (congrArg (outOf m ρ hn c t) ez).trans ((point_apply m ρ hn c hlt t (z 0) (z 1)).trans (congrArg₂ (layerOf m c) (Fin.ext ?_) (Fin.ext ?_)))
    · show 4096 * t.val + (y 0).val = ((cfgA m hn).win (4 : Fin 5)).index t 0 * 4096 + 1 * (y 0).val
      rw [e]; show _ = t.val * 4096 + 1 * (y 0).val; omega
    · show (y 1).val = ((cfgA m hn).win (4 : Fin 5)).index t 1 * 128 + 1 * (y 1).val
      rw [e]; show _ = 0 * 128 + 1 * (y 1).val; omega

end Moe
end
-- ==== Proof.ProjPay.lean ====
module
public import proofs.«01_k».proof.Proof.Gen.InprojIdeal.Value
public import Idealize.ShloMosaic.Lib.Pointwise

/-! What the input projection's kernel computes from a tile's rows, entry by entry. -/

@[expose] public section
set_option maxRecDepth 16384
noncomputable section

namespace Proj
open Idealize.ShloMosaic Idealize.ShloMosaic.TcCoe Cert.InprojIdeal Cert.InprojIdeal.Gen

/-- One over the root of a row's mean square, a little above it. -/
def invRms (x : Fin 1024 → EReal) : EReal :=
  Ideal.rsqrt (Ideal.div (∑ e, x e * x e) (Ideal.ofBits .f32 0x44800000#32) + Ideal.ofBits .f32 0x358637BD#32)

/-- A row normalised by it, times the gains, times a column. -/
def proj (x g w : Fin 1024 → EReal) : EReal := ∑ d, x d * invRms x * g d * w d

/-- The factor of the queries. -/
def scale : EReal := ((1 / 8 * (Real.log 2)⁻¹ : ℝ) : EReal)

variable (x : FVec Ideal S512x1024 .f32) (g : FVec Ideal S1x1024 .f32)

/-- The tile's rows, normalised and times the gains. -/
theorem pay1_apply (r : Fin 512) (d : Fin 1024) :
    k0_pay1 (F := Ideal) x g (ix2 r d) = x (ix2 r d) * invRms (fun d => x (ix2 r d)) * g (ix2 0 d) := by
  pointwise [k0_pay1, invRms]

/-- A query column. -/
theorem pay2_apply (w : FVec Ideal S1024x512 .bf16) (r : Fin 512) (j : Fin 512) :
    k0_pay2 (F := Ideal) x g w (ix2 r j) = proj (fun d => x (ix2 r d)) (fun d => g (ix2 0 d)) (fun d => w (ix2 d j)) * scale := by
  pointwise [k0_pay2, pay1_apply, proj, scale]
  rfl

/-- A key or value column, unrounded. -/
theorem pay3_apply (w : FVec Ideal S1024x1024 .bf16) (r : Fin 512) (j : Fin 1024) :
    k0_pay3 (F := Ideal) x g w (ix2 r j) = proj (fun d => x (ix2 r d)) (fun d => g (ix2 0 d)) (fun d => w (ix2 d j)) := by
  pointwise [k0_pay3, pay1_apply, proj]

/-- A key or value column. -/
theorem pay4_apply (w : FVec Ideal S1024x1024 .bf16) (r : Fin 512) (j : Fin 1024) :
    k0_pay4 (F := Ideal) x g w (ix2 r j) = proj (fun d => x (ix2 r d)) (fun d => g (ix2 0 d)) (fun d => w (ix2 d j)) := by
  pointwise [k0_pay4, pay3_apply]

/-- A column of the rest. -/
theorem pay5_apply (w : FVec Ideal S1024x1280 .bf16) (r : Fin 512) (j : Fin 1280) :
    k0_pay5 (F := Ideal) x g w (ix2 r j) = proj (fun d => x (ix2 r d)) (fun d => g (ix2 0 d)) (fun d => w (ix2 d j)) := by
  pointwise [k0_pay5, pay1_apply, proj]

end Proj
end
-- ==== Proof.ProjPoint.lean ====
module
public import proofs.«01_k».proof.Proof.ProjPay
public import Idealize.ShloMosaic.Lib.WholeRead

/-! What a grid point of the input projection's kernel leaves in its two output blocks, entry by entry. -/

@[expose] public section
set_option maxRecDepth 16384
noncomputable section

namespace Proj
open Idealize.ShloMosaic Idealize.ShloMosaic.TcCoe Cert.InprojIdeal Cert.InprojIdeal.Gen

/-- The factor of column `j`: the first 512 are the queries. -/
def factor (j : ℕ) : EReal := if j < 512 then scale else 1

/-- What a list of pieces of the first output leaves at an entry of the newest one, `n` columns from `o` on. -/
theorem canon_hit (o n : ℕ) (h : ∀ a, ![0, o] a + ![512, n] a ≤ S512x2816.size a)
    (w : (⟨2, ![512, n]⟩ : Shape).Idx → Elt Ideal .bf16) (L : List (View.Piece (Elt Ideal) S512x2816 .bf16))
    (r : Fin 512) (j : Fin 2816) (k : Fin n) (hj : j.val = o + k.val) :
    View.canon (⟨Rect.unit (s := S512x2816) ![0, o] ![512, n] h, w⟩ :: L) (ix2 r j) = w (ix2 r k) := by
  have e : (ix2 r j : S512x2816.Idx) = (Rect.unit (s := S512x2816) ![0, o] ![512, n] h).emb (ix2 r k) :=
    funext fun | 0 => Fin.ext (by show r.val = 0 + 1 * r.val; omega) | 1 => Fin.ext (by show j.val = o + 1 * k.val; omega)
  rw [e]
  exact View.canon_cons_emb (Rect.unit (s := S512x2816) ![0, o] ![512, n] h) w L (ix2 r k)

/-- And at an entry off those columns. -/
theorem canon_miss (o n : ℕ) (h : ∀ a, ![0, o] a + ![512, n] a ≤ S512x2816.size a)
    (w : (⟨2, ![512, n]⟩ : Shape).Idx → Elt Ideal .bf16) (L : List (View.Piece (Elt Ideal) S512x2816 .bf16))
    (r : Fin 512) (j : Fin 2816) (hj : j.val < o ∨ o + n ≤ j.val) :
    View.canon (⟨Rect.unit (s := S512x2816) ![0, o] ![512, n] h, w⟩ :: L) (ix2 r j) = View.canon L (ix2 r j) :=
  View.canon_cons_of_not_mem _ L (Rect.not_mem_set_of_axis _ _ (1 : Fin 2) o n rfl rfl rfl hj)

/-- A load of `n` of the weights' columns from `o` on. -/
theorem load_columns {m : Memref sig .tc .vmem S1024x2816 .bf16} (hm : m.IsWhole) (w : S1024x2816.Idx → Elt Ideal .bf16) (o n : ℕ)
    (h : ∀ a, ![0, o] a + ![1024, n] a ≤ S1024x2816.size a) (d : Fin 1024) (k : Fin n) (j : Fin 2816) (hj : j.val = o + k.val) :
    View.readAt (Elt Ideal) m.view (Rect.unit (s := S1024x2816) ![0, o] ![1024, n] h).toLoadRect (hm.unread w) (ix2 d k) = w (ix2 d j) := by
  rw [Memref.IsWhole.readAt_unread]
  refine congrArg w (funext fun | 0 => Fin.ext ?_ | 1 => Fin.ext ?_)
  · show 0 + 1 * d.val = d.val; omega
  · show o + 1 * k.val = j.val; omega

/-- A load of all the tile's rows. -/
theorem load_rows {m : Memref sig .tc .vmem S512x1024 .f32} (hm : m.IsWhole) (x : S512x1024.Idx → Elt Ideal .f32) (h : ∀ a, ![0, 0] a + S512x1024.size a ≤ S512x1024.size a)
    (r : Fin 512) (d : Fin 1024) :
    View.readAt (Elt Ideal) m.view (Rect.unit (s := S512x1024) ![0, 0] S512x1024.size h).toLoadRect (hm.unread x) (ix2 r d) = x (ix2 r d) := by
  rw [Memref.IsWhole.readAt_unread]
  refine congrArg x (funext fun | 0 => Fin.ext ?_ | 1 => Fin.ext ?_)
  · show 0 + 1 * r.val = r.val; omega
  · show 0 + 1 * d.val = d.val; omega

/-- A load of the gains. -/
theorem load_gains {m : Memref sig .tc .vmem S1x1024 .f32} (hm : m.IsWhole) (g : S1x1024.Idx → Elt Ideal .f32) (h : ∀ a, ![0, 0] a + S1x1024.size a ≤ S1x1024.size a)
    (d : Fin 1024) :
    View.readAt (Elt Ideal) m.view (Rect.unit (s := S1x1024) ![0, 0] S1x1024.size h).toLoadRect (hm.unread g) (ix2 0 d) = g (ix2 0 d) := by
  rw [Memref.IsWhole.readAt_unread]
  refine congrArg g (funext fun | 0 => Fin.ext rfl | 1 => Fin.ext ?_)
  show 0 + 1 * d.val = d.val; omega

/-- Equal rows, gains and columns give equal products. -/
theorem proj_congr {x x' g g' w w' : Fin 1024 → EReal} (hx : ∀ d, x d = x' d) (hg : ∀ d, g d = g' d) (hw : ∀ d, w d = w' d) : proj x g w = proj x' g' w' := by
  rw [funext hx, funext hg, funext hw]

variable (c : Dev nD) (i : grid0.Coords)
    (m1 : Memref sig .tc .vmem S512x1024 .f32) (h1 : m1.IsWhole)
    (m2 : Memref sig .tc .vmem S1x1024 .f32) (h2 : m2.IsWhole)
    (m3 : Memref sig .tc .vmem S1024x2816 .bf16) (h3 : m3.IsWhole)
    (m4 : Memref sig .tc .vmem S512x2816 .bf16) (h4 : m4.IsWhole)
    (m5 : Memref sig .tc .vmem S512x1024 .f32) (h5 : m5.IsWhole)
    (x : FVec Ideal S512x1024 .f32) (g : FVec Ideal S1x1024 .f32) (w : FVec Ideal S1024x2816 .bf16)

/-- The first output's block. -/
theorem rows_apply (r : Fin 512) (j : Fin 2816) :
    out0_A_3 (F := Ideal) c i m1 h1 m2 h2 m3 h3 m4 h4 m5 h5 x g w (ix2 r j)
      = proj (fun d => x (ix2 r d)) (fun d => g (ix2 0 d)) (fun d => w (ix2 d j)) * factor j.val := by
  unfold out0_A_3
  rw [View.read_writes_junk_apply_eq_canon]
  unfold kernelRun0_A
  dsimp only
  unfold factor
  rcases (show j.val < 512 ∨ (512 ≤ j.val ∧ j.val < 1536) ∨ 1536 ≤ j.val by omega) with h | h | h
  · rw [if_pos h, canon_miss 1536 1280 _ _ _ r j (.inl (by omega)), canon_miss 512 1024 _ _ _ r j (.inl h),
      canon_hit 0 512 _ _ _ r j ⟨j.val, h⟩ (by show j.val = 0 + j.val; omega)]
    refine (pay2_apply _ _ _ r ⟨j.val, h⟩).trans (congrArg (· * scale) ?_)
    exact proj_congr (fun d => load_rows h1 x _ r d) (fun d => load_gains h2 g _ d) (fun d => load_columns h3 w 0 512 _ d ⟨j.val, h⟩ j (by show j.val = 0 + j.val; omega))
  · rw [if_neg (by omega), mul_one, canon_miss 1536 1280 _ _ _ r j (.inl h.2),
      canon_hit 512 1024 _ _ _ r j ⟨j.val - 512, by omega⟩ (by show j.val = 512 + (j.val - 512); omega)]
    refine (pay4_apply _ _ _ r ⟨j.val - 512, by omega⟩).trans ?_
    exact proj_congr (fun d => load_rows h1 x _ r d) (fun d => load_gains h2 g _ d) (fun d => load_columns h3 w 512 1024 _ d ⟨j.val - 512, by omega⟩ j (by show j.val = 512 + (j.val - 512); omega))
  · rw [if_neg (by omega), mul_one, canon_hit 1536 1280 _ _ _ r j ⟨j.val - 1536, by omega⟩ (by show j.val = 1536 + (j.val - 1536); omega)]
    refine (pay5_apply _ _ _ r ⟨j.val - 1536, by omega⟩).trans ?_
    exact proj_congr (fun d => load_rows h1 x _ r d) (fun d => load_gains h2 g _ d) (fun d => load_columns h3 w 1536 1280 _ d ⟨j.val - 1536, by omega⟩ j (by show j.val = 1536 + (j.val - 1536); omega))

/-- The second output's block: the keys and the values, unrounded. -/
theorem tail_apply (r : Fin 512) (j : Fin 1024) :
    out0_A_4 (F := Ideal) c i m1 h1 m2 h2 m3 h3 m4 h4 m5 h5 x g w (ix2 r j)
      = proj (fun d => x (ix2 r d)) (fun d => g (ix2 0 d)) (fun d => w (ix2 d ⟨512 + j.val, by omega⟩)) := by
  unfold out0_A_4
  rw [View.read_writes_junk_apply_eq_canon]
  unfold kernelRun0_A
  dsimp only
  have e : (ix2 r j : S512x1024.Idx) = (Rect.unit (s := S512x1024) ![0, 0] S512x1024.size inb_S512x1024_S512x1024_0_0).emb (ix2 r j) :=
    funext fun | 0 => Fin.ext (by show r.val = 0 + 1 * r.val; omega) | 1 => Fin.ext (by show j.val = 0 + 1 * j.val; omega)
  refine (congrArg (View.canon _) e).trans ?_
  refine (View.canon_cons_emb (Rect.unit (s := S512x1024) ![0, 0] S512x1024.size inb_S512x1024_S512x1024_0_0) _ _ (ix2 r j)).trans ?_
  refine (pay3_apply _ _ _ r j).trans ?_
  exact proj_congr (fun d => load_rows h1 x _ r d) (fun d => load_gains h2 g _ d) (fun d => load_columns h3 w 512 1024 _ d j _ rfl)

end Proj
end
-- ==== Proof.ProjReference.lean ====
module
public import proofs.«01_k».proof.Proof.Gen.InprojReferenceIdeal.Read
public import proofs.«01_k».proof.Proof.ProjPoint
public import Idealize.ShloMosaic.Lib.Pointwise

/-! The input projection's reference at an entry. -/

@[expose] public section
set_option maxRecDepth 16384
noncomputable section

namespace Proj
open Idealize.ShloMosaic

/-- Column `j` of token `R`'s normalised row times the weights. -/
def column (X : (⟨_, ![65536, 1024]⟩ : Shape).Idx → EReal) (g : (⟨_, ![1, 1024]⟩ : Shape).Idx → EReal) (w : (⟨_, ![1024, 2816]⟩ : Shape).Idx → EReal)
    (R : Fin 65536) (j : Fin 2816) : EReal :=
  proj (fun d => X (ix2 R d)) (fun d => g (ix2 0 d)) (fun d => w (ix2 d j))

/-- Token of row `a` of the second result: the last 512 of each sequence of 8192 are kept. -/
def token (a : Fin 4096) : Fin 65536 := ⟨8192 * (a.val / 512) + 7680 + a.val % 512, by omega⟩

namespace Ref
open Idealize.ShloMosaic.TcCoe Cert.InprojReferenceIdeal Cert.InprojReferenceIdeal.Gen Cert.InprojReferenceIdeal.Read

variable (x0 : FVec Ideal S65536x1024 .f32) (x1 : FVec Ideal S1x1024 .f32) (x2 : FVec Ideal S1024x2816 .bf16)

/-- The word of zero. -/
theorem word_0 : Ideal.ofBits .f32 0x00000000#32 = (0 : EReal) := by
  simp [Ideal.ofBits, Ideal.ieee]

/-- The normalised rows, times the gains. -/
theorem normed (R : Fin 65536) (d : Fin 1024) :
    val_main_v11 (F := Ideal) x0 x1 (ix2 R d) = x0 (ix2 R d) * invRms (fun d => x0 (ix2 R d)) * x1 (ix2 0 d) := by
  rw [val_main_v11_apply, val_main_v10_apply, val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply]
  have e0 : ∀ k, idx_main_v1 (idx_main_v2 (idx_main_v8 (ix2 R d))) k = ix2 R k := fun k => funext fun a => Fin.ext (by
    match a with
    | 0 => rfl
    | 1 => rfl)
  have e1 : idx_main_v10 (ix2 R d) = ix2 0 d := funext fun a => Fin.ext (by
    match a with
    | 0 => rfl
    | 1 => rfl)
  simp only [val_main_v0_apply, e0, e1]
  show x0 (ix2 R d) * Ideal.rsqrt (Ideal.div (Ideal.ofBits .f32 0x00000000#32 + ∑ k : Fin 1024, (x0 (ix2 R k) * x0 (ix2 R k) : EReal)) (Ideal.ofBits .f32 0x44800000#32)
    + Ideal.ofBits .f32 0x358637BD#32) * x1 (ix2 0 d) = _
  rw [word_0, zero_add]
  rfl

/-- Their products with the weights. -/
theorem product (R : Fin 65536) (j : Fin 2816) : val_main_v13 (F := Ideal) x0 x1 x2 (ix2 R j) = column x0 x1 x2 R j := by
  rw [val_main_v13_apply]
  unfold column proj
  refine Finset.sum_congr rfl fun d _ => ?_
  rw [val_main_v12_apply, ← normed]
  refine congrArg₂ (· * ·) (congrArg (val_main_v11 (F := Ideal) x0 x1) (funext fun a => Fin.ext ?_)) (congrArg x2 (funext fun a => Fin.ext ?_))
  · match a with
    | 0 => rfl
    | 1 => rfl
  · match a with
    | 0 => rfl
    | 1 => rfl

/-- The words of one, of two and of an eighth. -/
theorem word_1 : Ideal.ofBits .f32 0x3F800000#32 = (1 : EReal) := by
  simp [Ideal.ofBits, Ideal.ieee]
  rw [← EReal.coe_mul]
  norm_num
theorem word_2 : Ideal.ofBits .f32 0x40000000#32 = ((2 : ℝ) : EReal) := by
  simp [Ideal.ofBits, Ideal.ieee]
  rw [← EReal.coe_mul]
  norm_num
theorem word_8 : Ideal.ofBits .f32 0x3E000000#32 = ((1 / 8 : ℝ) : EReal) := by
  simp [Ideal.ofBits, Ideal.ieee]
  rw [← EReal.coe_mul]
  norm_num

/-- The factor of the queries. -/
theorem factor_apply : val_main_v22 (F := Ideal) ix0 = scale := by
  rw [val_main_v22_apply, val_main_v16_apply, val_main_cst_4_apply, val_main_v15_apply, val_main_cst_3_apply, val_main_v14_apply, val_main_cst_2_apply]
  show Ideal.ofBits .f32 0x3E000000#32 * Ideal.div (Ideal.ofBits .f32 0x3F800000#32) (Ideal.log (Ideal.ofBits .f32 0x40000000#32)) = _
  rw [word_1, word_2, word_8, Ideal.log_coe, if_neg (by norm_num), Ideal.div_coe (Real.log_pos (by norm_num)).ne', one_mul, ← EReal.coe_mul]
  unfold scale
  norm_num

/-- The reference's first result. -/
theorem rows_apply (R : Fin 65536) (j : Fin 2816) :
    val_main_v27 (F := Ideal) x0 x1 x2 (ix2 R j) = column x0 x1 x2 R j * factor j.val := by
  have hj := j.isLt
  rw [val_main_v27_apply]
  show val_main_v26 (F := Ideal) x0 x1 x2 (ix2 R j) = _
  unfold factor val_main_v26
  by_cases h : j.val < 512
  · rw [if_pos h]
    refine (concatenate_pair_apply_left (s₁ := S65536x512) (s₂ := S65536x2304) (t := S65536x2816) (1 : Fin 2) _ _ _ (ix2 R j) rfl (ix2 R ⟨j.val, h⟩) (fun | 0 => rfl | 1 => rfl)).trans ?_
    rw [val_main_v24_apply, val_main_v23_apply, val_main_v21_apply]
    refine congrArg₂ (· * ·) ((congrArg (val_main_v13 (F := Ideal) x0 x1 x2) (funext fun a => Fin.ext ?_)).trans (product x0 x1 x2 R j)) ((congrArg _ (funext fun a => a.elim0)).trans factor_apply)
    match a with
    | 0 => rfl
    | 1 => rfl
  · rw [if_neg h, mul_one]
    refine (concatenate_pair_apply_right (s₁ := S65536x512) (s₂ := S65536x2304) (t := S65536x2816) (1 : Fin 2) _ _ _ (ix2 R j) rfl rfl (ix2 R ⟨j.val - 512, by omega⟩) ?_ ?_).trans ?_
    · exact fun | 0 => fun _ => rfl | 1 => fun hb => absurd rfl hb
    · show j.val - 512 + 512 = j.val
      omega
    rw [val_main_v25_apply]
    refine (congrArg (val_main_v13 (F := Ideal) x0 x1 x2) (funext fun a => Fin.ext ?_)).trans (product x0 x1 x2 R j)
    match a with
    | 0 => rfl
    | 1 => show 512 + (j.val - 512) = j.val; omega

/-- And its second. -/
theorem tail_apply (a : Fin 4096) (j : Fin 1024) :
    val_main_v20 (F := Ideal) x0 x1 x2 (ix2 a j) = column x0 x1 x2 (token a) ⟨512 + j.val, by omega⟩ := by
  have ha := a.isLt
  have hj := j.isLt
  rw [val_main_v20_apply, val_main_v19_apply, val_main_v18_apply, val_main_v17_apply]
  refine (congrArg (val_main_v13 (F := Ideal) x0 x1 x2) (funext fun k => Fin.ext ?_)).trans (product x0 x1 x2 (token a) _)
  match k with
  | 0 =>
    show (((a.val * 1024 + j.val) / 524288 * 8192 + (7680 + (a.val * 1024 + j.val) / 1024 % 512)) * 1024 + (a.val * 1024 + j.val) % 1024) / 1024
      = 8192 * (a.val / 512) + 7680 + a.val % 512
    omega
  | 1 =>
    show 512 + (((a.val * 1024 + j.val) / 524288 * 8192 + (7680 + (a.val * 1024 + j.val) / 1024 % 512)) * 1024 + (a.val * 1024 + j.val) % 1024) % 1024
      = 512 + j.val
    omega

end Ref
end Proj
end
-- ==== Proof.ProjBlocks.lean ====
module
public import proofs.«01_k».proof.Proof.ProjReference
public import Idealize.ShloMosaic.Lib.Pipeline.Covers
public import Idealize.ShloMosaic.Lib.Pipeline.ValueKit

/-! Which part of the arguments a grid point's blocks hold, and the two arrays the input projection's kernel leaves. -/

@[expose] public section
set_option maxRecDepth 16384
noncomputable section

namespace Proj
open Idealize.ShloMosaic Idealize.ShloMosaic.TcCoe Cert.InprojIdeal Cert.InprojIdeal.Gen Idealize.SL.Sem

variable (m : (ℓ : Loc nD τ sig) → Buf (Elt Ideal) ℓ) (c : Dev nD)

/-- The block indices of the windows at each point. -/
theorem idx : ∀ t : Fin cfg0.N, win0_0.index t = ![t.val, 0] ∧ win0_1.index t = ![0, 0] ∧ win0_2.index t = ![0, 0] ∧
    win0_3.index t = ![t.val, 0] ∧ win0_4.index t = ![t.val / 16, 0] :=
  (by decide +kernel : ∀ t : Fin grid0.N, _)

theorem points_lt (t : Fin cfg0.N) : t.val < 128 := lt_of_lt_of_eq t.isLt N_0

/-- The rows of a point. -/
theorem rows_block (t : Fin cfg0.N) (a : Fin 512) (d : Fin 1024) :
    iblk m c 0 t (ix2 a d) = m ((c : Thread nD τ).loc main_arg0) (ix2 ⟨512 * t.val + a.val, by have := points_lt t; omega⟩ d) := by
  have e := (idx t).1
  blk_ext [iblk, V, e]

/-- The gains. -/
theorem gains_block (t : Fin cfg0.N) (d : Fin 1024) :
    iblk m c 1 t (ix2 0 d) = m ((c : Thread nD τ).loc main_arg1) (ix2 0 d) := by
  have e := (idx t).2.1
  blk_ext [iblk, V, e]

/-- The weights. -/
theorem weights_block (t : Fin cfg0.N) (d : Fin 1024) (j : Fin 2816) :
    iblk m c 2 t (ix2 d j) = m ((c : Thread nD τ).loc main_arg2) (ix2 d j) := by
  have e := (idx t).2.2.1
  blk_ext [iblk, V, e]

/-- The projection of the arguments on device `c`. -/
def columnOf (R : Fin 65536) (j : Fin 2816) : EReal :=
  column (m ((c : Thread nD τ).loc main_arg0)) (m ((c : Thread nD τ).loc main_arg1)) (m ((c : Thread nD τ).loc main_arg2)) R j

/-- The first result. -/
def rowsArr : Buf (Elt Ideal) ((cfg0.win 3).arr.view.loc (c : Thread nD τ)) :=
  fun (i : S65536x2816.Idx) => columnOf m c (i 0) (i 1) * factor (i 1).val

/-- The second. -/
def tailArr : Buf (Elt Ideal) ((cfg0.win 4).arr.view.loc (c : Thread nD τ)) :=
  fun (i : S4096x1024.Idx) => columnOf m c (token (i 0)) ⟨512 + (i 1).val, by have : (i 1).val < 1024 := (i 1).isLt; omega⟩

/-- The two outputs of a point, as what the kernel makes of its blocks. -/
theorem out_rows (t : Fin cfg0.N) : (outsAt0 m c t).1 = out0_A_3 (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by simp only [outsAt0]

theorem out_tail (t : Fin cfg0.N) : (outsAt0 m c t).2 = out0_A_4 (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by simp only [outsAt0]

/-- What a point leaves in the first output. -/
theorem rows_point (t : Fin cfg0.N) (a : Fin 512) (j : Fin 2816) :
    (outsAt0 m c t).1 (ix2 a j) = columnOf m c ⟨512 * t.val + a.val, by have := points_lt t; omega⟩ j * factor j.val := by
  rw [out_rows]
  refine (rows_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) a j).trans (congrArg (· * factor j.val) ?_)
  exact proj_congr (rows_block m c t a) (gains_block m c t) (fun d => weights_block m c t d j)

/-- And in the second. -/
theorem tail_point (t : Fin cfg0.N) (a : Fin 512) (j : Fin 1024) :
    (outsAt0 m c t).2 (ix2 a j) = columnOf m c ⟨512 * t.val + a.val, by have := points_lt t; omega⟩ ⟨512 + j.val, by omega⟩ := by
  rw [out_tail]
  refine (tail_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) a j).trans ?_
  exact proj_congr (rows_block m c t a) (gains_block m c t) (fun d => weights_block m c t d _)

/-- Sixteen points share a block of the second output. -/
theorem tail_index : ∀ b : Fin 8, cc0_transform_4 (fun | 0 => ⟨16 * b.val, by show 16 * b.val < 128; omega⟩) 0 = b.val := by decide +kernel

/-- The first array the kernel leaves. -/
theorem rows_array : (dats m 0 c).arrAt 3 cfg0.N = rowsArr m c := by
  refine (dats m 0 c).arrAt_eq_of_covers 3 (rowsArr m c) ?_ fun t _ y => ?_
  · refine (cfg0.win 3).covers_of_indexMap_surj rfl (show ∀ a : Fin 2, 0 < S512x2816.size a by decide) fun β => ?_
    have h0 : (β 0).val < 128 := lt_of_lt_of_eq (β 0).isLt (show (65536 + 512 - 1) / 512 = 128 by decide)
    have h1 : (β 1).val < 1 := lt_of_lt_of_eq (β 1).isLt (show (2816 + 2816 - 1) / 2816 = 1 by decide)
    refine ⟨fun | 0 => ⟨(β 0).val, h0⟩, fun | 0 => ?_ | 1 => ?_⟩
    · show (BitVec.ofNat 32 (β 0).val).toNat = (β 0).val
      rw [BitVec.toNat_ofNat]; omega
    · show 0 = (β 1).val
      omega
  · have e := (idx t).2.2.2.1
    let z : S512x2816.Idx := (cfg0.win 3).xinj (grid0.coords t) y
    have ez : z = ix2 (z 0) (z 1) := funext fun | 0 => rfl | 1 => rfl
    refine (cast_eq _ _).trans ((congrFun (after0_3 m c t) z).trans ?_)
    refine (congrArg (outsAt0 m c t).1 ez).trans ((rows_point m c t (z 0) (z 1)).trans ?_)
    refine congrArg₂ (fun (R : Fin 65536) (j : Fin 2816) => columnOf m c R j * factor j.val) (Fin.ext ?_) (Fin.ext ?_)
    · show 512 * t.val + (y 0).val = win0_3.index t 0 * 512 + 1 * (y 0).val
      rw [e]; show _ = t.val * 512 + 1 * (y 0).val; omega
    · show (y 1).val = win0_3.index t 1 * 2816 + 1 * (y 1).val
      rw [e]; show _ = 0 * 2816 + 1 * (y 1).val; omega

/-- The second: of the points that share a block, the last one's stays. -/
theorem tail_array : (dats m 0 c).arrAt 4 cfg0.N = tailArr m c := by
  refine (dats m 0 c).arrAt_eq_of_covers 4 (tailArr m c) ?_ fun t hf y => ?_
  · refine (cfg0.win 4).covers_of_indexMap_surj rfl (show ∀ a : Fin 2, 0 < S512x1024.size a by decide) fun β => ?_
    have h0 : (β 0).val < 8 := lt_of_lt_of_eq (β 0).isLt (show (4096 + 512 - 1) / 512 = 8 by decide)
    have h1 : (β 1).val < 1 := lt_of_lt_of_eq (β 1).isLt (show (1024 + 1024 - 1) / 1024 = 1 by decide)
    refine ⟨fun | 0 => ⟨16 * (β 0).val, by show 16 * (β 0).val < 128; omega⟩, fun | 0 => ?_ | 1 => ?_⟩
    · exact tail_index ⟨(β 0).val, h0⟩
    · show 0 = (β 1).val
      omega
  · have e := (idx t).2.2.2.2
    have ht := (flush0_4 t).1 hf
    let z : S512x1024.Idx := (cfg0.win 4).xinj (grid0.coords t) y
    have ez : z = ix2 (z 0) (z 1) := funext fun | 0 => rfl | 1 => rfl
    refine (cast_eq _ _).trans ((congrFun (after0_4 m c t) z).trans ?_)
    have hy : (y 0).val < 512 := (y 0).isLt
    refine (congrArg (outsAt0 m c t).2 ez).trans ((tail_point m c t (z 0) (z 1)).trans ?_)
    refine congrArg₂ (columnOf m c) (Fin.ext ?_) (Fin.ext ?_)
    · show 512 * t.val + (y 0).val = 8192 * ((win0_4.index t 0 * 512 + 1 * (y 0).val) / 512) + 7680 + (win0_4.index t 0 * 512 + 1 * (y 0).val) % 512
      rw [e]
      show _ = 8192 * ((t.val / 16 * 512 + 1 * (y 0).val) / 512) + 7680 + (t.val / 16 * 512 + 1 * (y 0).val) % 512
      omega
    · show 512 + (y 1).val = 512 + (win0_4.index t 1 * 1024 + 1 * (y 1).val)
      rw [e]; show _ = 512 + (0 * 1024 + 1 * (y 1).val); omega

end Proj
end
-- ==== Proof.SampleProjPay.lean ====
module
public import proofs.«01_k».proof.Proof.Gen.SampleInprojIdeal.Value
public import proofs.«01_k».proof.Proof.ProjReference
public import Idealize.ShloMosaic.Lib.Pointwise

/-! What the sample's input projection computes from its rows, entry by entry. -/

@[expose] public section
set_option maxRecDepth 16384
noncomputable section

namespace SampleProj
open Idealize.ShloMosaic Idealize.ShloMosaic.TcCoe Cert.SampleInprojIdeal Cert.SampleInprojIdeal.Gen
open Proj (invRms proj scale factor proj_congr)

variable (x : FVec Ideal S256x1024 .f32) (g : FVec Ideal S1x1024 .f32)

/-- The rows, normalised and times the gains. -/
theorem pay1_apply (r : Fin 256) (d : Fin 1024) :
    k0_pay1 (F := Ideal) x g (ix2 r d) = x (ix2 r d) * invRms (fun d => x (ix2 r d)) * g (ix2 0 d) := by
  pointwise [k0_pay1, invRms]

/-- A query column. -/
theorem pay2_apply (w : FVec Ideal S1024x512 .bf16) (r : Fin 256) (j : Fin 512) :
    k0_pay2 (F := Ideal) x g w (ix2 r j) = proj (fun d => x (ix2 r d)) (fun d => g (ix2 0 d)) (fun d => w (ix2 d j)) * scale := by
  pointwise [k0_pay2, pay1_apply, proj, scale]
  rfl

/-- A key or value column, unrounded. -/
theorem pay3_apply (w : FVec Ideal S1024x1024 .bf16) (r : Fin 256) (j : Fin 1024) :
    k0_pay3 (F := Ideal) x g w (ix2 r j) = proj (fun d => x (ix2 r d)) (fun d => g (ix2 0 d)) (fun d => w (ix2 d j)) := by
  pointwise [k0_pay3, pay1_apply, proj]

/-- A key or value column. -/
theorem pay4_apply (w : FVec Ideal S1024x1024 .bf16) (r : Fin 256) (j : Fin 1024) :
    k0_pay4 (F := Ideal) x g w (ix2 r j) = proj (fun d => x (ix2 r d)) (fun d => g (ix2 0 d)) (fun d => w (ix2 d j)) := by
  pointwise [k0_pay4, pay3_apply]

/-- A column of the rest. -/
theorem pay5_apply (w : FVec Ideal S1024x1280 .bf16) (r : Fin 256) (j : Fin 1280) :
    k0_pay5 (F := Ideal) x g w (ix2 r j) = proj (fun d => x (ix2 r d)) (fun d => g (ix2 0 d)) (fun d => w (ix2 d j)) := by
  pointwise [k0_pay5, pay1_apply, proj]

end SampleProj
end
-- ==== Proof.SampleProjPoint.lean ====
module
public import proofs.«01_k».proof.Proof.SampleProjPay
public import Idealize.ShloMosaic.Lib.WholeRead

/-! What the sample's input projection leaves in its two output blocks, entry by entry. -/

@[expose] public section
set_option maxRecDepth 16384
noncomputable section

namespace SampleProj
open Idealize.ShloMosaic Idealize.ShloMosaic.TcCoe Cert.SampleInprojIdeal Cert.SampleInprojIdeal.Gen
open Proj (invRms proj scale factor proj_congr)

/-- What a list of pieces of the first output leaves at an entry of the newest one, `n` columns from `o` on. -/
theorem canon_hit (o n : ℕ) (h : ∀ a, ![0, o] a + ![256, n] a ≤ S256x2816.size a)
    (w : (⟨2, ![256, n]⟩ : Shape).Idx → Elt Ideal .bf16) (L : List (View.Piece (Elt Ideal) S256x2816 .bf16))
    (r : Fin 256) (j : Fin 2816) (k : Fin n) (hj : j.val = o + k.val) :
    View.canon (⟨Rect.unit (s := S256x2816) ![0, o] ![256, n] h, w⟩ :: L) (ix2 r j) = w (ix2 r k) := by
  have e : (ix2 r j : S256x2816.Idx) = (Rect.unit (s := S256x2816) ![0, o] ![256, n] h).emb (ix2 r k) :=
    funext fun | 0 => Fin.ext (by show r.val = 0 + 1 * r.val; omega) | 1 => Fin.ext (by show j.val = o + 1 * k.val; omega)
  rw [e]
  exact View.canon_cons_emb (Rect.unit (s := S256x2816) ![0, o] ![256, n] h) w L (ix2 r k)

/-- And at an entry off those columns. -/
theorem canon_miss (o n : ℕ) (h : ∀ a, ![0, o] a + ![256, n] a ≤ S256x2816.size a)
    (w : (⟨2, ![256, n]⟩ : Shape).Idx → Elt Ideal .bf16) (L : List (View.Piece (Elt Ideal) S256x2816 .bf16))
    (r : Fin 256) (j : Fin 2816) (hj : j.val < o ∨ o + n ≤ j.val) :
    View.canon (⟨Rect.unit (s := S256x2816) ![0, o] ![256, n] h, w⟩ :: L) (ix2 r j) = View.canon L (ix2 r j) :=
  View.canon_cons_of_not_mem _ L (Rect.not_mem_set_of_axis _ _ (1 : Fin 2) o n rfl rfl rfl hj)

/-- A load of `n` of the weights' columns from `o` on. -/
theorem load_columns {m : Memref sig .tc .vmem S1024x2816 .bf16} (hm : m.IsWhole) (w : S1024x2816.Idx → Elt Ideal .bf16) (o n : ℕ)
    (h : ∀ a, ![0, o] a + ![1024, n] a ≤ S1024x2816.size a) (d : Fin 1024) (k : Fin n) (j : Fin 2816) (hj : j.val = o + k.val) :
    View.readAt (Elt Ideal) m.view (Rect.unit (s := S1024x2816) ![0, o] ![1024, n] h).toLoadRect (hm.unread w) (ix2 d k) = w (ix2 d j) := by
  rw [Memref.IsWhole.readAt_unread]
  refine congrArg w (funext fun | 0 => Fin.ext ?_ | 1 => Fin.ext ?_)
  · show 0 + 1 * d.val = d.val; omega
  · show o + 1 * k.val = j.val; omega

/-- A load of all the rows. -/
theorem load_rows {m : Memref sig .tc .vmem S256x1024 .f32} (hm : m.IsWhole) (x : S256x1024.Idx → Elt Ideal .f32) (h : ∀ a, ![0, 0] a + S256x1024.size a ≤ S256x1024.size a)
    (r : Fin 256) (d : Fin 1024) :
    View.readAt (Elt Ideal) m.view (Rect.unit (s := S256x1024) ![0, 0] S256x1024.size h).toLoadRect (hm.unread x) (ix2 r d) = x (ix2 r d) := by
  rw [Memref.IsWhole.readAt_unread]
  refine congrArg x (funext fun | 0 => Fin.ext ?_ | 1 => Fin.ext ?_)
  · show 0 + 1 * r.val = r.val; omega
  · show 0 + 1 * d.val = d.val; omega

/-- A load of the gains. -/
theorem load_gains {m : Memref sig .tc .vmem S1x1024 .f32} (hm : m.IsWhole) (g : S1x1024.Idx → Elt Ideal .f32) (h : ∀ a, ![0, 0] a + S1x1024.size a ≤ S1x1024.size a)
    (d : Fin 1024) :
    View.readAt (Elt Ideal) m.view (Rect.unit (s := S1x1024) ![0, 0] S1x1024.size h).toLoadRect (hm.unread g) (ix2 0 d) = g (ix2 0 d) := by
  rw [Memref.IsWhole.readAt_unread]
  refine congrArg g (funext fun | 0 => Fin.ext rfl | 1 => Fin.ext ?_)
  show 0 + 1 * d.val = d.val; omega

variable (c : Dev nD) (i : grid0.Coords)
    (m1 : Memref sig .tc .vmem S256x1024 .f32) (h1 : m1.IsWhole)
    (m2 : Memref sig .tc .vmem S1x1024 .f32) (h2 : m2.IsWhole)
    (m3 : Memref sig .tc .vmem S1024x2816 .bf16) (h3 : m3.IsWhole)
    (m4 : Memref sig .tc .vmem S256x2816 .bf16) (h4 : m4.IsWhole)
    (m5 : Memref sig .tc .vmem S256x1024 .f32) (h5 : m5.IsWhole)
    (x : FVec Ideal S256x1024 .f32) (g : FVec Ideal S1x1024 .f32) (w : FVec Ideal S1024x2816 .bf16)

/-- The first output's block. -/
theorem rows_apply (r : Fin 256) (j : Fin 2816) :
    out0_A_3 (F := Ideal) c i m1 h1 m2 h2 m3 h3 m4 h4 m5 h5 x g w (ix2 r j)
      = proj (fun d => x (ix2 r d)) (fun d => g (ix2 0 d)) (fun d => w (ix2 d j)) * factor j.val := by
  unfold out0_A_3
  rw [View.read_writes_junk_apply_eq_canon]
  unfold kernelRun0_A
  dsimp only
  unfold factor
  rcases (show j.val < 512 ∨ (512 ≤ j.val ∧ j.val < 1536) ∨ 1536 ≤ j.val by omega) with h | h | h
  · rw [if_pos h, canon_miss 1536 1280 _ _ _ r j (.inl (by omega)), canon_miss 512 1024 _ _ _ r j (.inl h),
      canon_hit 0 512 _ _ _ r j ⟨j.val, h⟩ (by show j.val = 0 + j.val; omega)]
    refine (pay2_apply _ _ _ r ⟨j.val, h⟩).trans (congrArg (· * scale) ?_)
    exact proj_congr (fun d => load_rows h1 x _ r d) (fun d => load_gains h2 g _ d) (fun d => load_columns h3 w 0 512 _ d ⟨j.val, h⟩ j (by show j.val = 0 + j.val; omega))
  · rw [if_neg (by omega), mul_one, canon_miss 1536 1280 _ _ _ r j (.inl h.2),
      canon_hit 512 1024 _ _ _ r j ⟨j.val - 512, by omega⟩ (by show j.val = 512 + (j.val - 512); omega)]
    refine (pay4_apply _ _ _ r ⟨j.val - 512, by omega⟩).trans ?_
    exact proj_congr (fun d => load_rows h1 x _ r d) (fun d => load_gains h2 g _ d) (fun d => load_columns h3 w 512 1024 _ d ⟨j.val - 512, by omega⟩ j (by show j.val = 512 + (j.val - 512); omega))
  · rw [if_neg (by omega), mul_one, canon_hit 1536 1280 _ _ _ r j ⟨j.val - 1536, by omega⟩ (by show j.val = 1536 + (j.val - 1536); omega)]
    refine (pay5_apply _ _ _ r ⟨j.val - 1536, by omega⟩).trans ?_
    exact proj_congr (fun d => load_rows h1 x _ r d) (fun d => load_gains h2 g _ d) (fun d => load_columns h3 w 1536 1280 _ d ⟨j.val - 1536, by omega⟩ j (by show j.val = 1536 + (j.val - 1536); omega))

/-- The second output's block: the keys and the values, unrounded. -/
theorem tail_apply (r : Fin 256) (j : Fin 1024) :
    out0_A_4 (F := Ideal) c i m1 h1 m2 h2 m3 h3 m4 h4 m5 h5 x g w (ix2 r j)
      = proj (fun d => x (ix2 r d)) (fun d => g (ix2 0 d)) (fun d => w (ix2 d ⟨512 + j.val, by omega⟩)) := by
  unfold out0_A_4
  rw [View.read_writes_junk_apply_eq_canon]
  unfold kernelRun0_A
  dsimp only
  have e : (ix2 r j : S256x1024.Idx) = (Rect.unit (s := S256x1024) ![0, 0] S256x1024.size inb_S256x1024_S256x1024_0_0).emb (ix2 r j) :=
    funext fun | 0 => Fin.ext (by show r.val = 0 + 1 * r.val; omega) | 1 => Fin.ext (by show j.val = 0 + 1 * j.val; omega)
  refine (congrArg (View.canon _) e).trans ?_
  refine (View.canon_cons_emb (Rect.unit (s := S256x1024) ![0, 0] S256x1024.size inb_S256x1024_S256x1024_0_0) _ _ (ix2 r j)).trans ?_
  refine (pay3_apply _ _ _ r j).trans ?_
  exact proj_congr (fun d => load_rows h1 x _ r d) (fun d => load_gains h2 g _ d) (fun d => load_columns h3 w 512 1024 _ d j _ rfl)

end SampleProj
end
-- ==== Proof.SampleProjReference.lean ====
module
public import proofs.«01_k».proof.Proof.Gen.SampleInprojReferenceIdeal.Read
public import proofs.«01_k».proof.Proof.SampleProjPoint
public import Idealize.ShloMosaic.Lib.Pointwise

/-! The reference of the sample's input projection at an entry. -/

@[expose] public section
set_option maxRecDepth 16384
noncomputable section

namespace SampleProj
open Idealize.ShloMosaic
open Proj (invRms proj scale factor proj_congr)

/-- Column `j` of token `R`'s normalised row times the weights. -/
def column (X : (⟨_, ![256, 1024]⟩ : Shape).Idx → EReal) (g : (⟨_, ![1, 1024]⟩ : Shape).Idx → EReal) (w : (⟨_, ![1024, 2816]⟩ : Shape).Idx → EReal)
    (R : Fin 256) (j : Fin 2816) : EReal :=
  proj (fun d => X (ix2 R d)) (fun d => g (ix2 0 d)) (fun d => w (ix2 d j))

namespace Ref
open Proj.Ref (word_0 word_1 word_2 word_8)
open Idealize.ShloMosaic.TcCoe Cert.SampleInprojReferenceIdeal Cert.SampleInprojReferenceIdeal.Gen Cert.SampleInprojReferenceIdeal.Read

variable (x0 : FVec Ideal S256x1024 .f32) (x1 : FVec Ideal S1x1024 .f32) (x2 : FVec Ideal S1024x2816 .bf16)

/-- The normalised rows, times the gains. -/
theorem normed (R : Fin 256) (d : Fin 1024) :
    val_main_v11 (F := Ideal) x0 x1 (ix2 R d) = x0 (ix2 R d) * invRms (fun d => x0 (ix2 R d)) * x1 (ix2 0 d) := by
  rw [val_main_v11_apply, val_main_v10_apply, val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply]
  have e0 : ∀ k, idx_main_v1 (idx_main_v2 (idx_main_v8 (ix2 R d))) k = ix2 R k := fun k => funext fun a => Fin.ext (by
    match a with
    | 0 => rfl
    | 1 => rfl)
  have e1 : idx_main_v10 (ix2 R d) = ix2 0 d := funext fun a => Fin.ext (by
    match a with
    | 0 => rfl
    | 1 => rfl)
  simp only [val_main_v0_apply, e0, e1]
  show x0 (ix2 R d) * Ideal.rsqrt (Ideal.div (Ideal.ofBits .f32 0x00000000#32 + ∑ k : Fin 1024, (x0 (ix2 R k) * x0 (ix2 R k) : EReal)) (Ideal.ofBits .f32 0x44800000#32)
    + Ideal.ofBits .f32 0x358637BD#32) * x1 (ix2 0 d) = _
  rw [word_0, zero_add]
  rfl

/-- Their products with the weights. -/
theorem product (R : Fin 256) (j : Fin 2816) : val_main_v13 (F := Ideal) x0 x1 x2 (ix2 R j) = column x0 x1 x2 R j := by
  rw [val_main_v13_apply]
  unfold column proj
  refine Finset.sum_congr rfl fun d _ => ?_
  rw [val_main_v12_apply, ← normed]
  refine congrArg₂ (· * ·) (congrArg (val_main_v11 (F := Ideal) x0 x1) (funext fun a => Fin.ext ?_)) (congrArg x2 (funext fun a => Fin.ext ?_))
  · match a with
    | 0 => rfl
    | 1 => rfl
  · match a with
    | 0 => rfl
    | 1 => rfl

/-- The factor of the queries. -/
theorem factor_apply : val_main_v18 (F := Ideal) ix0 = scale := by
  rw [val_main_v18_apply, val_main_v16_apply, val_main_cst_4_apply, val_main_v15_apply, val_main_cst_3_apply, val_main_v14_apply, val_main_cst_2_apply]
  show Ideal.ofBits .f32 0x3E000000#32 * Ideal.div (Ideal.ofBits .f32 0x3F800000#32) (Ideal.log (Ideal.ofBits .f32 0x40000000#32)) = _
  rw [word_1, word_2, word_8, Ideal.log_coe, if_neg (by norm_num), Ideal.div_coe (Real.log_pos (by norm_num)).ne', one_mul, ← EReal.coe_mul]
  unfold scale
  norm_num

/-- The reference's first result. -/
theorem rows_apply (R : Fin 256) (j : Fin 2816) :
    val_main_v23 (F := Ideal) x0 x1 x2 (ix2 R j) = column x0 x1 x2 R j * factor j.val := by
  have hj := j.isLt
  rw [val_main_v23_apply]
  show val_main_v22 (F := Ideal) x0 x1 x2 (ix2 R j) = _
  unfold factor val_main_v22
  by_cases h : j.val < 512
  · rw [if_pos h]
    refine (concatenate_pair_apply_left (s₁ := S256x512) (s₂ := S256x2304) (t := S256x2816) (1 : Fin 2) _ _ _ (ix2 R j) rfl (ix2 R ⟨j.val, h⟩) (fun | 0 => rfl | 1 => rfl)).trans ?_
    rw [val_main_v20_apply, val_main_v19_apply, val_main_v17_apply]
    refine congrArg₂ (· * ·) ((congrArg (val_main_v13 (F := Ideal) x0 x1 x2) (funext fun a => Fin.ext ?_)).trans (product x0 x1 x2 R j)) ((congrArg _ (funext fun a => a.elim0)).trans factor_apply)
    match a with
    | 0 => rfl
    | 1 => rfl
  · rw [if_neg h, mul_one]
    refine (concatenate_pair_apply_right (s₁ := S256x512) (s₂ := S256x2304) (t := S256x2816) (1 : Fin 2) _ _ _ (ix2 R j) rfl rfl (ix2 R ⟨j.val - 512, by omega⟩) ?_ ?_).trans ?_
    · exact fun | 0 => fun _ => rfl | 1 => fun hb => absurd rfl hb
    · show j.val - 512 + 512 = j.val
      omega
    rw [val_main_v21_apply]
    refine (congrArg (val_main_v13 (F := Ideal) x0 x1 x2) (funext fun a => Fin.ext ?_)).trans (product x0 x1 x2 R j)
    match a with
    | 0 => rfl
    | 1 => show 512 + (j.val - 512) = j.val; omega

/-- And its second. -/
theorem kv_apply (R : Fin 256) (j : Fin 1024) :
    val_main_v24 (F := Ideal) x0 x1 x2 (ix2 R j) = column x0 x1 x2 R ⟨512 + j.val, by omega⟩ := by
  rw [val_main_v24_apply]
  refine (congrArg (val_main_v13 (F := Ideal) x0 x1 x2) (funext fun k => Fin.ext ?_)).trans (product x0 x1 x2 R _)
  match k with
  | 0 => rfl
  | 1 => rfl

end Ref
end SampleProj
end
-- ==== Proof.SampleProjBlocks.lean ====
module
public import proofs.«01_k».proof.Proof.SampleProjReference
public import Idealize.ShloMosaic.Lib.Pipeline.Covers
public import Idealize.ShloMosaic.Lib.Pipeline.ValueKit

/-! Which part of the arguments its blocks hold, and the two arrays the sample's input projection leaves. -/

@[expose] public section
set_option maxRecDepth 16384
noncomputable section

namespace SampleProj
open Idealize.ShloMosaic Idealize.ShloMosaic.TcCoe Cert.SampleInprojIdeal Cert.SampleInprojIdeal.Gen Idealize.SL.Sem
open Proj (invRms proj scale factor proj_congr)

variable (m : (ℓ : Loc nD τ sig) → Buf (Elt Ideal) ℓ) (c : Dev nD)

/-- The block indices of the windows at each point. -/
theorem idx : ∀ t : Fin cfg0.N, win0_0.index t = ![t.val, 0] ∧ win0_1.index t = ![0, 0] ∧ win0_2.index t = ![0, 0] ∧
    win0_3.index t = ![t.val, 0] ∧ win0_4.index t = ![t.val, 0] :=
  (by decide +kernel : ∀ t : Fin grid0.N, _)

theorem points_lt (t : Fin cfg0.N) : t.val < 1 := lt_of_lt_of_eq t.isLt N_0

/-- The rows of a point. -/
theorem rows_block (t : Fin cfg0.N) (a : Fin 256) (d : Fin 1024) :
    iblk m c 0 t (ix2 a d) = m ((c : Thread nD τ).loc main_arg0) (ix2 ⟨256 * t.val + a.val, by have := points_lt t; omega⟩ d) := by
  have e := (idx t).1
  blk_ext [iblk, V, e]

/-- The gains. -/
theorem gains_block (t : Fin cfg0.N) (d : Fin 1024) :
    iblk m c 1 t (ix2 0 d) = m ((c : Thread nD τ).loc main_arg1) (ix2 0 d) := by
  have e := (idx t).2.1
  blk_ext [iblk, V, e]

/-- The weights. -/
theorem weights_block (t : Fin cfg0.N) (d : Fin 1024) (j : Fin 2816) :
    iblk m c 2 t (ix2 d j) = m ((c : Thread nD τ).loc main_arg2) (ix2 d j) := by
  have e := (idx t).2.2.1
  blk_ext [iblk, V, e]

/-- The projection of the arguments on device `c`. -/
def columnOf (R : Fin 256) (j : Fin 2816) : EReal :=
  column (m ((c : Thread nD τ).loc main_arg0)) (m ((c : Thread nD τ).loc main_arg1)) (m ((c : Thread nD τ).loc main_arg2)) R j

/-- The first result. -/
def rowsArr : Buf (Elt Ideal) ((cfg0.win 3).arr.view.loc (c : Thread nD τ)) :=
  fun (i : S256x2816.Idx) => columnOf m c (i 0) (i 1) * factor (i 1).val

/-- The second. -/
def kvArr : Buf (Elt Ideal) ((cfg0.win 4).arr.view.loc (c : Thread nD τ)) :=
  fun (i : S256x1024.Idx) => columnOf m c (i 0) ⟨512 + (i 1).val, by have : (i 1).val < 1024 := (i 1).isLt; omega⟩

/-- The two outputs of a point, as what the kernel makes of its blocks. -/
theorem out_rows (t : Fin cfg0.N) : (outsAt0 m c t).1 = out0_A_3 (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by simp only [outsAt0]

theorem out_kv (t : Fin cfg0.N) : (outsAt0 m c t).2 = out0_A_4 (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by simp only [outsAt0]

/-- What a point leaves in the first output. -/
theorem rows_point (t : Fin cfg0.N) (a : Fin 256) (j : Fin 2816) :
    (outsAt0 m c t).1 (ix2 a j) = columnOf m c ⟨256 * t.val + a.val, by have := points_lt t; omega⟩ j * factor j.val := by
  rw [out_rows]
  refine (rows_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) a j).trans (congrArg (· * factor j.val) ?_)
  exact proj_congr (rows_block m c t a) (gains_block m c t) (fun d => weights_block m c t d j)

/-- And in the second. -/
theorem kv_point (t : Fin cfg0.N) (a : Fin 256) (j : Fin 1024) :
    (outsAt0 m c t).2 (ix2 a j) = columnOf m c ⟨256 * t.val + a.val, by have := points_lt t; omega⟩ ⟨512 + j.val, by omega⟩ := by
  rw [out_kv]
  refine (tail_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) a j).trans ?_
  exact proj_congr (rows_block m c t a) (gains_block m c t) (fun d => weights_block m c t d _)

/-- The first array the kernel leaves. -/
theorem rows_array : (dats m 0 c).arrAt 3 cfg0.N = rowsArr m c := by
  refine (dats m 0 c).arrAt_eq_of_covers 3 (rowsArr m c) ?_ fun t _ y => ?_
  · refine (cfg0.win 3).covers_of_indexMap_surj rfl (show ∀ a : Fin 2, 0 < S256x2816.size a by decide) fun β => ?_
    have h0 : (β 0).val < 1 := lt_of_lt_of_eq (β 0).isLt (show (256 + 256 - 1) / 256 = 1 by decide)
    have h1 : (β 1).val < 1 := lt_of_lt_of_eq (β 1).isLt (show (2816 + 2816 - 1) / 2816 = 1 by decide)
    refine ⟨fun | 0 => ⟨(β 0).val, h0⟩, fun | 0 => ?_ | 1 => ?_⟩
    · show (BitVec.ofNat 32 (β 0).val).toNat = (β 0).val
      rw [BitVec.toNat_ofNat]; omega
    · show 0 = (β 1).val
      omega
  · have e := (idx t).2.2.2.1
    let z : S256x2816.Idx := (cfg0.win 3).xinj (grid0.coords t) y
    have ez : z = ix2 (z 0) (z 1) := funext fun | 0 => rfl | 1 => rfl
    refine (cast_eq _ _).trans ((congrFun (after0_3 m c t) z).trans ?_)
    refine (congrArg (outsAt0 m c t).1 ez).trans ((rows_point m c t (z 0) (z 1)).trans ?_)
    refine congrArg₂ (fun (R : Fin 256) (j : Fin 2816) => columnOf m c R j * factor j.val) (Fin.ext ?_) (Fin.ext ?_)
    · show 256 * t.val + (y 0).val = win0_3.index t 0 * 256 + 1 * (y 0).val
      rw [e]; show _ = t.val * 256 + 1 * (y 0).val; omega
    · show (y 1).val = win0_3.index t 1 * 2816 + 1 * (y 1).val
      rw [e]; show _ = 0 * 2816 + 1 * (y 1).val; omega

/-- The second. -/
theorem kv_array : (dats m 0 c).arrAt 4 cfg0.N = kvArr m c := by
  refine (dats m 0 c).arrAt_eq_of_covers 4 (kvArr m c) ?_ fun t _ y => ?_
  · refine (cfg0.win 4).covers_of_indexMap_surj rfl (show ∀ a : Fin 2, 0 < S256x1024.size a by decide) fun β => ?_
    have h0 : (β 0).val < 1 := lt_of_lt_of_eq (β 0).isLt (show (256 + 256 - 1) / 256 = 1 by decide)
    have h1 : (β 1).val < 1 := lt_of_lt_of_eq (β 1).isLt (show (1024 + 1024 - 1) / 1024 = 1 by decide)
    refine ⟨fun | 0 => ⟨(β 0).val, h0⟩, fun | 0 => ?_ | 1 => ?_⟩
    · show (BitVec.ofNat 32 (β 0).val).toNat = (β 0).val
      rw [BitVec.toNat_ofNat]; omega
    · show 0 = (β 1).val
      omega
  · have e := (idx t).2.2.2.2
    let z : S256x1024.Idx := (cfg0.win 4).xinj (grid0.coords t) y
    have ez : z = ix2 (z 0) (z 1) := funext fun | 0 => rfl | 1 => rfl
    refine (cast_eq _ _).trans ((congrFun (after0_4 m c t) z).trans ?_)
    refine (congrArg (outsAt0 m c t).2 ez).trans ((kv_point m c t (z 0) (z 1)).trans ?_)
    refine congrArg₂ (columnOf m c) (Fin.ext ?_) (Fin.ext ?_)
    · show 256 * t.val + (y 0).val = win0_4.index t 0 * 256 + 1 * (y 0).val
      rw [e]; show _ = t.val * 256 + 1 * (y 0).val; omega
    · show 512 + (y 1).val = 512 + (win0_4.index t 1 * 1024 + 1 * (y 1).val)
      rw [e]; show _ = 512 + (0 * 1024 + 1 * (y 1).val); omega

end SampleProj
end
-- ==== Proof.FfnPay.lean ====
module
public import proofs.«01_k».proof.Proof.Gen.FfnIdeal.Value
public import proofs.«01_k».proof.Proof.ExpertsPay
public import proofs.«01_k».proof.Proof.ProjPay
public import Idealize.ShloMosaic.Lib.Pointwise

/-! What the dense channel mixer's kernel computes from its rows, from 512 hidden units and from the layer embedding, entry by entry. -/

@[expose] public section
set_option maxRecDepth 16384
noncomputable section

namespace Ffn
open Idealize.ShloMosaic Idealize.ShloMosaic.TcCoe Cert.FfnIdeal Cert.FfnIdeal.Gen
open Moe (unit gated)
open Proj (invRms)

/-- A row normalised by its root mean square, times the gains. -/
def normed (x g : Fin 1024 → EReal) (d : Fin 1024) : EReal := x d * invRms x * g d

/-- The logistic. -/
def logistic (a : EReal) : EReal := Ideal.div 1 (1 + Ideal.exp (0 - a))

/-- Entry `n` of a row `h` with the gated embedding added: the logistic of the normalised row's product with a column, times the
embedding's product with another. -/
def embedded (h gp wg : Fin 1024 → EReal) (p wp : Fin 256 → EReal) (n : Fin 1024) : EReal :=
  h n + logistic (∑ d, normed h gp d * wg d) * ∑ e, p e * wp e

/-- The rows, normalised. -/
theorem pay2_apply (x : FVec Ideal S256x1024 .f32) (g : FVec Ideal S1x1024 .f32) (r : Fin 256) (d : Fin 1024) :
    k0_pay2 (F := Ideal) x g (ix2 r d) = normed (fun d => x (ix2 r d)) (fun d => g (ix2 0 d)) d := by
  pointwise [k0_pay2, normed, invRms]

/-- What the first eighth contributes. -/
theorem pay3_apply (x : FVec Ideal S256x1024 .f32) (n : FVec Ideal S1x1024 .f32) (g u : FVec Ideal S1x1024x512 .bf16) (w : FVec Ideal S1x512x1024 .bf16) (r : Fin 256) (j : Fin 1024) :
    k0_pay3 (F := Ideal) x n g u w (ix2 r j)
      = ∑ f : Fin 512, unit (fun d => k0_pay2 (F := Ideal) x n (ix2 r d)) (fun d => g (ix3 0 d f)) (fun d => u (ix3 0 d f)) * w (ix3 0 f j) := by
  pointwise [k0_pay3, unit, gated]

/-- It is stored as it is. -/
theorem pay4_apply (z : FVec Ideal S256x1024 .f32) (r : Fin 256) (j : Fin 1024) : k0_pay4 (F := Ideal) z (ix2 r j) = z (ix2 r j) := by
  pointwise [k0_pay4]

variable (x : FVec Ideal S256x1024 .bf16) (g u : FVec Ideal S1x1024x512 .bf16) (w : FVec Ideal S1x512x1024 .bf16)
    (z : FVec Ideal S256x1024 .f32) (r : Fin 256) (j : Fin 1024)

/-- What each further eighth adds to what was accumulated. -/
theorem pay5_apply : k0_pay5 (F := Ideal) x g u w z (ix2 r j)
    = z (ix2 r j) + ∑ f : Fin 512, unit (fun d => x (ix2 r d)) (fun d => g (ix3 0 d f)) (fun d => u (ix3 0 d f)) * w (ix3 0 f j) := by
  pointwise [k0_pay5, unit, gated]

theorem pay8_apply : k0_pay8 (F := Ideal) x (k0_pay6 (F := Ideal) x g) (k0_pay7 (F := Ideal) u) (constant S256x512 .f32 0x00000000#32) w z (ix2 r j)
    = z (ix2 r j) + ∑ f : Fin 512, unit (fun d => x (ix2 r d)) (fun d => g (ix3 0 d f)) (fun d => u (ix3 0 d f)) * w (ix3 0 f j) := by
  pointwise [k0_pay8, k0_pay6, k0_pay7, unit, gated]

theorem pay10_apply : k0_pay10 (F := Ideal) (k0_pay9 (F := Ideal) x g u) w z (ix2 r j)
    = z (ix2 r j) + ∑ f : Fin 512, unit (fun d => x (ix2 r d)) (fun d => g (ix3 0 d f)) (fun d => u (ix3 0 d f)) * w (ix3 0 f j) := by
  pointwise [k0_pay10, k0_pay9, unit, gated]

theorem pay11_apply : k0_pay11 (F := Ideal) x g u w z (ix2 r j)
    = z (ix2 r j) + ∑ f : Fin 512, unit (fun d => x (ix2 r d)) (fun d => g (ix3 0 d f)) (fun d => u (ix3 0 d f)) * w (ix3 0 f j) := by
  pointwise [k0_pay11, unit, gated]

theorem pay12_apply : k0_pay12 (F := Ideal) x g u w z (ix2 r j)
    = z (ix2 r j) + ∑ f : Fin 512, unit (fun d => x (ix2 r d)) (fun d => g (ix3 0 d f)) (fun d => u (ix3 0 d f)) * w (ix3 0 f j) := by
  pointwise [k0_pay12, unit, gated]

theorem pay16_apply : k0_pay16 (F := Ideal) (k0_pay13 (F := Ideal) x g) (k0_pay14 (F := Ideal) x u) (k0_pay15 (F := Ideal) x g) w z (ix2 r j)
    = z (ix2 r j) + ∑ f : Fin 512, unit (fun d => x (ix2 r d)) (fun d => g (ix3 0 d f)) (fun d => u (ix3 0 d f)) * w (ix3 0 f j) := by
  pointwise [k0_pay16, k0_pay15, k0_pay14, k0_pay13, unit, gated]

theorem pay19_apply : k0_pay19 (F := Ideal) (k0_pay17 (F := Ideal) x g u) (k0_pay18 (F := Ideal) w) (constant S256x1024 .f32 0x00000000#32) z (ix2 r j)
    = z (ix2 r j) + ∑ f : Fin 512, unit (fun d => x (ix2 r d)) (fun d => g (ix3 0 d f)) (fun d => u (ix3 0 d f)) * w (ix3 0 f j) := by
  pointwise [k0_pay19, k0_pay18, k0_pay17, unit, gated]

/-- The rows and what the hidden units made of them. -/
theorem pay20_apply (a b : FVec Ideal S256x1024 .f32) : k0_pay20 (F := Ideal) a b (ix2 r j) = a (ix2 r j) + b (ix2 r j) := by
  pointwise [k0_pay20]

/-- The gate of the embedding. -/
theorem pay22_apply (a b : FVec Ideal S256x1024 .f32) (gp : FVec Ideal S1x1024 .f32) (wg : FVec Ideal S1024x1024 .bf16) :
    k0_pay22 (F := Ideal) a b gp wg (ix2 r j)
      = logistic (∑ d, normed (fun d => a (ix2 r d) + b (ix2 r d)) (fun d => gp (ix2 0 d)) d * wg (ix2 d j)) := by
  pointwise [k0_pay22, k0_pay20, logistic, normed, invRms]

/-- What is stored. -/
theorem pay1_apply (a b : FVec Ideal S256x1024 .f32) (gp : FVec Ideal S1x1024 .f32) (wg : FVec Ideal S1024x1024 .bf16)
    (p : FVec Ideal S1x256x256 .f32) (wp : FVec Ideal S256x1024 .bf16) :
    k0_pay1 (F := Ideal) (k0_pay20 (F := Ideal) a b) (k0_pay21 (F := Ideal) p) wp (k0_pay22 (F := Ideal) a b gp wg) (ix2 r j)
      = embedded (fun d => a (ix2 r d) + b (ix2 r d)) (fun d => gp (ix2 0 d)) (fun d => wg (ix2 d j)) (fun e => p (ix3 0 r e)) (fun e => wp (ix2 e j)) j := by
  pointwise [k0_pay1, k0_pay21, pay20_apply, pay22_apply, embedded]

end Ffn
end
-- ==== Proof.FfnPoint.lean ====
module
public import proofs.«01_k».proof.Proof.FfnPay
public import proofs.«01_k».proof.Proof.ExpertsPoint
public import Idealize.ShloMosaic.Lib.WholeRead

/-! What the dense channel mixer's kernel leaves in its output block, entry by entry. -/

@[expose] public section
set_option maxRecDepth 16384
noncomputable section

namespace Ffn
open Idealize.ShloMosaic Idealize.ShloMosaic.TcCoe Cert.FfnIdeal Cert.FfnIdeal.Gen
open Moe (unit gated)
open Proj (invRms)

/-- Hidden unit `f`'s contribution to output `n` of a row. -/
def part (x : Fin 1024 → EReal) (g u : S1x1024x4096.Idx → EReal) (w : S1x4096x1024.Idx → EReal) (n : Fin 1024) (f : Fin 4096) : EReal :=
  unit x (fun d => g (ix3 0 d f)) (fun d => u (ix3 0 d f)) * w (ix3 0 f n)

/-- Entry `n` of a row with what the hidden units make of it. -/
def mixed (x gm : Fin 1024 → EReal) (g u : S1x1024x4096.Idx → EReal) (w : S1x4096x1024.Idx → EReal) (n : Fin 1024) : EReal :=
  x n + ∑ f, part (normed x gm) g u w n f

/-- A load of a whole matrix. -/
theorem load_matrix {a b : ℕ} {e : EltTy} {m : Memref sig .tc .vmem ⟨2, ![a, b]⟩ e} (hm : m.IsWhole) (x : (⟨2, ![a, b]⟩ : Shape).Idx → Elt Ideal e)
    (h : ∀ k, ![0, 0] k + ![a, b] k ≤ (⟨2, ![a, b]⟩ : Shape).size k) (r : Fin a) (d : Fin b) :
    View.readAt (Elt Ideal) m.view (Rect.unit (s := ⟨2, ![a, b]⟩) ![0, 0] ![a, b] h).toLoadRect (hm.unread x) (ix2 r d) = x (ix2 r d) := by
  rw [Memref.IsWhole.readAt_unread]
  refine congrArg x (funext fun | 0 => Fin.ext ?_ | 1 => Fin.ext ?_)
  · show 0 + 1 * r.val = r.val; omega
  · show 0 + 1 * d.val = d.val; omega

/-- A load of the embedding's rows. -/
theorem load_embedding {m : Memref sig .tc .vmem S1x256x256 .f32} (hm : m.IsWhole) (x : S1x256x256.Idx → Elt Ideal .f32)
    (h : ∀ k, ![0, 0, 0] k + S1x256x256.size k ≤ S1x256x256.size k) (r d : Fin 256) :
    View.readAt (Elt Ideal) m.view (Rect.unit (s := S1x256x256) ![0, 0, 0] S1x256x256.size h).toLoadRect (hm.unread x) (ix3 0 r d) = x (ix3 0 r d) := by
  rw [Memref.IsWhole.readAt_unread]
  refine congrArg x (funext fun | 0 => Fin.ext rfl | 1 => Fin.ext ?_ | 2 => Fin.ext ?_)
  · show 0 + 1 * r.val = r.val; omega
  · show 0 + 1 * d.val = d.val; omega

/-- The columns of 512 hidden units from the `o`-th on. -/
theorem load_columns {m : Memref sig .tc .vmem S1x1024x4096 .bf16} (hm : m.IsWhole) (x : S1x1024x4096.Idx → Elt Ideal .bf16) (o : ℕ)
    (h : ∀ a, ![0, 0, o] a + S1x1024x512.size a ≤ S1x1024x4096.size a) (d : Fin 1024) (f : Fin 512) (hf : o + f.val < 4096) :
    View.readAt (Elt Ideal) m.view (Rect.unit (s := S1x1024x4096) ![0, 0, o] S1x1024x512.size h).toLoadRect (hm.unread x) (ix3 0 d f)
      = x (ix3 0 d ⟨o + f.val, hf⟩) := by
  rw [Memref.IsWhole.readAt_unread]
  refine congrArg x (funext fun | 0 => Fin.ext rfl | 1 => Fin.ext ?_ | 2 => Fin.ext ?_)
  · show 0 + 1 * d.val = d.val; omega
  · show o + 1 * f.val = o + f.val; omega

/-- The rows of 512 hidden units from the `o`-th on. -/
theorem load_rows {m : Memref sig .tc .vmem S1x4096x1024 .bf16} (hm : m.IsWhole) (x : S1x4096x1024.Idx → Elt Ideal .bf16) (o : ℕ)
    (h : ∀ a, ![0, o, 0] a + S1x512x1024.size a ≤ S1x4096x1024.size a) (f : Fin 512) (n : Fin 1024) (hf : o + f.val < 4096) :
    View.readAt (Elt Ideal) m.view (Rect.unit (s := S1x4096x1024) ![0, o, 0] S1x512x1024.size h).toLoadRect (hm.unread x) (ix3 0 f n)
      = x (ix3 0 ⟨o + f.val, hf⟩ n) := by
  rw [Memref.IsWhole.readAt_unread]
  refine congrArg x (funext fun | 0 => Fin.ext rfl | 1 => Fin.ext ?_ | 2 => Fin.ext ?_)
  · show o + 1 * f.val = o + f.val; omega
  · show 0 + 1 * n.val = n.val; omega

/-- 512 hidden units from the `o`-th on, off the loads. -/
theorem eighth {m3 m4 : Memref sig .tc .vmem S1x1024x4096 .bf16} {m5 : Memref sig .tc .vmem S1x4096x1024 .bf16} (h3 : m3.IsWhole) (h4 : m4.IsWhole) (h5 : m5.IsWhole)
    (g u : S1x1024x4096.Idx → Elt Ideal .bf16) (w : S1x4096x1024.Idx → Elt Ideal .bf16) (o : ℕ) (ho : o + 512 ≤ 4096)
    (hg hu : ∀ a, ![0, 0, o] a + S1x1024x512.size a ≤ S1x1024x4096.size a) (hw : ∀ a, ![0, o, 0] a + S1x512x1024.size a ≤ S1x4096x1024.size a)
    {x x' : Fin 1024 → EReal} (hx : ∀ d, x d = x' d) (n : Fin 1024) :
    (∑ f : Fin 512, unit x (fun d => View.readAt (Elt Ideal) m3.view (Rect.unit (s := S1x1024x4096) ![0, 0, o] S1x1024x512.size hg).toLoadRect (h3.unread g) (ix3 0 d f))
        (fun d => View.readAt (Elt Ideal) m4.view (Rect.unit (s := S1x1024x4096) ![0, 0, o] S1x1024x512.size hu).toLoadRect (h4.unread u) (ix3 0 d f))
      * View.readAt (Elt Ideal) m5.view (Rect.unit (s := S1x4096x1024) ![0, o, 0] S1x512x1024.size hw).toLoadRect (h5.unread w) (ix3 0 f n))
      = ∑ f : Fin 512, part x' g u w n ⟨o + f.val, by omega⟩ := by
  obtain rfl : x = x' := funext hx
  refine Finset.sum_congr rfl fun f _ => ?_
  have hf : o + f.val < 4096 := by omega
  unfold part
  rw [load_rows h5 w o hw f n hf, funext fun d => load_columns h3 g o hg d f hf, funext fun d => load_columns h4 u o hu d f hf]

/-- 4096 terms, 512 at a time. -/
theorem sum_eighths (p : Fin 4096 → EReal) :
    (∑ f : Fin 512, p ⟨0 + f.val, by omega⟩) + (∑ f : Fin 512, p ⟨512 + f.val, by omega⟩) + (∑ f : Fin 512, p ⟨1024 + f.val, by omega⟩)
      + (∑ f : Fin 512, p ⟨1536 + f.val, by omega⟩) + (∑ f : Fin 512, p ⟨2048 + f.val, by omega⟩) + (∑ f : Fin 512, p ⟨2560 + f.val, by omega⟩)
      + (∑ f : Fin 512, p ⟨3072 + f.val, by omega⟩) + (∑ f : Fin 512, p ⟨3584 + f.val, by omega⟩) = ∑ f, p f := by
  have h0 := Moe.sum_quarters fun f : Fin 2048 => p (Fin.castAdd 2048 f)
  have h1 := Moe.sum_quarters fun f : Fin 2048 => p (Fin.natAdd 2048 f)
  rw [Fin.sum_univ_add (a := 2048) (b := 2048) p, ← h0, ← h1]
  simp only [← add_assoc]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun f _ => congrArg p (Fin.ext (by simp [Fin.natAdd, Fin.castAdd]; try omega))

variable (c : Dev nD) (i : grid0.Coords)
    (m1 : Memref sig .tc .vmem S256x1024 .f32) (h1 : m1.IsWhole)
    (m2 : Memref sig .tc .vmem S1x1024 .f32) (h2 : m2.IsWhole)
    (m3 : Memref sig .tc .vmem S1x1024x4096 .bf16) (h3 : m3.IsWhole)
    (m4 : Memref sig .tc .vmem S1x1024x4096 .bf16) (h4 : m4.IsWhole)
    (m5 : Memref sig .tc .vmem S1x4096x1024 .bf16) (h5 : m5.IsWhole)
    (m6 : Memref sig .tc .vmem S1x256x256 .f32) (h6 : m6.IsWhole)
    (m7 : Memref sig .tc .vmem S1x1024 .f32) (h7 : m7.IsWhole)
    (m8 : Memref sig .tc .vmem S1024x1024 .bf16) (h8 : m8.IsWhole)
    (m9 : Memref sig .tc .vmem S256x1024 .bf16) (h9 : m9.IsWhole)
    (m10 : Memref sig .tc .vmem S1x1024 .f32) (h10 : m10.IsWhole)
    (m11 : Memref sig .tc .vmem S256x1024 .f32) (h11 : m11.IsWhole)
    (m12 : Memref sig .tc .vmem S256x1024 .f32) (h12 : m12.IsWhole)
    (x : FVec Ideal S256x1024 .f32) (gm : FVec Ideal S1x1024 .f32) (g u : FVec Ideal S1x1024x4096 .bf16) (w : FVec Ideal S1x4096x1024 .bf16)
    (p : FVec Ideal S1x256x256 .f32) (gp : FVec Ideal S1x1024 .f32) (wg : FVec Ideal S1024x1024 .bf16) (wp : FVec Ideal S256x1024 .bf16) (gf : FVec Ideal S1x1024 .f32)
    (r : Fin 256) (j : Fin 1024)

/-- Equal rows and gains give equal normalised rows. -/
theorem normed_congr {x x' g g' : Fin 1024 → EReal} (hx : ∀ d, x d = x' d) (hg : ∀ d, g d = g' d) (d : Fin 1024) : normed x g d = normed x' g' d := by
  rw [funext hx, funext hg]

/-- The normalised rows as the kernel holds them. -/
theorem rows_apply (d : Fin 1024) : kernelRun0_A.sl.r (F := Ideal) c m1 h1 m2 h2 x gm (ix2 r d) = normed (fun d => x (ix2 r d)) (fun d => gm (ix2 0 d)) d := by
  unfold kernelRun0_A.sl.r
  exact (pay2_apply _ _ r d).trans (normed_congr (fun d => load_matrix h1 x _ r d) (fun d => load_matrix h2 gm _ 0 d) d)

/-- The accumulated sums after the first eighth, and after each further one. -/
theorem acc1 : kernelRun0_A.sl.v56 (F := Ideal) c m1 h1 m2 h2 m3 h3 m4 h4 m5 h5 m12 x gm g u w (ix2 r j)
    = ∑ f : Fin 512, part (normed (fun d => x (ix2 r d)) (fun d => gm (ix2 0 d))) g u w j ⟨0 + f.val, by omega⟩ := by
  rw [kernelRun0_A.sl.v56, kernelRun0_A.sl.HS0_1]
  refine (congrFun (View.readCov_cons_toLoadRect _ _ _ _) _).trans ?_
  refine (pay4_apply _ r j).trans ?_
  unfold kernelRun0_A.sl.r_1
  refine (pay3_apply _ _ _ _ _ r j).trans ?_
  exact eighth h3 h4 h5 g u w 0 (by omega) _ _ _ (rows_apply c m1 h1 m2 h2 x gm r) j

theorem acc2 : kernelRun0_A.sl.v80 (F := Ideal) c m1 h1 m2 h2 m3 h3 m4 h4 m5 h5 m12 x gm g u w (ix2 r j)
    = kernelRun0_A.sl.v56 (F := Ideal) c m1 h1 m2 h2 m3 h3 m4 h4 m5 h5 m12 x gm g u w (ix2 r j)
      + ∑ f : Fin 512, part (normed (fun d => x (ix2 r d)) (fun d => gm (ix2 0 d))) g u w j ⟨512 + f.val, by omega⟩ := by
  rw [kernelRun0_A.sl.v80, kernelRun0_A.sl.HS0_2]
  refine (congrFun (View.readCov_cons_toLoadRect _ _ _ _) _).trans ?_
  refine (pay5_apply _ _ _ _ _ r j).trans (congrArg _ ?_)
  exact eighth h3 h4 h5 g u w 512 (by omega) _ _ _ (rows_apply c m1 h1 m2 h2 x gm r) j

theorem acc3 : kernelRun0_A.sl.v104 (F := Ideal) c m1 h1 m2 h2 m3 h3 m4 h4 m5 h5 m12 x gm g u w (ix2 r j)
    = kernelRun0_A.sl.v80 (F := Ideal) c m1 h1 m2 h2 m3 h3 m4 h4 m5 h5 m12 x gm g u w (ix2 r j)
      + ∑ f : Fin 512, part (normed (fun d => x (ix2 r d)) (fun d => gm (ix2 0 d))) g u w j ⟨1024 + f.val, by omega⟩ := by
  rw [kernelRun0_A.sl.v104, kernelRun0_A.sl.HS0_3, kernelRun0_A.sl.r_3, kernelRun0_A.sl.r_4, kernelRun0_A.sl.cst_46]
  refine (congrFun (View.readCov_cons_toLoadRect _ _ _ _) _).trans ?_
  refine (pay8_apply _ _ _ _ _ r j).trans (congrArg _ ?_)
  exact eighth h3 h4 h5 g u w 1024 (by omega) _ _ _ (rows_apply c m1 h1 m2 h2 x gm r) j

theorem acc4 : kernelRun0_A.sl.v128 (F := Ideal) c m1 h1 m2 h2 m3 h3 m4 h4 m5 h5 m12 x gm g u w (ix2 r j)
    = kernelRun0_A.sl.v104 (F := Ideal) c m1 h1 m2 h2 m3 h3 m4 h4 m5 h5 m12 x gm g u w (ix2 r j)
      + ∑ f : Fin 512, part (normed (fun d => x (ix2 r d)) (fun d => gm (ix2 0 d))) g u w j ⟨1536 + f.val, by omega⟩ := by
  rw [kernelRun0_A.sl.v128, kernelRun0_A.sl.HS0_4, kernelRun0_A.sl.r_5]
  refine (congrFun (View.readCov_cons_toLoadRect _ _ _ _) _).trans ?_
  refine (pay10_apply _ _ _ _ _ r j).trans (congrArg _ ?_)
  exact eighth h3 h4 h5 g u w 1536 (by omega) _ _ _ (rows_apply c m1 h1 m2 h2 x gm r) j

theorem acc5 : kernelRun0_A.sl.v152 (F := Ideal) c m1 h1 m2 h2 m3 h3 m4 h4 m5 h5 m12 x gm g u w (ix2 r j)
    = kernelRun0_A.sl.v128 (F := Ideal) c m1 h1 m2 h2 m3 h3 m4 h4 m5 h5 m12 x gm g u w (ix2 r j)
      + ∑ f : Fin 512, part (normed (fun d => x (ix2 r d)) (fun d => gm (ix2 0 d))) g u w j ⟨2048 + f.val, by omega⟩ := by
  rw [kernelRun0_A.sl.v152, kernelRun0_A.sl.HS0_5]
  refine (congrFun (View.readCov_cons_toLoadRect _ _ _ _) _).trans ?_
  refine (pay11_apply _ _ _ _ _ r j).trans (congrArg _ ?_)
  exact eighth h3 h4 h5 g u w 2048 (by omega) _ _ _ (rows_apply c m1 h1 m2 h2 x gm r) j

theorem acc6 : kernelRun0_A.sl.v176 (F := Ideal) c m1 h1 m2 h2 m3 h3 m4 h4 m5 h5 m12 x gm g u w (ix2 r j)
    = kernelRun0_A.sl.v152 (F := Ideal) c m1 h1 m2 h2 m3 h3 m4 h4 m5 h5 m12 x gm g u w (ix2 r j)
      + ∑ f : Fin 512, part (normed (fun d => x (ix2 r d)) (fun d => gm (ix2 0 d))) g u w j ⟨2560 + f.val, by omega⟩ := by
  rw [kernelRun0_A.sl.v176, kernelRun0_A.sl.HS0_6]
  refine (congrFun (View.readCov_cons_toLoadRect _ _ _ _) _).trans ?_
  refine (pay12_apply _ _ _ _ _ r j).trans (congrArg _ ?_)
  exact eighth h3 h4 h5 g u w 2560 (by omega) _ _ _ (rows_apply c m1 h1 m2 h2 x gm r) j

theorem acc7 : kernelRun0_A.sl.v200 (F := Ideal) c m1 h1 m2 h2 m3 h3 m4 h4 m5 h5 m12 x gm g u w (ix2 r j)
    = kernelRun0_A.sl.v176 (F := Ideal) c m1 h1 m2 h2 m3 h3 m4 h4 m5 h5 m12 x gm g u w (ix2 r j)
      + ∑ f : Fin 512, part (normed (fun d => x (ix2 r d)) (fun d => gm (ix2 0 d))) g u w j ⟨3072 + f.val, by omega⟩ := by
  rw [kernelRun0_A.sl.v200, kernelRun0_A.sl.HS0_7, kernelRun0_A.sl.r_6, kernelRun0_A.sl.r_7, kernelRun0_A.sl.r_8]
  refine (congrFun (View.readCov_cons_toLoadRect _ _ _ _) _).trans ?_
  refine (pay16_apply _ _ _ _ _ r j).trans (congrArg _ ?_)
  exact eighth h3 h4 h5 g u w 3072 (by omega) _ _ _ (rows_apply c m1 h1 m2 h2 x gm r) j

theorem acc8 : kernelRun0_A.sl.v206 (F := Ideal) c m1 h1 m2 h2 m3 h3 m4 h4 m5 h5 m12 x gm g u w (ix2 r j)
    = kernelRun0_A.sl.v200 (F := Ideal) c m1 h1 m2 h2 m3 h3 m4 h4 m5 h5 m12 x gm g u w (ix2 r j)
      + ∑ f : Fin 512, part (normed (fun d => x (ix2 r d)) (fun d => gm (ix2 0 d))) g u w j ⟨3584 + f.val, by omega⟩ := by
  rw [kernelRun0_A.sl.v206, kernelRun0_A.sl.HS0_8, kernelRun0_A.sl.r_9, kernelRun0_A.sl.r_10, kernelRun0_A.sl.cst_143]
  refine (congrFun (View.readCov_cons_toLoadRect _ _ _ _) _).trans ?_
  refine (pay19_apply _ _ _ _ _ r j).trans (congrArg _ ?_)
  exact eighth h3 h4 h5 g u w 3584 (by omega) _ _ _ (rows_apply c m1 h1 m2 h2 x gm r) j

/-- The whole sum. -/
theorem sums_apply : kernelRun0_A.sl.v206 (F := Ideal) c m1 h1 m2 h2 m3 h3 m4 h4 m5 h5 m12 x gm g u w (ix2 r j)
    = ∑ f, part (normed (fun d => x (ix2 r d)) (fun d => gm (ix2 0 d))) g u w j f := by
  rw [acc8, acc7, acc6, acc5, acc4, acc3, acc2, acc1]
  exact sum_eighths _

/-- Equal rows, gains, columns and embeddings give equal results. -/
theorem embedded_congr {h h' gp gp' wg wg' : Fin 1024 → EReal} {p p' wp wp' : Fin 256 → EReal} (hh : ∀ d, h d = h' d) (hg : ∀ d, gp d = gp' d) (hw : ∀ d, wg d = wg' d)
    (hp : ∀ e, p e = p' e) (hq : ∀ e, wp e = wp' e) (n : Fin 1024) : embedded h gp wg p wp n = embedded h' gp' wg' p' wp' n := by
  rw [funext hh, funext hg, funext hw, funext hp, funext hq]

/-- The output block. -/
theorem out_apply : out0_A_10 (F := Ideal) c i m1 h1 m2 h2 m3 h3 m4 h4 m5 h5 m6 h6 m7 h7 m8 h8 m9 h9 m10 h10 m11 h11 m12 h12 x gm g u w p gp wg wp gf (ix2 r j)
    = embedded (mixed (fun d => x (ix2 r d)) (fun d => gm (ix2 0 d)) g u w) (fun d => gp (ix2 0 d)) (fun d => wg (ix2 d j)) (fun e => p (ix3 0 r e)) (fun e => wp (ix2 e j)) j := by
  unfold out0_A_10
  rw [View.read_writes_junk_apply_eq_canon]
  unfold kernelRun0_A
  dsimp only
  have e : (ix2 r j : S256x1024.Idx) = (Rect.unit (s := S256x1024) ![0, 0] S256x1024.size inb_S256x1024_S256x1024_0_0).emb (ix2 r j) :=
    funext fun | 0 => Fin.ext (by show r.val = 0 + 1 * r.val; omega) | 1 => Fin.ext (by show j.val = 0 + 1 * j.val; omega)
  refine (congrArg (View.canon _) e).trans ?_
  refine (View.canon_cons_emb (Rect.unit (s := S256x1024) ![0, 0] S256x1024.size inb_S256x1024_S256x1024_0_0) _ _ (ix2 r j)).trans ?_
  rw [kernelRun0_A.sl.r_11, kernelRun0_A.sl.r_12, kernelRun0_A.sl.r_13, kernelRun0_A.sl.r_14]
  refine (pay1_apply r j _ _ _ _ _ _).trans ?_
  exact embedded_congr (fun d => congrArg₂ (· + ·) (load_matrix h1 x _ r d) (sums_apply c m1 h1 m2 h2 m3 h3 m4 h4 m5 h5 m12 x gm g u w r d))
    (fun d => load_matrix h7 gp _ 0 d) (fun d => load_matrix h8 wg _ d j) (fun e => load_embedding h6 p _ r e) (fun e => load_matrix h9 wp _ e j) j

end Ffn
end
-- ==== Proof.FfnReference.lean ====
module
public import proofs.«01_k».proof.Proof.Gen.FfnReferenceIdeal.Read
public import proofs.«01_k».proof.Proof.FfnPoint
public import proofs.«01_k».proof.Proof.ExpertsReference
public import Idealize.ShloMosaic.Lib.Pointwise

/-! The dense channel mixer's reference at an entry. -/

@[expose] public section
set_option maxRecDepth 16384
noncomputable section

namespace Ffn
open Idealize.ShloMosaic
open Moe (unit gated)
open Proj (invRms)

/-- Entry `j` of row `R` of the layer: the row with what the hidden units make of it, and the gated embedding of the first layer. -/
def layer (x : (⟨_, ![256, 1024]⟩ : Shape).Idx → EReal) (gm : (⟨_, ![1, 1024]⟩ : Shape).Idx → EReal) (g u : (⟨_, ![1, 1024, 4096]⟩ : Shape).Idx → EReal)
    (w : (⟨_, ![1, 4096, 1024]⟩ : Shape).Idx → EReal) (p : (⟨_, ![2, 256, 256]⟩ : Shape).Idx → EReal) (gp : (⟨_, ![1, 1024]⟩ : Shape).Idx → EReal)
    (wg : (⟨_, ![1024, 1024]⟩ : Shape).Idx → EReal) (wp : (⟨_, ![256, 1024]⟩ : Shape).Idx → EReal) (R : Fin 256) (j : Fin 1024) : EReal :=
  embedded (mixed (fun d => x (ix2 R d)) (fun d => gm (ix2 0 d)) g u w) (fun d => gp (ix2 0 d)) (fun d => wg (ix2 d j)) (fun e => p (ix3 0 R e)) (fun e => wp (ix2 e j)) j

namespace Ref
open Idealize.ShloMosaic.TcCoe Cert.FfnReferenceIdeal Cert.FfnReferenceIdeal.Gen Cert.FfnReferenceIdeal.Read
open Moe.Ref (word_0 word_1)

variable (x0 : FVec Ideal S256x1024 .f32) (x1 : FVec Ideal S1x1024 .f32) (x2 x3 : FVec Ideal S1x1024x4096 .bf16) (x4 : FVec Ideal S1x4096x1024 .bf16)
    (x5 : FVec Ideal S2x256x256 .f32) (x6 : FVec Ideal S1x1024 .f32) (x7 : FVec Ideal S1024x1024 .bf16) (x8 : FVec Ideal S256x1024 .bf16)

/-- The normalised rows, times the gains. -/
theorem normed_apply (R : Fin 256) (d : Fin 1024) :
    val_main_v17 (F := Ideal) x0 x1 (ix2 R d) = normed (fun d => x0 (ix2 R d)) (fun d => x1 (ix2 0 d)) d := by
  rw [val_main_v17_apply, val_main_v16_apply, val_main_v15_apply, val_main_v14_apply, val_main_v13_apply, val_main_v12_apply, val_main_v11_apply, val_main_v10_apply,
    val_main_v9_apply, val_main_v8_apply, val_main_v7_apply, val_main_cst_apply, val_main_cst_0_apply, val_main_cst_1_apply]
  have e0 : ∀ k, idx_main_v7 (idx_main_v8 (idx_main_v14 (ix2 R d))) k = ix2 R k := fun k => funext fun a => Fin.ext (by
    match a with
    | 0 => rfl
    | 1 => rfl)
  have e1 : idx_main_v16 (ix2 R d) = ix2 0 d := funext fun a => Fin.ext (by
    match a with
    | 0 => rfl
    | 1 => rfl)
  simp only [val_main_v6_apply, e0, e1]
  show x0 (ix2 R d) * Ideal.rsqrt (Ideal.div (Ideal.ofBits .f32 0x00000000#32 + ∑ k : Fin 1024, (x0 (ix2 R k) * x0 (ix2 R k) : EReal)) (Ideal.ofBits .f32 0x44800000#32)
    + Ideal.ofBits .f32 0x358637BD#32) * x1 (ix2 0 d) = _
  rw [word_0, zero_add]
  rfl

/-- A normalised row's product with a column of the first matrix. -/
theorem gate (R : Fin 256) (f : Fin 4096) :
    val_main_v18 (F := Ideal) x0 x1 x2 (ix2 R f) = ∑ d, normed (fun d => x0 (ix2 R d)) (fun d => x1 (ix2 0 d)) d * x2 (ix3 0 d f) := by
  rw [val_main_v18_apply]
  refine Finset.sum_congr rfl fun d _ => ?_
  rw [val_main_v1_apply, val_main_v0_apply, ← normed_apply]
  have hd := d.isLt
  have hf := f.isLt
  refine congrArg₂ (· * ·) (congrArg (val_main_v17 (F := Ideal) x0 x1) (funext fun a => Fin.ext ?_)) (congrArg x2 (funext fun a => Fin.ext ?_))
  · match a with
    | 0 => rfl
    | 1 => rfl
  · match a with
    | 0 => rfl
    | 1 => show (d.val * 4096 + f.val) / 4096 % 1024 = d.val; omega
    | 2 => show (d.val * 4096 + f.val) % 4096 = f.val; omega

/-- And of the second. -/
theorem up (R : Fin 256) (f : Fin 4096) :
    val_main_v20 (F := Ideal) x0 x1 x3 (ix2 R f) = ∑ d, normed (fun d => x0 (ix2 R d)) (fun d => x1 (ix2 0 d)) d * x3 (ix3 0 d f) := by
  rw [val_main_v20_apply]
  refine Finset.sum_congr rfl fun d _ => ?_
  rw [val_main_v3_apply, val_main_v2_apply, ← normed_apply]
  have hd := d.isLt
  have hf := f.isLt
  refine congrArg₂ (· * ·) (congrArg (val_main_v17 (F := Ideal) x0 x1) (funext fun a => Fin.ext ?_)) (congrArg x3 (funext fun a => Fin.ext ?_))
  · match a with
    | 0 => rfl
    | 1 => rfl
  · match a with
    | 0 => rfl
    | 1 => show (d.val * 4096 + f.val) / 4096 % 1024 = d.val; omega
    | 2 => show (d.val * 4096 + f.val) % 4096 = f.val; omega

/-- A hidden unit. -/
theorem hidden (R : Fin 256) (f : Fin 4096) :
    val_main_v21 (F := Ideal) x0 x1 x2 x3 (ix2 R f) = unit (normed (fun d => x0 (ix2 R d)) (fun d => x1 (ix2 0 d))) (fun d => x2 (ix3 0 d f)) (fun d => x3 (ix3 0 d f)) := by
  rw [val_main_v21_apply, val_main_v19_apply, val_main_call0_v5_apply, val_main_call0_v4_apply, val_main_call0_cst_0_apply, val_main_call0_v3_apply,
    val_main_call0_v2_apply, val_main_call0_cst_apply, val_main_call0_v1_apply, val_main_call0_v0_apply, gate, up]
  unfold unit gated
  generalize (∑ d : Fin 1024, normed (fun d => x0 (ix2 R d)) (fun d => x1 (ix2 0 d)) d * x2 (ix3 0 d f)) = a
  generalize (∑ d : Fin 1024, normed (fun d => x0 (ix2 R d)) (fun d => x1 (ix2 0 d)) d * x3 (ix3 0 d f)) = b
  show a * Ideal.div (Ideal.ofBits .f32 0x3F800000#32) (Ideal.ofBits .f32 0x3F800000#32 + Ideal.exp (-a)) * b = _
  rw [word_1, zero_sub]

/-- A row with what the hidden units make of it. -/
theorem mixed_apply (R : Fin 256) (n : Fin 1024) :
    val_main_v23 (F := Ideal) x0 x1 x2 x3 x4 (ix2 R n) = mixed (fun d => x0 (ix2 R d)) (fun d => x1 (ix2 0 d)) x2 x3 x4 n := by
  rw [val_main_v23_apply, val_main_v22_apply]
  refine congrArg (x0 (ix2 R n) + ·) (Finset.sum_congr rfl fun f _ => ?_)
  unfold part
  rw [val_main_v5_apply, val_main_v4_apply, ← hidden]
  have hn := n.isLt
  have hf := f.isLt
  refine congrArg₂ (· * ·) (congrArg (val_main_v21 (F := Ideal) x0 x1 x2 x3) (funext fun a => Fin.ext ?_)) (congrArg x4 (funext fun a => Fin.ext ?_))
  · match a with
    | 0 => rfl
    | 1 => rfl
  · match a with
    | 0 => rfl
    | 1 => show (f.val * 1024 + n.val) / 1024 % 4096 = f.val; omega
    | 2 => show (f.val * 1024 + n.val) % 1024 = n.val; omega

/-- That row, normalised and times the embedding's gains. -/
theorem second_apply (R : Fin 256) (d : Fin 1024) :
    val_main_v35 (F := Ideal) x0 x1 x2 x3 x4 x6 (ix2 R d) = normed (mixed (fun d => x0 (ix2 R d)) (fun d => x1 (ix2 0 d)) x2 x3 x4) (fun d => x6 (ix2 0 d)) d := by
  rw [val_main_v35_apply, val_main_v34_apply, val_main_v33_apply, val_main_v32_apply, val_main_v31_apply, val_main_v30_apply, val_main_v29_apply, val_main_v28_apply,
    val_main_v27_apply, val_main_v26_apply, val_main_v25_apply, val_main_cst_2_apply, val_main_cst_3_apply, val_main_cst_4_apply]
  have e0 : ∀ k, idx_main_v25 (idx_main_v26 (idx_main_v32 (ix2 R d))) k = ix2 R k := fun k => funext fun a => Fin.ext (by
    match a with
    | 0 => rfl
    | 1 => rfl)
  have e1 : idx_main_v34 (ix2 R d) = ix2 0 d := funext fun a => Fin.ext (by
    match a with
    | 0 => rfl
    | 1 => rfl)
  simp only [val_main_v24_apply, e0, e1, mixed_apply]
  generalize mixed (fun d => x0 (ix2 R d)) (fun d => x1 (ix2 0 d)) x2 x3 x4 = y
  show y d * Ideal.rsqrt (Ideal.div (Ideal.ofBits .f32 0x00000000#32 + ∑ k : Fin 1024, (y k * y k : EReal)) (Ideal.ofBits .f32 0x44800000#32)
    + Ideal.ofBits .f32 0x358637BD#32) * x6 (ix2 0 d) = _
  rw [word_0, zero_add]
  rfl

/-- The gate of the embedding. -/
theorem logistic_apply (R : Fin 256) (j : Fin 1024) :
    val_main_v43 (F := Ideal) x0 x1 x2 x3 x4 x6 x7 (ix2 R j)
      = logistic (∑ d, normed (mixed (fun d => x0 (ix2 R d)) (fun d => x1 (ix2 0 d)) x2 x3 x4) (fun d => x6 (ix2 0 d)) d * x7 (ix2 d j)) := by
  have key : val_main_v37 (F := Ideal) x0 x1 x2 x3 x4 x6 x7 (ix2 R j)
      = ∑ d, normed (mixed (fun d => x0 (ix2 R d)) (fun d => x1 (ix2 0 d)) x2 x3 x4) (fun d => x6 (ix2 0 d)) d * x7 (ix2 d j) := by
    rw [val_main_v37_apply]
    refine Finset.sum_congr rfl fun d _ => ?_
    rw [val_main_v36_apply, ← second_apply]
    refine congrArg₂ (· * ·) (congrArg (val_main_v35 (F := Ideal) x0 x1 x2 x3 x4 x6) (funext fun a => Fin.ext ?_)) (congrArg x7 (funext fun a => Fin.ext ?_))
    · match a with
      | 0 => rfl
      | 1 => rfl
    · match a with
      | 0 => rfl
      | 1 => rfl
  rw [val_main_v43_apply, val_main_v42_apply, val_main_cst_6_apply, val_main_v41_apply, val_main_v40_apply, val_main_cst_5_apply, val_main_v39_apply, val_main_v38_apply, key]
  generalize (∑ d, normed (mixed (fun d => x0 (ix2 R d)) (fun d => x1 (ix2 0 d)) x2 x3 x4) (fun d => x6 (ix2 0 d)) d * x7 (ix2 d j)) = a
  show Ideal.div (Ideal.ofBits .f32 0x3F800000#32) (Ideal.ofBits .f32 0x3F800000#32 + Ideal.exp (-a)) = _
  unfold logistic
  rw [word_1, zero_sub]

/-- The embedding's product with a column. -/
theorem embedding_apply (R : Fin 256) (j : Fin 1024) :
    val_main_v47 (F := Ideal) x5 x8 (ix2 R j) = ∑ e : Fin 256, x5 (ix3 0 R e) * x8 (ix2 e j) := by
  rw [val_main_v47_apply]
  refine Finset.sum_congr rfl fun e _ => ?_
  rw [val_main_v45_apply, val_main_v44_apply, val_main_v46_apply]
  have hR := R.isLt
  have he := e.isLt
  refine congrArg₂ (· * ·) (congrArg x5 (funext fun a => Fin.ext ?_)) (congrArg x8 (funext fun a => Fin.ext ?_))
  · match a with
    | 0 => rfl
    | 1 => show (R.val * 256 + e.val) / 256 % 256 = R.val; omega
    | 2 => show (R.val * 256 + e.val) % 256 = e.val; omega
  · match a with
    | 0 => rfl
    | 1 => rfl

/-- The reference is the layer. -/
theorem main_apply (R : Fin 256) (j : Fin 1024) :
    val_main_v49 (F := Ideal) x0 x1 x2 x3 x4 x5 x6 x7 x8 (ix2 R j) = layer x0 x1 x2 x3 x4 x5 x6 x7 x8 R j := by
  rw [val_main_v49_apply, val_main_v48_apply, mixed_apply, logistic_apply, embedding_apply]
  rfl

end Ref
end Ffn
end
-- ==== Proof.FfnBlocks.lean ====
module
public import proofs.«01_k».proof.Proof.FfnReference
public import Idealize.ShloMosaic.Lib.Pipeline.Covers
public import Idealize.ShloMosaic.Lib.Pipeline.ValueKit

/-! Which part of the arguments the blocks hold, and the array the dense channel mixer's kernel leaves. -/

@[expose] public section
set_option maxRecDepth 16384
noncomputable section

namespace Ffn
open Idealize.ShloMosaic Idealize.ShloMosaic.TcCoe Cert.FfnIdeal Cert.FfnIdeal.Gen Idealize.SL.Sem

variable (m : (ℓ : Loc nD τ sig) → Buf (Elt Ideal) ℓ) (c : Dev nD)

/-- The block indices of the windows. -/
theorem idx : ∀ t : Fin cfg0.N, win0_0.index t = ![0, 0] ∧ win0_1.index t = ![0, 0] ∧ win0_2.index t = ![0, 0, 0] ∧ win0_3.index t = ![0, 0, 0] ∧
    win0_4.index t = ![0, 0, 0] ∧ win0_5.index t = ![0, 0, 0] ∧ win0_6.index t = ![0, 0] ∧ win0_7.index t = ![0, 0] ∧ win0_8.index t = ![0, 0] ∧ win0_10.index t = ![0, 0] :=
  (by decide +kernel : ∀ t : Fin grid0.N, _)

variable (t : Fin cfg0.N)

/-- The rows. -/
theorem rows_block (a : Fin 256) (d : Fin 1024) : iblk m c 0 t (ix2 a d) = m ((c : Thread nD τ).loc main_arg0) (ix2 a d) := by
  have e := (idx t).1
  blk_ext [iblk, V, e]

/-- The gains. -/
theorem gains_block (d : Fin 1024) : iblk m c 1 t (ix2 0 d) = m ((c : Thread nD τ).loc main_arg1) (ix2 0 d) := by
  have e := (idx t).2.1
  blk_ext [iblk, V, e]

/-- The three matrices. -/
theorem gate_block (d : Fin 1024) (f : Fin 4096) : iblk m c 2 t (ix3 0 d f) = m ((c : Thread nD τ).loc main_arg2) (ix3 0 d f) := by
  have e := (idx t).2.2.1
  blk_ext [iblk, V, e]

theorem up_block (d : Fin 1024) (f : Fin 4096) : iblk m c 3 t (ix3 0 d f) = m ((c : Thread nD τ).loc main_arg3) (ix3 0 d f) := by
  have e := (idx t).2.2.2.1
  blk_ext [iblk, V, e]

theorem down_block (f : Fin 4096) (n : Fin 1024) : iblk m c 4 t (ix3 0 f n) = m ((c : Thread nD τ).loc main_arg4) (ix3 0 f n) := by
  have e := (idx t).2.2.2.2.1
  blk_ext [iblk, V, e]

/-- The embedding's rows, of the first layer. -/
theorem embedding_block (a d : Fin 256) : iblk m c 5 t (ix3 0 a d) = m ((c : Thread nD τ).loc main_arg5) (ix3 0 a d) := by
  have e := (idx t).2.2.2.2.2.1
  blk_ext [iblk, V, e]

/-- Its gains. -/
theorem embedding_gains_block (d : Fin 1024) : iblk m c 6 t (ix2 0 d) = m ((c : Thread nD τ).loc main_arg6) (ix2 0 d) := by
  have e := (idx t).2.2.2.2.2.2.1
  blk_ext [iblk, V, e]

/-- And its two matrices. -/
theorem embedding_gate_block (d j : Fin 1024) : iblk m c 7 t (ix2 d j) = m ((c : Thread nD τ).loc main_arg7) (ix2 d j) := by
  have e := (idx t).2.2.2.2.2.2.2.1
  blk_ext [iblk, V, e]

theorem embedding_proj_block (d : Fin 256) (j : Fin 1024) : iblk m c 8 t (ix2 d j) = m ((c : Thread nD τ).loc main_arg8) (ix2 d j) := by
  have e := (idx t).2.2.2.2.2.2.2.2.1
  blk_ext [iblk, V, e]

/-- The layer of the arguments on device `c`. -/
def layerOf (R : Fin 256) (j : Fin 1024) : EReal :=
  layer (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) R j

/-- As an array. -/
def layerArr : Buf (Elt Ideal) ((cfg0.win 10).arr.view.loc (c : Thread nD τ)) := fun (i : S256x1024.Idx) => layerOf m c (i 0) (i 1)

/-- Equal arguments give equal rows. -/
theorem mixed_congr {x x' gm gm' : Fin 1024 → EReal} {g g' u u' : S1x1024x4096.Idx → EReal} {w w' : S1x4096x1024.Idx → EReal} (hx : ∀ d, x d = x' d) (hm : ∀ d, gm d = gm' d)
    (hg : ∀ d f, g (ix3 0 d f) = g' (ix3 0 d f)) (hu : ∀ d f, u (ix3 0 d f) = u' (ix3 0 d f)) (hw : ∀ f n, w (ix3 0 f n) = w' (ix3 0 f n)) (n : Fin 1024) :
    mixed x gm g u w n = mixed x' gm' g' u' w' n := by
  rw [funext hx, funext hm]
  unfold mixed part
  refine congrArg _ (Finset.sum_congr rfl fun f _ => ?_)
  rw [hw, funext fun d => hg d f, funext fun d => hu d f]

/-- What the point leaves in the output's block. -/
theorem point (a : Fin 256) (j : Fin 1024) : outsAt0 m c t (ix2 a j) = layerOf m c a j := by
  unfold outsAt0
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) a j).trans ?_
  exact embedded_congr (mixed_congr (rows_block m c t a) (gains_block m c t) (gate_block m c t) (up_block m c t) (down_block m c t))
    (embedding_gains_block m c t) (fun d => embedding_gate_block m c t d j) (embedding_block m c t a) (fun e => embedding_proj_block m c t e j) j

/-- The array the kernel leaves. -/
theorem array : (dats m 0 c).arrAt 10 cfg0.N = layerArr m c := by
  refine (dats m 0 c).arrAt_eq_of_covers 10 (layerArr m c) ?_ fun t _ y => ?_
  · refine (cfg0.win 10).covers_of_indexMap_surj rfl (show ∀ a : Fin 2, 0 < S256x1024.size a by decide) fun β => ?_
    have h0 : (β 0).val < 1 := lt_of_lt_of_eq (β 0).isLt (show (256 + 256 - 1) / 256 = 1 by decide)
    have h1 : (β 1).val < 1 := lt_of_lt_of_eq (β 1).isLt (show (1024 + 1024 - 1) / 1024 = 1 by decide)
    refine ⟨fun | 0 => ⟨(β 0).val, h0⟩, fun | 0 => ?_ | 1 => ?_⟩
    · show (BitVec.ofNat 32 (β 0).val).toNat = (β 0).val
      rw [BitVec.toNat_ofNat]; omega
    · show 0 = (β 1).val
      omega
  · have e := (idx t).2.2.2.2.2.2.2.2.2
    let z : S256x1024.Idx := (cfg0.win 10).xinj (grid0.coords t) y
    have ez : z = ix2 (z 0) (z 1) := funext fun | 0 => rfl | 1 => rfl
    refine (cast_eq _ _).trans ((congrFun (after0_10 m c t) z).trans ?_)
    refine (congrArg (outsAt0 m c t) ez).trans ((point m c t (z 0) (z 1)).trans ?_)
    refine congrArg₂ (layerOf m c) (Fin.ext ?_) (Fin.ext ?_)
    · show (y 0).val = win0_10.index t 0 * 256 + 1 * (y 0).val
      rw [e]; show _ = 0 * 256 + 1 * (y 0).val; omega
    · show (y 1).val = win0_10.index t 1 * 1024 + 1 * (y 1).val
      rw [e]; show _ = 0 * 1024 + 1 * (y 1).val; omega

end Ffn
end
-- ==== Proof.MixPay.lean ====
module
public import proofs.«01_k».proof.Proof.Gen.MixIdeal.Value
public import proofs.«01_k».proof.Proof.FfnPay
public import Idealize.ShloMosaic.Lib.Pointwise

/-! What the mixers' kernel computes from what it loads, entry by entry. -/

@[expose] public section
set_option maxRecDepth 16384
noncomputable section

namespace Mix
open Idealize.ShloMosaic Idealize.ShloMosaic.TcCoe Cert.MixIdeal Cert.MixIdeal.Gen

/-- A little above zero. -/
def tiny : EReal := Ideal.ofBits .f32 0x358637BD#32

/-- A row less its mean, -/
def centred (z : Fin 256 → EReal) (d : Fin 256) : EReal := z d - Ideal.div (∑ e, z e) (Ideal.ofBits .f32 0x43800000#32)

/-- over the root of its variance. -/
def standard (z : Fin 256 → EReal) (d : Fin 256) : EReal :=
  centred z d * Ideal.rsqrt (Ideal.div (∑ e, centred z e * centred z e) (Ideal.ofBits .f32 0x43800000#32) + tiny)

/-- A row over its root mean square, times the gains; `n` is the row's length. -/
def normed {k : ℕ} (n : EReal) (y g : Fin k → EReal) (d : Fin k) : EReal :=
  y d * Ideal.rsqrt (Ideal.div (∑ e, y e * y e) n + tiny) * g d

/-- A value times the logistic of another. -/
def gate (a b : EReal) : EReal := a * Ffn.logistic b

variable (a : Fin 16) (d : Fin 256)

/-- The histories are carried over as they are. -/
theorem pay6_apply (x : FVec Ideal S1x32x256 .f32) (k : Fin 32) : k0_pay6 (F := Ideal) x (ix2 k d) = x (ix3 0 k d) := by
  pointwise [k0_pay6]

theorem pay7_apply (x : FVec Ideal S1x8x256 .f32) (k : Fin 8) : k0_pay7 (F := Ideal) x (ix2 k d) = x (ix3 0 k d) := by
  pointwise [k0_pay7]

/-- A new row of mixer B. -/
theorem pay8_apply (u : FVec Ideal S16x512 .bf16) :
    k0_pay8 (F := Ideal) u (ix2 a d) = gate (u (ix2 a ⟨d.val, by omega⟩)) (u (ix2 a ⟨256 + d.val, by omega⟩)) := by
  pointwise [k0_pay8, gate, Ffn.logistic]

/-- A new row of mixer C. -/
theorem pay9_apply (u v : FVec Ideal S16x256 .bf16) : k0_pay9 (F := Ideal) u v (ix2 a d) = u (ix2 a d) * v (ix2 a d) := by
  pointwise [k0_pay9]

/-- The shifted copies are stored as they are loaded. -/
theorem pay10_apply (x : FVec Ideal S40x256 .f32) (k : Fin 40) : k0_pay10 (F := Ideal) x (ix3 0 k d) = x (ix2 k d) := by
  pointwise [k0_pay10]

theorem pay11_apply (x : FVec Ideal S40x256 .f32) (k : Fin 40) : k0_pay11 (F := Ideal) x (ix3 0 k d) = x (ix2 k d) := by
  pointwise [k0_pay11]

theorem pay12_apply (x : FVec Ideal S40x256 .f32) (k : Fin 40) : k0_pay12 (F := Ideal) x (ix3 0 k d) = x (ix2 k d) := by
  pointwise [k0_pay12]

theorem pay13_apply (x : FVec Ideal S40x256 .f32) (k : Fin 40) : k0_pay13 (F := Ideal) x (ix3 0 k d) = x (ix2 k d) := by
  pointwise [k0_pay13]

theorem pay14_apply (x : FVec Ideal S40x256 .f32) (k : Fin 40) : k0_pay14 (F := Ideal) x (ix3 0 k d) = x (ix2 k d) := by
  pointwise [k0_pay14]

theorem pay15_apply (x : FVec Ideal S40x256 .f32) (k : Fin 40) : k0_pay15 (F := Ideal) x (ix3 0 k d) = x (ix2 k d) := by
  pointwise [k0_pay15]

theorem pay16_apply (x : FVec Ideal S40x256 .f32) (k : Fin 40) : k0_pay16 (F := Ideal) x (ix3 0 k d) = x (ix2 k d) := by
  pointwise [k0_pay16]

/-- The new histories too. -/
theorem pay2_apply (x : FVec Ideal S32x256 .f32) (k : Fin 32) : k0_pay2 (F := Ideal) x (ix3 0 k d) = x (ix2 k d) := by
  pointwise [k0_pay2]

theorem pay3_apply (x : FVec Ideal S8x256 .f32) (k : Fin 8) : k0_pay3 (F := Ideal) x (ix3 0 k d) = x (ix2 k d) := by
  pointwise [k0_pay3]

section taps
variable (z : FVec Ideal S16x256 .f32) (b w0 w1 w2 w3 w4 w5 : FVec Ideal S1x256 .f32) (s0 s1 s2 s3 s4 s5 : FVec Ideal S1x16x256 .f32) (p : FVec Ideal S16x256 .f32)

/-- The bias and the taps 0 to 4. -/
theorem pay18_apply : k0_pay18 (F := Ideal) k0_pay17 b s0 w0 s1 w1 s2 w2 s3 w3 s4 w4 (ix2 a d)
    = b (ix2 0 d) + w0 (ix2 0 d) * s0 (ix3 0 a d) + w1 (ix2 0 d) * s1 (ix3 0 a d) + w2 (ix2 0 d) * s2 (ix3 0 a d)
      + w3 (ix2 0 d) * s3 (ix3 0 a d) + w4 (ix2 0 d) * s4 (ix3 0 a d) := by
  pointwise [k0_pay18, k0_pay17]

/-- The taps 5 to 9, of which the second reads the sequence unshifted. -/
theorem pay19_apply : k0_pay19 (F := Ideal) z s0 w0 p w1 s2 w2 s3 w3 s4 w4 (ix2 a d)
    = z (ix2 a d) + w0 (ix2 0 d) * s0 (ix3 0 a d) + w1 (ix2 0 d) * p (ix2 a d) + w2 (ix2 0 d) * s2 (ix3 0 a d)
      + w3 (ix2 0 d) * s3 (ix3 0 a d) + w4 (ix2 0 d) * s4 (ix3 0 a d) := by
  pointwise [k0_pay19]

/-- The taps 10 to 15. -/
theorem pay22_apply : k0_pay22 (F := Ideal) z (k0_pay20 s0) (k0_pay21 w0) s1 w1 s2 w2 s3 w3 p w4 s5 w5 (ix2 a d)
    = z (ix2 a d) + w0 (ix2 0 d) * s0 (ix3 0 a d) + w1 (ix2 0 d) * s1 (ix3 0 a d) + w2 (ix2 0 d) * s2 (ix3 0 a d)
      + w3 (ix2 0 d) * s3 (ix3 0 a d) + w4 (ix2 0 d) * p (ix2 a d) + w5 (ix2 0 d) * s5 (ix3 0 a d) := by
  pointwise [k0_pay22, k0_pay20, k0_pay21]

/-- The taps 16 to 20. -/
theorem pay24_apply : k0_pay24 (F := Ideal) z (k0_pay23 s0) w0 s1 w1 s2 w2 s3 w3 s4 w4 (ix2 a d)
    = z (ix2 a d) + w0 (ix2 0 d) * s0 (ix3 0 a d) + w1 (ix2 0 d) * s1 (ix3 0 a d) + w2 (ix2 0 d) * s2 (ix3 0 a d)
      + w3 (ix2 0 d) * s3 (ix3 0 a d) + w4 (ix2 0 d) * s4 (ix3 0 a d) := by
  pointwise [k0_pay24, k0_pay23]

/-- The taps 21 to 26. -/
theorem pay26_apply : k0_pay26 (F := Ideal) z (k0_pay25 s0 w0) p w1 s2 w2 s3 w3 s4 w4 s5 w5 (ix2 a d)
    = z (ix2 a d) + w0 (ix2 0 d) * s0 (ix3 0 a d) + w1 (ix2 0 d) * p (ix2 a d) + w2 (ix2 0 d) * s2 (ix3 0 a d)
      + w3 (ix2 0 d) * s3 (ix3 0 a d) + w4 (ix2 0 d) * s4 (ix3 0 a d) + w5 (ix2 0 d) * s5 (ix3 0 a d) := by
  pointwise [k0_pay26, k0_pay25]

/-- The taps 27 to 30, and the row they complete less its mean over the root of its variance. -/
theorem pay28_apply : k0_pay28 (F := Ideal) z (k0_pay27 s0) w0 s1 w1 s2 w2 p w3 (ix2 a d)
    = standard (fun d => z (ix2 a d) + w0 (ix2 0 d) * s0 (ix3 0 a d) + w1 (ix2 0 d) * s1 (ix3 0 a d) + w2 (ix2 0 d) * s2 (ix3 0 a d)
      + w3 (ix2 0 d) * p (ix2 a d)) d := by
  pointwise [k0_pay28, k0_pay27, standard, centred, tiny]

end taps

/-- What mixer B makes of a row. -/
theorem pay29_apply (z : FVec Ideal S16x256 .f32) (g b : FVec Ideal S1x256 .f32) :
    k0_pay29 (F := Ideal) z g b (ix2 a d) = gate (z (ix2 a d) * g (ix2 0 d) + b (ix2 0 d)) (z (ix2 a d) * g (ix2 0 d) + b (ix2 0 d)) := by
  pointwise [k0_pay29, gate, Ffn.logistic]

/-- And mixer C. -/
theorem pay30_apply (w0 w1 w2 : FVec Ideal S1x256 .f32) (s0 s1 s2 : FVec Ideal S16x256 .f32) (g : FVec Ideal S16x256 .bf16) :
    k0_pay30 (F := Ideal) w0 s0 w1 s1 w2 s2 g (ix2 a d)
      = g (ix2 a d) * (w0 (ix2 0 d) * s0 (ix2 a d) + w1 (ix2 0 d) * s1 (ix2 a d) + w2 (ix2 0 d) * s2 (ix2 a d)) := by
  pointwise [k0_pay30]

variable (g : FVec Ideal S1x1024 .f32)

/-- Their rows, normalised. -/
theorem pay33_apply (y : FVec Ideal S16x256 .f32) :
    k0_pay33 (F := Ideal) y g (ix2 a d) = normed (Ideal.ofBits .f32 0x43800000#32) (fun d => y (ix2 a d)) (fun d => g (ix2 0 ⟨512 + d.val, by omega⟩)) d := by
  pointwise [k0_pay33, normed, tiny]

theorem pay34_apply (y : FVec Ideal S16x256 .f32) :
    k0_pay34 (F := Ideal) y g (ix2 a d) = normed (Ideal.ofBits .f32 0x43800000#32) (fun d => y (ix2 a d)) (fun d => g (ix2 0 ⟨768 + d.val, by omega⟩)) d := by
  pointwise [k0_pay34, normed, tiny]

variable (j : Fin 1024)

/-- A row with mixer A's part of the projection. -/
theorem pay35_apply (y : FVec Ideal S16x512 .bf16) (x : FVec Ideal S16x1024 .f32) (w : FVec Ideal S512x1024 .bf16) :
    k0_pay35 (F := Ideal) (k0_pay31 y) (k0_pay32 g) x w (ix2 a j)
      = x (ix2 a j) + ∑ d : Fin 512, normed (Ideal.ofBits .f32 0x44000000#32) (fun d => y (ix2 a d)) (fun d => g (ix2 0 ⟨d.val, by omega⟩)) d * w (ix2 d j) := by
  pointwise [k0_pay35, k0_pay31, k0_pay32, normed, tiny]

/-- And with the other two. -/
theorem pay1_apply (y z : FVec Ideal S16x256 .bf16) (x : FVec Ideal S16x1024 .f32) (v w : FVec Ideal S256x1024 .bf16) :
    k0_pay1 (F := Ideal) y z x v w (ix2 a j) = x (ix2 a j) + (∑ d, y (ix2 a d) * v (ix2 d j)) + ∑ d, z (ix2 a d) * w (ix2 d j) := by
  pointwise [k0_pay1]

end Mix
end
-- ==== Proof.MixPoint.lean ====
module
public import proofs.«01_k».proof.Proof.MixPay
public import Idealize.ShloMosaic.Lib.WholeRead
public import Idealize.ShloMosaic.Lib.Pipeline.Covers
public import Idealize.ShloMosaic.Lib.Pipeline.ValueKit

/-! What the mixers' kernel leaves in its output blocks, entry by entry. -/

@[expose] public section
set_option maxRecDepth 16384
noncomputable section

namespace Mix
open Idealize.ShloMosaic Idealize.ShloMosaic.TcCoe Cert.MixIdeal Cert.MixIdeal.Gen

/-- A history with the new rows after it, one column. -/
def joined {p : ℕ} (H : Fin p → EReal) (N : Fin 16 → EReal) (k : ℕ) : EReal :=
  if h : k < p then H ⟨k, h⟩ else if h : k - p < 16 then N ⟨k - p, h⟩ else 0

theorem joined_old {p : ℕ} (H : Fin p → EReal) (N : Fin 16 → EReal) (k : Fin p) : joined H N k.val = H k := by
  unfold joined
  rw [dif_pos k.isLt]

theorem joined_new {p : ℕ} (H : Fin p → EReal) (N : Fin 16 → EReal) (a : Fin 16) : joined H N (p + a.val) = N a := by
  unfold joined
  rw [dif_neg (by omega), dif_pos (show p + a.val - p < 16 by omega)]
  exact congrArg N (Fin.ext (Nat.add_sub_cancel_left p a.val))

/-- Column `d` of mixer B's sequence: its history, then the gated rows. -/
def seqB (u : S16x512.Idx → EReal) (H : S1x32x256.Idx → EReal) (d : Fin 256) : ℕ → EReal :=
  joined (fun k => H (ix3 0 k d)) fun a => gate (u (ix2 a ⟨d.val, by omega⟩)) (u (ix2 a ⟨256 + d.val, by omega⟩))

/-- Column `d` of mixer C's sequence: its history, then the products. -/
def seqC (u v : S16x256.Idx → EReal) (H : S1x8x256.Idx → EReal) (d : Fin 256) : ℕ → EReal :=
  joined (fun k => H (ix3 0 k d)) fun a => u (ix2 a d) * v (ix2 a d)

/-- A load of rows of a matrix. -/
theorem load_rows {a b n : ℕ} {e : EltTy} {m : Memref sig .tc .vmem ⟨2, ![a, b]⟩ e} (hm : m.IsWhole) (x : (⟨2, ![a, b]⟩ : Shape).Idx → Elt Ideal e) (o : ℕ)
    (h : ∀ k, ![o, 0] k + ![n, b] k ≤ (⟨2, ![a, b]⟩ : Shape).size k) (r : Fin n) (d : Fin b) (R : Fin a) (hR : R.val = o + r.val) :
    View.readAt (Elt Ideal) m.view (Rect.unit (s := ⟨2, ![a, b]⟩) ![o, 0] ![n, b] h).toLoadRect (hm.unread x) (ix2 r d) = x (ix2 R d) := by
  rw [Memref.IsWhole.readAt_unread]
  refine congrArg x (funext fun | 0 => Fin.ext ?_ | 1 => Fin.ext ?_)
  · show o + 1 * r.val = R.val; omega
  · show 0 + 1 * d.val = d.val; omega

/-- A load of a history. -/
theorem load_history {a b : ℕ} {e : EltTy} {m : Memref sig .tc .vmem ⟨3, ![1, a, b]⟩ e} (hm : m.IsWhole) (x : (⟨3, ![1, a, b]⟩ : Shape).Idx → Elt Ideal e)
    (h : ∀ k, ![0, 0, 0] k + ![1, a, b] k ≤ (⟨3, ![1, a, b]⟩ : Shape).size k) (r : Fin a) (d : Fin b) :
    View.readAt (Elt Ideal) m.view (Rect.unit (s := ⟨3, ![1, a, b]⟩) ![0, 0, 0] ![1, a, b] h).toLoadRect (hm.unread x) (ix3 0 r d) = x (ix3 0 r d) := by
  rw [Memref.IsWhole.readAt_unread]
  refine congrArg x (funext fun | 0 => Fin.ext rfl | 1 => Fin.ext ?_ | 2 => Fin.ext ?_)
  · show 0 + 1 * r.val = r.val; omega
  · show 0 + 1 * d.val = d.val; omega

variable (c : Dev nD) (i : grid0.Coords)
    (m2 : Memref sig .tc .vmem S16x1024 .f32) (h2 : m2.IsWhole)
    (m3 : Memref sig .tc .vmem S16x512 .bf16) (h3 : m3.IsWhole)
    (m4 : Memref sig .tc .vmem S16x512 .bf16) (h4 : m4.IsWhole)
    (m5 : Memref sig .tc .vmem S16x256 .bf16) (h5 : m5.IsWhole)
    (m6 : Memref sig .tc .vmem S16x256 .bf16) (h6 : m6.IsWhole)
    (m7 : Memref sig .tc .vmem S16x256 .bf16) (h7 : m7.IsWhole)
    (m8 : Memref sig .tc .vmem S1x32x256 .f32) (h8 : m8.IsWhole)
    (m9 : Memref sig .tc .vmem S1x8x256 .f32) (h9 : m9.IsWhole)
    (m10 : Memref sig .tc .vmem S32x256 .f32) (h10 : m10.IsWhole)
    (m11 : Memref sig .tc .vmem S1x256 .f32) (h11 : m11.IsWhole)
    (m12 : Memref sig .tc .vmem S1x256 .f32) (h12 : m12.IsWhole)
    (m13 : Memref sig .tc .vmem S1x256 .f32) (h13 : m13.IsWhole)
    (m14 : Memref sig .tc .vmem S8x256 .f32) (h14 : m14.IsWhole)
    (m15 : Memref sig .tc .vmem S1x1024 .f32) (h15 : m15.IsWhole)
    (m16 : Memref sig .tc .vmem S1024x1024 .bf16) (h16 : m16.IsWhole)
    (m17 : Memref sig .tc .vmem S16x1024 .f32) (h17 : m17.IsWhole)
    (m18 : Memref sig .tc .vmem S1x32x256 .f32) (h18 : m18.IsWhole)
    (m19 : Memref sig .tc .vmem S1x8x256 .f32) (h19 : m19.IsWhole)
    (m20 : Memref sig .tc .vmem S48x256 .f32) (h20 : m20.IsWhole)
    (m21 : Memref sig .tc .vmem S24x256 .f32) (h21 : m21.IsWhole)
    (m22 : Memref sig .tc .vmem S7x40x256 .f32) (h22 : m22.IsWhole) (hc : cond0_0 i)
    (x : FVec Ideal S16x1024 .f32) (ya : FVec Ideal S16x512 .bf16) (ab : FVec Ideal S16x512 .bf16) (gc gb hv : FVec Ideal S16x256 .bf16)
    (HB : FVec Ideal S1x32x256 .f32) (HC : FVec Ideal S1x8x256 .f32) (wb : FVec Ideal S32x256 .f32) (bb lg lb : FVec Ideal S1x256 .f32)
    (wc : FVec Ideal S8x256 .f32) (go : FVec Ideal S1x1024 .f32) (wo : FVec Ideal S1024x1024 .bf16)

/-- The rows mixer B's buffer holds. -/
theorem bufferB (k : Fin 48) (d : Fin 256) :
    View.canon (kernelRun0_A.sl.HS0_2 (F := Ideal) c m4 h4 m8 h8 ab HB) (ix2 k d) = seqB ab HB d k.val := by
  unfold kernelRun0_A.sl.HS0_2
  canon_tiles y h using (by
    rcases lt_or_ge k.val 32 with hk | hk
    · refine ⟨_, List.mem_cons_of_mem _ (List.mem_singleton_self _), ?_⟩
      refine (Rect.mem_set_unit (inb := inb_S48x256_S32x256_0_0)).mpr fun | 0 => ⟨Nat.zero_le _, ?_⟩ | 1 => ⟨Nat.zero_le _, ?_⟩
      · show k.val < 0 + 32; omega
      · show d.val < 0 + 256; omega
    · refine ⟨_, List.mem_cons_self, ?_⟩
      refine (Rect.mem_set_unit (inb := inb_S48x256_S16x256_32_0)).mpr fun | 0 => ⟨hk, ?_⟩ | 1 => ⟨Nat.zero_le _, ?_⟩
      · show k.val < 32 + 16; omega
      · show d.val < 0 + 256; omega)
  · obtain ⟨r, er⟩ : ∃ r : Fin 16, y 0 = r := ⟨y 0, rfl⟩
    have ey : y = ix2 r d := funext fun | 0 => er | 1 => Fin.ext h1.symm
    have e : k.val = 32 + r.val := er ▸ h0
    rw [ey]
    refine (pay8_apply r d _).trans ?_
    rw [e]
    unfold seqB
    rw [joined_new]
    exact congrArg₂ gate (load_rows h4 ab 0 _ _ _ _ (Nat.zero_add _).symm) (load_rows h4 ab 0 _ _ _ _ (Nat.zero_add _).symm)
  · obtain ⟨r, er⟩ : ∃ r : Fin 32, y 0 = r := ⟨y 0, rfl⟩
    have ey : y = ix2 r d := funext fun | 0 => er | 1 => Fin.ext h1.symm
    have e : k.val = r.val := er ▸ h0
    rw [ey]
    refine (pay6_apply d _ r).trans ?_
    rw [e]
    unfold seqB
    rw [joined_old]
    exact load_history h8 HB _ _ _

/-- The rows mixer C's buffer holds. -/
theorem bufferC (k : Fin 24) (d : Fin 256) :
    View.canon (kernelRun0_A.sl.HS1_2 (F := Ideal) c m5 h5 m7 h7 m9 h9 gc hv HC) (ix2 k d) = seqC gc hv HC d k.val := by
  unfold kernelRun0_A.sl.HS1_2
  canon_tiles y h using (by
    rcases lt_or_ge k.val 8 with hk | hk
    · refine ⟨_, List.mem_cons_of_mem _ (List.mem_singleton_self _), ?_⟩
      refine (Rect.mem_set_unit (inb := inb_S24x256_S8x256_0_0)).mpr fun | 0 => ⟨Nat.zero_le _, ?_⟩ | 1 => ⟨Nat.zero_le _, ?_⟩
      · show k.val < 0 + 8; omega
      · show d.val < 0 + 256; omega
    · refine ⟨_, List.mem_cons_self, ?_⟩
      refine (Rect.mem_set_unit (inb := inb_S24x256_S16x256_8_0)).mpr fun | 0 => ⟨hk, ?_⟩ | 1 => ⟨Nat.zero_le _, ?_⟩
      · show k.val < 8 + 16; omega
      · show d.val < 0 + 256; omega)
  · obtain ⟨r, er⟩ : ∃ r : Fin 16, y 0 = r := ⟨y 0, rfl⟩
    have ey : y = ix2 r d := funext fun | 0 => er | 1 => Fin.ext h1.symm
    have e : k.val = 8 + r.val := er ▸ h0
    rw [ey]
    refine (pay9_apply r d _ _).trans ?_
    rw [e]
    unfold seqC
    rw [joined_new]
    exact congrArg₂ (· * ·) (load_rows h5 gc 0 _ _ _ _ (Nat.zero_add _).symm) (load_rows h7 hv 0 _ _ _ _ (Nat.zero_add _).symm)
  · obtain ⟨r, er⟩ : ∃ r : Fin 8, y 0 = r := ⟨y 0, rfl⟩
    have ey : y = ix2 r d := funext fun | 0 => er | 1 => Fin.ext h1.symm
    have e : k.val = r.val := er ▸ h0
    rw [ey]
    refine (pay7_apply d _ r).trans ?_
    rw [e]
    unfold seqC
    rw [joined_old]
    exact load_history h9 HC _ _ _

/-- A load of `n` of mixer B's rows from the `o`-th on. -/
theorem loadB (o n : ℕ) (h : ∀ k, ![o, 0] k + ![n, 256] k ≤ S48x256.size k) (a : Fin n) (d : Fin 256) :
    m20.view.readCov (kernelRun0_A.sl.HS0_2 (F := Ideal) c m4 h4 m8 h8 ab HB) (Rect.unit (s := S48x256) ![o, 0] ![n, 256] h).toLoadRect (ix2 a d)
      = seqB ab HB d (o + a.val) := by
  have hk : o + n ≤ 48 := h 0
  refine (congrFun (View.readCov_eq_canon' _ _ _) _).trans ?_
  refine Eq.trans (congrArg (View.canon _) ?_) (bufferB c m4 h4 m8 h8 ab HB ⟨o + a.val, by omega⟩ d)
  refine funext fun | 0 => Fin.ext ?_ | 1 => Fin.ext ?_
  · show o + 1 * a.val = o + a.val; omega
  · show 0 + 1 * d.val = d.val; omega

/-- And of mixer C's. -/
theorem loadC (o n : ℕ) (h : ∀ k, ![o, 0] k + ![n, 256] k ≤ S24x256.size k) (a : Fin n) (d : Fin 256) :
    m21.view.readCov (kernelRun0_A.sl.HS1_2 (F := Ideal) c m5 h5 m7 h7 m9 h9 gc hv HC) (Rect.unit (s := S24x256) ![o, 0] ![n, 256] h).toLoadRect (ix2 a d)
      = seqC gc hv HC d (o + a.val) := by
  have hk : o + n ≤ 24 := h 0
  refine (congrFun (View.readCov_eq_canon' _ _ _) _).trans ?_
  refine Eq.trans (congrArg (View.canon _) ?_) (bufferC c m5 h5 m7 h7 m9 h9 gc hv HC ⟨o + a.val, by omega⟩ d)
  refine funext fun | 0 => Fin.ext ?_ | 1 => Fin.ext ?_
  · show o + 1 * a.val = o + a.val; omega
  · show 0 + 1 * d.val = d.val; omega

/-- The shifted copies: the `q`-th holds mixer B's rows from the `q + 1`-th on. -/
theorem copies (q : Fin 7) (k : Fin 40) (d : Fin 256) :
    View.canon (kernelRun0_A.sl.HS2_7 (F := Ideal) c m4 h4 m8 h8 m20 ab HB) (ix3 q k d) = seqB ab HB d (q.val + 1 + k.val) := by
  unfold kernelRun0_A.sl.HS2_7
  canon_tiles y h
  all_goals
    have ek : y 1 = k := Fin.ext h1.symm
    have ed : y 2 = d := Fin.ext h2.symm
    have ey : y = ix3 0 k d := funext fun | 0 => Subsingleton.elim (α := Fin 1) _ _ | 1 => ek | 2 => ed
    have y0 : (y 0).val = 0 := by rw [ey]; rfl
    rw [ey]
  · have e : q.val = 6 + (y 0).val := h0
    rw [show q.val + 1 + k.val = 7 + k.val by omega]
    exact (pay16_apply d _ k).trans (loadB c m4 h4 m8 h8 m20 ab HB 7 40 _ k d)
  · have e : q.val = 5 + (y 0).val := h0
    rw [show q.val + 1 + k.val = 6 + k.val by omega]
    exact (pay15_apply d _ k).trans (loadB c m4 h4 m8 h8 m20 ab HB 6 40 _ k d)
  · have e : q.val = 4 + (y 0).val := h0
    rw [show q.val + 1 + k.val = 5 + k.val by omega]
    exact (pay14_apply d _ k).trans (loadB c m4 h4 m8 h8 m20 ab HB 5 40 _ k d)
  · have e : q.val = 3 + (y 0).val := h0
    rw [show q.val + 1 + k.val = 4 + k.val by omega]
    exact (pay13_apply d _ k).trans (loadB c m4 h4 m8 h8 m20 ab HB 4 40 _ k d)
  · have e : q.val = 2 + (y 0).val := h0
    rw [show q.val + 1 + k.val = 3 + k.val by omega]
    exact (pay12_apply d _ k).trans (loadB c m4 h4 m8 h8 m20 ab HB 3 40 _ k d)
  · have e : q.val = 1 + (y 0).val := h0
    rw [show q.val + 1 + k.val = 2 + k.val by omega]
    exact (pay11_apply d _ k).trans (loadB c m4 h4 m8 h8 m20 ab HB 2 40 _ k d)
  · have e : q.val = (y 0).val := h0
    rw [show q.val + 1 + k.val = 1 + k.val by omega]
    exact (pay10_apply d _ k).trans (loadB c m4 h4 m8 h8 m20 ab HB 1 40 _ k d)

/-- A load of 16 rows of the `q`-th copy from the `o`-th on. -/
theorem load_copy (q o : ℕ) (h : ∀ k, ![q, o, 0] k + ![1, 16, 256] k ≤ S7x40x256.size k) (a : Fin 16) (d : Fin 256) :
    m22.view.readCov (kernelRun0_A.sl.HS2_7 (F := Ideal) c m4 h4 m8 h8 m20 ab HB) (Rect.unit (s := S7x40x256) ![q, o, 0] ![1, 16, 256] h).toLoadRect (ix3 0 a d)
      = seqB ab HB d (q + 1 + (o + a.val)) := by
  have hq : q + 1 ≤ 7 := h 0
  have ho : o + 16 ≤ 40 := h 1
  refine (congrFun (View.readCov_eq_canon' _ _ _) _).trans ?_
  refine Eq.trans (congrArg (View.canon _) ?_) (copies c m4 h4 m8 h8 m20 ab HB ⟨q, by omega⟩ ⟨o + a.val, by omega⟩ d)
  refine funext fun | 0 => Fin.ext ?_ | 1 => Fin.ext ?_ | 2 => Fin.ext ?_
  · show q + 1 * 0 = q; omega
  · show o + 1 * a.val = o + a.val; omega
  · show 0 + 1 * d.val = d.val; omega

/-- The product of tap `k`, for the `a`-th row of a column: the weight's row `k` times the sequence's row `k + 2` further down. -/
def tap (w : S32x256.Idx → EReal) (s : Fin 256 → ℕ → EReal) (a : Fin 16) (d : Fin 256) (k : ℕ) : EReal :=
  (if h : k < 32 then w (ix2 ⟨k, h⟩ d) else 0) * s d (k + 2 + a.val)

/-- The bias and the first `n` taps. -/
def conv (w : S32x256.Idx → EReal) (b : S1x256.Idx → EReal) (s : Fin 256 → ℕ → EReal) (n : ℕ) (a : Fin 16) (d : Fin 256) : EReal :=
  b (ix2 0 d) + ∑ k ∈ Finset.range n, tap w s a d k

theorem conv_step {w : S32x256.Idx → EReal} {b : S1x256.Idx → EReal} {s : Fin 256 → ℕ → EReal} {n : ℕ} {a : Fin 16} {d : Fin 256} {z t : EReal}
    (hz : z = conv w b s n a d) (ht : t = tap w s a d n) : z + t = conv w b s (n + 1) a d := by
  rw [hz, ht, conv, conv, Finset.sum_range_succ, add_assoc]

theorem tap_eq (a : Fin 16) (d : Fin 256) (k K : ℕ) (hk : k < 32) (s : Fin 256 → ℕ → EReal) (W L : EReal)
    (hW : W = wb (ix2 ⟨k, hk⟩ d)) (hL : L = s d K) (e : K = k + 2 + a.val) : W * L = tap wb s a d k := by
  rw [hW, hL, e, tap, dif_pos hk]

/-- A tap read off a shifted copy, -/
theorem tap_copy (a : Fin 16) (d : Fin 256) (q o k : ℕ) (hk : k < 32) (e : q + 1 + o = k + 2)
    (h : ∀ k, ![q, o, 0] k + ![1, 16, 256] k ≤ S7x40x256.size k) (h' : ∀ j, ![k, 0] j + ![1, 256] j ≤ S32x256.size j) :
    View.readAt (Elt Ideal) m10.view (Rect.unit (s := S32x256) ![k, 0] ![1, 256] h').toLoadRect (h10.unread wb) (ix2 0 d)
      * m22.view.readCov (kernelRun0_A.sl.HS2_7 (F := Ideal) c m4 h4 m8 h8 m20 ab HB) (Rect.unit (s := S7x40x256) ![q, o, 0] ![1, 16, 256] h).toLoadRect (ix3 0 a d)
      = tap wb (seqB ab HB) a d k :=
  tap_eq wb a d k _ hk _ _ _ (load_rows h10 wb k _ _ _ _ rfl) (load_copy c m4 h4 m8 h8 m20 m22 ab HB q o h a d) (by omega)

/-- and one read off the buffer itself. -/
theorem tap_buffer (a : Fin 16) (d : Fin 256) (o k : ℕ) (hk : k < 32) (e : o = k + 2)
    (h : ∀ k, ![o, 0] k + ![16, 256] k ≤ S48x256.size k) (h' : ∀ j, ![k, 0] j + ![1, 256] j ≤ S32x256.size j) :
    View.readAt (Elt Ideal) m10.view (Rect.unit (s := S32x256) ![k, 0] ![1, 256] h').toLoadRect (h10.unread wb) (ix2 0 d)
      * m20.view.readCov (kernelRun0_A.sl.HS0_2 (F := Ideal) c m4 h4 m8 h8 ab HB) (Rect.unit (s := S48x256) ![o, 0] ![16, 256] h).toLoadRect (ix2 a d)
      = tap wb (seqB ab HB) a d k :=
  tap_eq wb a d k _ hk _ _ _ (load_rows h10 wb k _ _ _ _ rfl) (loadB c m4 h4 m8 h8 m20 ab HB o 16 h a d) (by omega)

theorem taps5 (a : Fin 16) (d : Fin 256) :
    kernelRun0_A.sl.r (F := Ideal) c m4 h4 m8 h8 m10 h10 m11 h11 m20 m22 ab HB wb bb (ix2 a d) = conv wb bb (seqB ab HB) 5 a d := by
  rw [kernelRun0_A.sl.r]
  refine (pay18_apply a d _ _ _ _ _ _ _ _ _ _ _).trans ?_
  have T := fun q o k hk e => tap_copy c m4 h4 m8 h8 m10 h10 m20 m22 ab HB wb a d q o k hk e
  refine conv_step (conv_step (conv_step (conv_step (conv_step ?_ (T 1 0 0 (by omega) rfl _ _)) (T 2 0 1 (by omega) rfl _ _)) (T 3 0 2 (by omega) rfl _ _))
    (T 4 0 3 (by omega) rfl _ _)) (T 5 0 4 (by omega) rfl _ _)
  rw [conv, Finset.sum_range_zero, add_zero]
  exact load_rows h11 bb 0 _ _ _ _ rfl

theorem taps10 (a : Fin 16) (d : Fin 256) :
    kernelRun0_A.sl.r_1 (F := Ideal) c m4 h4 m8 h8 m10 h10 m11 h11 m20 m22 ab HB wb bb (ix2 a d) = conv wb bb (seqB ab HB) 10 a d := by
  rw [kernelRun0_A.sl.r_1]
  refine (pay19_apply a d _ _ _ _ _ _ _ _ _ _ _).trans ?_
  have T := fun q o k hk e => tap_copy c m4 h4 m8 h8 m10 h10 m20 m22 ab HB wb a d q o k hk e
  have U := fun o k hk e => tap_buffer c m4 h4 m8 h8 m10 h10 m20 ab HB wb a d o k hk e
  exact conv_step (conv_step (conv_step (conv_step (conv_step (taps5 c m4 h4 m8 h8 m10 h10 m11 h11 m20 m22 ab HB wb bb a d) (T 6 0 5 (by omega) rfl _ _)) (U 8 6 (by omega) rfl _ _)) (T 0 8 7 (by omega) rfl _ _)) (T 1 8 8 (by omega) rfl _ _)) (T 2 8 9 (by omega) rfl _ _)

theorem taps16 (a : Fin 16) (d : Fin 256) :
    kernelRun0_A.sl.r_4 (F := Ideal) c m4 h4 m8 h8 m10 h10 m11 h11 m20 m22 ab HB wb bb (ix2 a d) = conv wb bb (seqB ab HB) 16 a d := by
  rw [kernelRun0_A.sl.r_4]
  refine (pay22_apply a d _ _ _ _ _ _ _ _ _ _ _ _ _).trans ?_
  have T := fun q o k hk e => tap_copy c m4 h4 m8 h8 m10 h10 m20 m22 ab HB wb a d q o k hk e
  have U := fun o k hk e => tap_buffer c m4 h4 m8 h8 m10 h10 m20 ab HB wb a d o k hk e
  exact conv_step (conv_step (conv_step (conv_step (conv_step (conv_step (taps10 c m4 h4 m8 h8 m10 h10 m11 h11 m20 m22 ab HB wb bb a d) (T 3 8 10 (by omega) rfl _ _)) (T 4 8 11 (by omega) rfl _ _)) (T 5 8 12 (by omega) rfl _ _)) (T 6 8 13 (by omega) rfl _ _)) (U 16 14 (by omega) rfl _ _)) (T 0 16 15 (by omega) rfl _ _)

theorem taps21 (a : Fin 16) (d : Fin 256) :
    kernelRun0_A.sl.r_6 (F := Ideal) c m4 h4 m8 h8 m10 h10 m11 h11 m20 m22 ab HB wb bb (ix2 a d) = conv wb bb (seqB ab HB) 21 a d := by
  rw [kernelRun0_A.sl.r_6]
  refine (pay24_apply a d _ _ _ _ _ _ _ _ _ _ _).trans ?_
  have T := fun q o k hk e => tap_copy c m4 h4 m8 h8 m10 h10 m20 m22 ab HB wb a d q o k hk e
  exact conv_step (conv_step (conv_step (conv_step (conv_step (taps16 c m4 h4 m8 h8 m10 h10 m11 h11 m20 m22 ab HB wb bb a d) (T 1 16 16 (by omega) rfl _ _)) (T 2 16 17 (by omega) rfl _ _)) (T 3 16 18 (by omega) rfl _ _)) (T 4 16 19 (by omega) rfl _ _)) (T 5 16 20 (by omega) rfl _ _)

theorem taps27 (a : Fin 16) (d : Fin 256) :
    kernelRun0_A.sl.r_8 (F := Ideal) c m4 h4 m8 h8 m10 h10 m11 h11 m20 m22 ab HB wb bb (ix2 a d) = conv wb bb (seqB ab HB) 27 a d := by
  rw [kernelRun0_A.sl.r_8]
  refine (pay26_apply a d _ _ _ _ _ _ _ _ _ _ _ _ _).trans ?_
  have T := fun q o k hk e => tap_copy c m4 h4 m8 h8 m10 h10 m20 m22 ab HB wb a d q o k hk e
  have U := fun o k hk e => tap_buffer c m4 h4 m8 h8 m10 h10 m20 ab HB wb a d o k hk e
  exact conv_step (conv_step (conv_step (conv_step (conv_step (conv_step (taps21 c m4 h4 m8 h8 m10 h10 m11 h11 m20 m22 ab HB wb bb a d) (T 6 16 21 (by omega) rfl _ _)) (U 24 22 (by omega) rfl _ _)) (T 0 24 23 (by omega) rfl _ _)) (T 1 24 24 (by omega) rfl _ _)) (T 2 24 25 (by omega) rfl _ _)) (T 3 24 26 (by omega) rfl _ _)

/-- What the mixers make of a row: the taps, the layer norm, the gate of the value with itself; -/
def mixedB (u : S16x512.Idx → EReal) (H : S1x32x256.Idx → EReal) (w : S32x256.Idx → EReal) (b g o : S1x256.Idx → EReal) (a : Fin 16) (d : Fin 256) : EReal :=
  gate (standard (conv w b (seqB u H) 31 a) d * g (ix2 0 d) + o (ix2 0 d)) (standard (conv w b (seqB u H) 31 a) d * g (ix2 0 d) + o (ix2 0 d))

/-- and three taps under the gate. -/
def mixedC (u v z : S16x256.Idx → EReal) (H : S1x8x256.Idx → EReal) (w : S8x256.Idx → EReal) (a : Fin 16) (d : Fin 256) : EReal :=
  z (ix2 a d) * (w (ix2 0 d) * seqC u v H d (6 + a.val) + w (ix2 1 d) * seqC u v H d (7 + a.val) + w (ix2 2 d) * seqC u v H d (8 + a.val))

/-- An entry of the result: the row plus the three normalised rows times their rows of the weight. -/
def entry (x : S16x1024.Idx → EReal) (A : Fin 512 → EReal) (B C : Fin 256 → EReal) (g : S1x1024.Idx → EReal) (w : S1024x1024.Idx → EReal)
    (a : Fin 16) (j : Fin 1024) : EReal :=
  x (ix2 a j)
    + (∑ d : Fin 512, normed (Ideal.ofBits .f32 0x44000000#32) A (fun d => g (ix2 0 ⟨d.val, by omega⟩)) d * w (ix2 ⟨d.val, by omega⟩ j))
    + (∑ d : Fin 256, normed (Ideal.ofBits .f32 0x43800000#32) B (fun d => g (ix2 0 ⟨512 + d.val, by omega⟩)) d * w (ix2 ⟨512 + d.val, by omega⟩ j))
    + ∑ d : Fin 256, normed (Ideal.ofBits .f32 0x43800000#32) C (fun d => g (ix2 0 ⟨768 + d.val, by omega⟩)) d * w (ix2 ⟨768 + d.val, by omega⟩ j)

theorem standard_taps (a : Fin 16) (d : Fin 256) :
    kernelRun0_A.sl.r_10 (F := Ideal) c m4 h4 m8 h8 m10 h10 m11 h11 m20 m22 ab HB wb bb (ix2 a d) = standard (conv wb bb (seqB ab HB) 31 a) d := by
  rw [kernelRun0_A.sl.r_10]
  refine (pay28_apply a d _ _ _ _ _ _ _ _ _).trans (congrArg (standard · d) (funext fun d => ?_))
  have T := fun q o k hk e => tap_copy c m4 h4 m8 h8 m10 h10 m20 m22 ab HB wb a d q o k hk e
  have U := fun o k hk e => tap_buffer c m4 h4 m8 h8 m10 h10 m20 ab HB wb a d o k hk e
  exact conv_step (conv_step (conv_step (conv_step (taps27 c m4 h4 m8 h8 m10 h10 m11 h11 m20 m22 ab HB wb bb a d) (T 4 24 27 (by omega) rfl _ _)) (T 5 24 28 (by omega) rfl _ _)) (T 6 24 29 (by omega) rfl _ _))
    (U 32 30 (by omega) rfl _ _)

theorem rowB (a : Fin 16) (d : Fin 256) :
    kernelRun0_A.sl.r_12 (F := Ideal) c m4 h4 m8 h8 m10 h10 m11 h11 m12 h12 m13 h13 m20 m22 ab HB wb bb lg lb (ix2 a d) = mixedB ab HB wb bb lg lb a d := by
  rw [kernelRun0_A.sl.r_12]
  refine (pay29_apply a d _ _ _).trans ?_
  have e := standard_taps c m4 h4 m8 h8 m10 h10 m11 h11 m20 m22 ab HB wb bb a d
  have g : kernelRun0_A.sl.r_11 (F := Ideal) c m12 h12 lg (ix2 0 d) = lg (ix2 0 d) := load_rows h12 lg 0 _ _ _ _ rfl
  have o := load_rows h13 lb 0 inb_S1x256_S1x256_0_0 0 d 0 rfl
  exact congrArg₂ gate (congrArg₂ (· + ·) (congrArg₂ (· * ·) e g) o) (congrArg₂ (· + ·) (congrArg₂ (· * ·) e g) o)

theorem rowC (a : Fin 16) (d : Fin 256) :
    kernelRun0_A.sl.r_13 (F := Ideal) c m5 h5 m6 h6 m7 h7 m9 h9 m14 h14 m21 gc gb hv HC wc (ix2 a d) = mixedC gc hv gb HC wc a d := by
  rw [kernelRun0_A.sl.r_13]
  refine (pay30_apply a d _ _ _ _ _ _ _).trans ?_
  have L := fun k R e h => load_rows (n := 1) h14 wc k h 0 d R e
  have S := fun o h => loadC c m5 h5 m7 h7 m9 h9 m21 gc hv HC o 16 h a d
  exact congrArg₂ (· * ·) (load_rows h6 gb 0 _ _ _ _ (Nat.zero_add _).symm)
    (congrArg₂ (· + ·) (congrArg₂ (· + ·) (congrArg₂ (· * ·) (L 0 0 rfl _) (S 6 _)) (congrArg₂ (· * ·) (L 1 1 rfl _) (S 7 _))) (congrArg₂ (· * ·) (L 2 2 rfl _) (S 8 _)))

theorem normed_congr {k : ℕ} {n : EReal} {y y' g g' : Fin k → EReal} (d : Fin k) (hy : ∀ d, y d = y' d) (hg : ∀ d, g d = g' d) :
    normed n y g d = normed n y' g' d := by
  rw [funext hy, funext hg]

theorem normB (a : Fin 16) (d : Fin 256) :
    kernelRun0_A.sl.r_17 (F := Ideal) c m4 h4 m8 h8 m10 h10 m11 h11 m12 h12 m13 h13 m15 h15 m20 m22 ab HB wb bb lg lb go (ix2 a d)
      = normed (Ideal.ofBits .f32 0x43800000#32) (mixedB ab HB wb bb lg lb a) (fun d => go (ix2 0 ⟨512 + d.val, by omega⟩)) d := by
  rw [kernelRun0_A.sl.r_17]
  refine (pay33_apply a d _ _).trans (normed_congr d (fun d => ?_) fun d => ?_)
  · exact rowB c m4 h4 m8 h8 m10 h10 m11 h11 m12 h12 m13 h13 m20 m22 ab HB wb bb lg lb a d
  · exact load_rows h15 go 0 _ _ _ _ rfl

theorem normC (a : Fin 16) (d : Fin 256) :
    kernelRun0_A.sl.r_18 (F := Ideal) c m5 h5 m6 h6 m7 h7 m9 h9 m14 h14 m15 h15 m21 gc gb hv HC wc go (ix2 a d)
      = normed (Ideal.ofBits .f32 0x43800000#32) (mixedC gc hv gb HC wc a) (fun d => go (ix2 0 ⟨768 + d.val, by omega⟩)) d := by
  rw [kernelRun0_A.sl.r_18]
  refine (pay34_apply a d _ _).trans (normed_congr d (fun d => ?_) fun d => ?_)
  · exact rowC c m5 h5 m6 h6 m7 h7 m9 h9 m14 h14 m21 gc gb hv HC wc a d
  · exact load_rows h15 go 0 _ _ _ _ rfl

theorem partA (a : Fin 16) (j : Fin 1024) :
    kernelRun0_A.sl.r_19 (F := Ideal) c m2 h2 m3 h3 m15 h15 m16 h16 x ya go wo (ix2 a j)
      = x (ix2 a j) + ∑ d : Fin 512, normed (Ideal.ofBits .f32 0x44000000#32) (fun d => ya (ix2 a d)) (fun d => go (ix2 0 ⟨d.val, by omega⟩)) d
          * wo (ix2 ⟨d.val, by omega⟩ j) := by
  rw [kernelRun0_A.sl.r_19]
  refine (pay35_apply a _ j _ _ _).trans ?_
  refine congrArg₂ (· + ·) (load_rows h2 x 0 _ _ _ _ (Nat.zero_add _).symm) (Finset.sum_congr rfl fun d _ => congrArg₂ (· * ·) (normed_congr d (fun d => ?_) fun d => ?_) ?_)
  · exact load_rows h3 ya 0 _ _ _ _ (Nat.zero_add _).symm
  · exact load_rows h15 go 0 _ _ _ _ rfl
  · exact load_rows h16 wo 0 _ _ _ _ (Nat.zero_add _).symm

/-- An entry of the first output. -/
theorem h_apply (a : Fin 16) (j : Fin 1024) :
    out0_A_15 (F := Ideal) c i m2 h2 m3 h3 m4 h4 m5 h5 m6 h6 m7 h7 m8 h8 m9 h9 m10 h10 m11 h11 m12 h12 m13 h13 m14 h14 m15 h15 m16 h16 m17 h17 m18 h18 m19 h19 m20 h20 m21 h21 m22 h22 hc x ya ab gc gb hv HB HC wb bb lg lb wc go wo (ix2 a j) = entry x (fun d => ya (ix2 a d)) (mixedB ab HB wb bb lg lb a) (mixedC gc hv gb HC wc a) go wo a j := by
  unfold out0_A_15
  rw [View.read_writes_junk_apply_eq_canon]
  unfold kernelRun0_A
  dsimp only
  have e : (ix2 a j : S16x1024.Idx) = (Rect.unit (s := S16x1024) ![0, 0] S16x1024.size inb_S16x1024_S16x1024_0_0).emb (ix2 a j) := funext fun | 0 => Fin.ext (by show a.val = 0 + 1 * a.val; omega) | 1 => Fin.ext (by show j.val = 0 + 1 * j.val; omega)
  refine (congrArg (View.canon _) e).trans ?_
  refine (View.canon_cons_emb (Rect.unit (s := S16x1024) ![0, 0] S16x1024.size inb_S16x1024_S16x1024_0_0) _ _ (ix2 a j)).trans ?_
  refine (pay1_apply a j _ _ _ _ _).trans ?_
  refine congrArg₂ (· + ·) (congrArg₂ (· + ·) (partA c m2 h2 m3 h3 m15 h15 m16 h16 x ya go wo a j) (Finset.sum_congr rfl fun d _ => congrArg₂ (· * ·) ?_ ?_))
    (Finset.sum_congr rfl fun d _ => congrArg₂ (· * ·) ?_ ?_)
  · exact normB c m4 h4 m8 h8 m10 h10 m11 h11 m12 h12 m13 h13 m15 h15 m20 m22 ab HB wb bb lg lb go a d
  · exact load_rows h16 wo 512 _ _ _ _ rfl
  · exact normC c m5 h5 m6 h6 m7 h7 m9 h9 m14 h14 m15 h15 m21 gc gb hv HC wc go a d
  · exact load_rows h16 wo 768 _ _ _ _ rfl

/-- An entry of the second: mixer B's sequence from its 16th row on. -/
theorem nb_apply (k : Fin 32) (d : Fin 256) :
    out0_A_16 (F := Ideal) c i m2 h2 m3 h3 m4 h4 m5 h5 m6 h6 m7 h7 m8 h8 m9 h9 m10 h10 m11 h11 m12 h12 m13 h13 m14 h14 m15 h15 m16 h16 m17 h17 m18 h18 m19 h19 m20 h20 m21 h21 m22 h22 hc x ya ab gc gb hv HB HC wb bb lg lb wc go wo (ix3 0 k d) = seqB ab HB d (16 + k.val) := by
  unfold out0_A_16
  rw [View.read_writes_junk_apply_eq_canon]
  unfold kernelRun0_A
  dsimp only
  have e : (ix3 0 k d : S1x32x256.Idx) = (Rect.unit (s := S1x32x256) ![0, 0, 0] S1x32x256.size inb_S1x32x256_S1x32x256_0_0_0).emb (ix3 0 k d) := funext fun | 0 => Fin.ext (by show (0 : Fin 1).val = 0 + 1 * (0 : Fin 1).val; omega) | 1 => Fin.ext (by show k.val = 0 + 1 * k.val; omega) | 2 => Fin.ext (by show d.val = 0 + 1 * d.val; omega)
  refine (congrArg (View.canon _) e).trans ?_
  refine (View.canon_cons_emb (Rect.unit (s := S1x32x256) ![0, 0, 0] S1x32x256.size inb_S1x32x256_S1x32x256_0_0_0) _ _ (ix3 0 k d)).trans ?_
  exact (pay2_apply d _ k).trans (loadB c m4 h4 m8 h8 m20 ab HB 16 32 _ k d)

/-- An entry of the third: mixer C's sequence from its 16th row on. -/
theorem nc_apply (k : Fin 8) (d : Fin 256) :
    out0_A_17 (F := Ideal) c i m2 h2 m3 h3 m4 h4 m5 h5 m6 h6 m7 h7 m8 h8 m9 h9 m10 h10 m11 h11 m12 h12 m13 h13 m14 h14 m15 h15 m16 h16 m17 h17 m18 h18 m19 h19 m20 h20 m21 h21 m22 h22 hc x ya ab gc gb hv HB HC wb bb lg lb wc go wo (ix3 0 k d) = seqC gc hv HC d (16 + k.val) := by
  unfold out0_A_17
  rw [View.read_writes_junk_apply_eq_canon]
  unfold kernelRun0_A
  dsimp only
  have e : (ix3 0 k d : S1x8x256.Idx) = (Rect.unit (s := S1x8x256) ![0, 0, 0] S1x8x256.size inb_S1x8x256_S1x8x256_0_0_0).emb (ix3 0 k d) := funext fun | 0 => Fin.ext (by show (0 : Fin 1).val = 0 + 1 * (0 : Fin 1).val; omega) | 1 => Fin.ext (by show k.val = 0 + 1 * k.val; omega) | 2 => Fin.ext (by show d.val = 0 + 1 * d.val; omega)
  refine (congrArg (View.canon _) e).trans ?_
  refine (View.canon_cons_emb (Rect.unit (s := S1x8x256) ![0, 0, 0] S1x8x256.size inb_S1x8x256_S1x8x256_0_0_0) _ _ (ix3 0 k d)).trans ?_
  exact (pay3_apply d _ k).trans (loadC c m5 h5 m7 h7 m9 h9 m21 gc hv HC 16 8 _ k d)

end Mix
end
-- ==== Proof.MixReference.lean ====
module
public import proofs.«01_k».proof.Proof.Gen.MixReferenceIdeal.Read
public import proofs.«01_k».proof.Proof.MixPoint
public import proofs.«01_k».proof.Proof.ExpertsReference
public import Idealize.ShloMosaic.Lib.Pointwise

/-! The mixers' reference at an entry. -/

@[expose] public section
set_option maxRecDepth 16384
noncomputable section

namespace Mix
open Idealize.ShloMosaic

/-- Row `a` of sequence `s` among the rows of all sequences. -/
def row (s a : Fin 16) : Fin 256 := ⟨16 * s.val + a.val, by omega⟩

/-- The rows of sequence `s`, the `n` columns from the `o`-th on; -/
def cols {m : ℕ} (u : (⟨2, ![256, m]⟩ : Shape).Idx → EReal) (s : Fin 16) (o n : ℕ) (h : o + n ≤ m) : (⟨2, ![16, n]⟩ : Shape).Idx → EReal :=
  fun i => u (ix2 (row s (i 0)) ⟨o + (i 1).val, Nat.lt_of_lt_of_le (Nat.add_lt_add_left (i 1).isLt o) h⟩)

/-- and its history. -/
def hist {p : ℕ} (H : (⟨3, ![16, p, 256]⟩ : Shape).Idx → EReal) (s : Fin 16) : (⟨3, ![1, p, 256]⟩ : Shape).Idx → EReal :=
  fun i => H (ix3 s (i 1) (i 2))

/-- Mixer B's sequences, -/
def sequenceB (u : (⟨2, ![256, 2816]⟩ : Shape).Idx → EReal) (H : (⟨3, ![16, 32, 256]⟩ : Shape).Idx → EReal) (s : Fin 16) (d : Fin 256) : ℕ → EReal :=
  seqB (cols u s 1536 512 (by omega)) (hist H s) d

/-- and mixer C's. -/
def sequenceC (u : (⟨2, ![256, 2816]⟩ : Shape).Idx → EReal) (H : (⟨3, ![16, 8, 256]⟩ : Shape).Idx → EReal) (s : Fin 16) (d : Fin 256) : ℕ → EReal :=
  seqC (cols u s 2048 256 (by omega)) (cols u s 2560 256 (by omega)) (hist H s) d

/-- What mixer B makes of row `a` of sequence `s`, -/
def outB (u : (⟨2, ![256, 2816]⟩ : Shape).Idx → EReal) (H : (⟨3, ![16, 32, 256]⟩ : Shape).Idx → EReal) (w : (⟨2, ![32, 256]⟩ : Shape).Idx → EReal)
    (b g o : (⟨2, ![1, 256]⟩ : Shape).Idx → EReal) (s a : Fin 16) (d : Fin 256) : EReal :=
  mixedB (cols u s 1536 512 (by omega)) (hist H s) w b g o a d

/-- and mixer C. -/
def outC (u : (⟨2, ![256, 2816]⟩ : Shape).Idx → EReal) (H : (⟨3, ![16, 8, 256]⟩ : Shape).Idx → EReal) (w : (⟨2, ![8, 256]⟩ : Shape).Idx → EReal)
    (s a : Fin 16) (d : Fin 256) : EReal :=
  mixedC (cols u s 2048 256 (by omega)) (cols u s 2560 256 (by omega)) (cols u s 2304 256 (by omega)) (hist H s) w a d

/-- Entry `j` of row `a` of sequence `s` of the first result. -/
def result (x : (⟨2, ![256, 1024]⟩ : Shape).Idx → EReal) (ya : (⟨2, ![256, 512]⟩ : Shape).Idx → EReal) (u : (⟨2, ![256, 2816]⟩ : Shape).Idx → EReal)
    (HB : (⟨3, ![16, 32, 256]⟩ : Shape).Idx → EReal) (HC : (⟨3, ![16, 8, 256]⟩ : Shape).Idx → EReal) (wb : (⟨2, ![32, 256]⟩ : Shape).Idx → EReal)
    (bb lg lb : (⟨2, ![1, 256]⟩ : Shape).Idx → EReal) (wc : (⟨2, ![8, 256]⟩ : Shape).Idx → EReal) (go : (⟨2, ![1, 1024]⟩ : Shape).Idx → EReal)
    (wo : (⟨2, ![1024, 1024]⟩ : Shape).Idx → EReal) (s a : Fin 16) (j : Fin 1024) : EReal :=
  entry (cols x s 0 1024 le_rfl) (fun d => cols ya s 0 512 le_rfl (ix2 a d)) (outB u HB wb bb lg lb s a) (outC u HC wc s a) go wo a j

namespace Ref
open Idealize.ShloMosaic.TcCoe Cert.MixReferenceIdeal Cert.MixReferenceIdeal.Gen Cert.MixReferenceIdeal.Read
open Moe.Ref (word_0 word_1)

variable (x0 : FVec Ideal S256x1024 .f32) (x1 : FVec Ideal S256x512 .bf16) (x2 : FVec Ideal S256x2816 .bf16) (x3 : FVec Ideal S16x32x256 .f32)
    (x4 : FVec Ideal S16x8x256 .f32) (x5 : FVec Ideal S32x256 .f32) (x6 x7 x8 : FVec Ideal S1x256 .f32) (x9 : FVec Ideal S8x256 .f32)
    (x10 : FVec Ideal S1x1024 .f32) (x11 : FVec Ideal S1024x1024 .bf16)

/-- The gated rows. -/
theorem gated (R d : Fin 256) :
    val_main_v11 (F := Ideal) x2 (ix2 R d) = gate (x2 (ix2 R ⟨1536 + d.val, by omega⟩)) (x2 (ix2 R ⟨1792 + d.val, by omega⟩)) := by
  rw [val_main_v11_apply, val_main_v10_apply, val_main_v9_apply, val_main_v8_apply, val_main_v7_apply, val_main_v6_apply, val_main_v5_apply, val_main_v4_apply,
    val_main_v3_apply, val_main_cst_apply, val_main_cst_0_apply]
  have e0 : idx_main_v3 (ix2 R d) = ix2 R ⟨1536 + d.val, by omega⟩ := funext fun | 0 => rfl | 1 => rfl
  have e1 : idx_main_v4 (ix2 R d) = ix2 R ⟨1792 + d.val, by omega⟩ := funext fun | 0 => rfl | 1 => rfl
  rw [e0, e1]
  show x2 _ * Ideal.div (Ideal.ofBits .f32 0x3F800000#32) (Ideal.ofBits .f32 0x3F800000#32 + Ideal.exp (-(x2 _))) = _
  unfold gate Ffn.logistic
  rw [word_1, zero_sub]

/-- The sequences with their histories before them. -/
theorem joinedB (s : Fin 16) (k : Fin 48) (d : Fin 256) : val_main_v13 (F := Ideal) x2 x3 (ix3 s k d) = sequenceB x2 x3 s d k.val := by
  unfold val_main_v13 sequenceB seqB
  by_cases h : k.val < 32
  · refine (concatenate_pair_apply_left (s₁ := S16x32x256) (s₂ := S16x16x256) (t := S16x48x256) (1 : Fin 3) _ _ _ (ix3 s k d) rfl (ix3 s ⟨k.val, h⟩ d)
      (fun | 0 => rfl | 1 => rfl | 2 => rfl)).trans ?_
    exact (joined_old (fun k : Fin 32 => hist x3 s (ix3 0 k d)) _ ⟨k.val, h⟩).symm
  · obtain ⟨a, e⟩ : ∃ a : Fin 16, k.val = 32 + a.val := ⟨⟨k.val - 32, by omega⟩, by show k.val = 32 + (k.val - 32); omega⟩
    rw [e, joined_new]
    refine (concatenate_pair_apply_right (s₁ := S16x32x256) (s₂ := S16x16x256) (t := S16x48x256) (1 : Fin 3) _ _ _ (ix3 s k d) rfl rfl (ix3 s a d) ?_ ?_).trans ?_
    · exact fun | 0 => fun _ => rfl | 1 => fun hb => absurd rfl hb | 2 => fun _ => rfl
    · show a.val + 32 = k.val
      omega
    rw [val_main_v12_apply]
    have ei : idx_main_v12 (ix3 s a d) = ix2 (row s a) d := funext fun
      | 0 => Fin.ext (by show ((s.val * 16 + a.val) * 256 + d.val) / 256 = 16 * s.val + a.val; omega)
      | 1 => Fin.ext (by show ((s.val * 16 + a.val) * 256 + d.val) % 256 = d.val; omega)
    rw [ei, gated]
    refine congrArg₂ gate (congrArg x2 ?_) (congrArg x2 ?_)
    · exact funext fun | 0 => rfl | 1 => Fin.ext rfl
    · exact funext fun | 0 => rfl | 1 => Fin.ext (by show 1792 + d.val = 1536 + (256 + d.val); omega)

theorem joinedC (s : Fin 16) (k : Fin 24) (d : Fin 256) : val_main_v63 (F := Ideal) x2 x4 (ix3 s k d) = sequenceC x2 x4 s d k.val := by
  unfold val_main_v63 sequenceC seqC
  by_cases h : k.val < 8
  · refine (concatenate_pair_apply_left (s₁ := S16x8x256) (s₂ := S16x16x256) (t := S16x24x256) (1 : Fin 3) _ _ _ (ix3 s k d) rfl (ix3 s ⟨k.val, h⟩ d)
      (fun | 0 => rfl | 1 => rfl | 2 => rfl)).trans ?_
    exact (joined_old (fun k : Fin 8 => hist x4 s (ix3 0 k d)) _ ⟨k.val, h⟩).symm
  · obtain ⟨a, e⟩ : ∃ a : Fin 16, k.val = 8 + a.val := ⟨⟨k.val - 8, by omega⟩, by show k.val = 8 + (k.val - 8); omega⟩
    rw [e, joined_new]
    refine (concatenate_pair_apply_right (s₁ := S16x8x256) (s₂ := S16x16x256) (t := S16x24x256) (1 : Fin 3) _ _ _ (ix3 s k d) rfl rfl (ix3 s a d) ?_ ?_).trans ?_
    · exact fun | 0 => fun _ => rfl | 1 => fun hb => absurd rfl hb | 2 => fun _ => rfl
    · show a.val + 8 = k.val
      omega
    rw [val_main_v62_apply, val_main_v61_apply, val_main_v59_apply, val_main_v60_apply]
    refine congrArg₂ (· * ·) (congrArg x2 ?_) (congrArg x2 ?_)
    · exact funext fun
        | 0 => Fin.ext (by show ((s.val * 16 + a.val) * 256 + d.val) / 256 = 16 * s.val + a.val; omega)
        | 1 => Fin.ext (by show 2048 + ((s.val * 16 + a.val) * 256 + d.val) % 256 = 2048 + d.val; omega)
    · exact funext fun
        | 0 => Fin.ext (by show ((s.val * 16 + a.val) * 256 + d.val) / 256 = 16 * s.val + a.val; omega)
        | 1 => Fin.ext (by show 2560 + ((s.val * 16 + a.val) * 256 + d.val) % 256 = 2560 + d.val; omega)

/-- Which row a tap reads. -/
theorem place (a : Fin 16) (t : Fin 31) : val_main_v27 (F := Ideal) (ix3 a t 0) = BitVec.ofNat 32 (a.val + t.val + 2) := by
  pointwise [val_main_v27, val_main_v26, val_main_v25, val_main_v24, val_main_v23, val_main_v22, val_main_v21, val_main_v20, val_main_v19, val_main_v18, val_main_v17,
    val_main_v16, val_main_v15, val_main_v1, val_main_v2, val_main_c, val_main_c_1, val_main_c_2]
  have e : IntOp.addi (IntOp.addi (BitVec.ofNat 32 a.val) (BitVec.ofNat 32 t.val)) 2#32 = BitVec.ofNat 32 (a.val + t.val + 2) := by
    apply BitVec.eq_of_toNat_eq
    simp only [IntOp.addi, BitVec.toNat_add, BitVec.toNat_ofNat]
    omega
  rw [e, WordCmp.cmpi_slt_ofNat (w := 32) (b := 0) (by omega) (by omega)]
  simp [Scalar.select]

/-- A read of rows at given places. -/
theorem taken (x : FVec Ideal S16x48x256 .f32) (i : IVec S16x31x1 32) (s a : Fin 16) (t : Fin 31) (d : Fin 256)
    {k : Nat} (hk : k < 48) (hi : i (ix3 a t 0) = BitVec.ofNat 32 k) :
    Host.gather gather_S16x48x256_S16x31x1_S16x16x31x256_03_1_n_n_1_2_161256 x i (ix4 s a t d) = x (ix3 s ⟨k, hk⟩ d) := by
  unfold Host.gather
  congr 1
  funext z
  refine Fin.ext ?_
  show GatherDims.start _ _ i z + GatherDims.batchCoord _ _ z + GatherDims.offCoord _ _ z = _
  have h3 : z = 0 ∨ z = 1 ∨ z = 2 := by
    match z with
    | ⟨0, _⟩ => exact Or.inl rfl
    | ⟨1, _⟩ => exact Or.inr (Or.inl rfl)
    | ⟨2, _⟩ => exact Or.inr (Or.inr rfl)
  rcases h3 with rfl | rfl | rfl
  · rw [GatherDims.batchCoord_eq_zero _ _ _ List.not_mem_nil]
    unfold GatherDims.start
    rw [dif_neg (show ¬ (0 : Fin 3) ∈ gather_S16x48x256_S16x31x1_S16x16x31x256_03_1_n_n_1_2_161256.startIndexMap by decide)]
    unfold GatherDims.offCoord
    rw [dif_pos (show (0 : Fin 3) ∈ gather_S16x48x256_S16x31x1_S16x16x31x256_03_1_n_n_1_2_161256.sKept by decide)]
    exact (Nat.zero_add _)
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16x48x256_S16x31x1_S16x16x31x256_03_1_n_n_1_2_161256.startIndexMap from List.mem_singleton.mpr rfl)]
    have hsi : gather_S16x48x256_S16x31x1_S16x16x31x256_03_1_n_n_1_2_161256.siIdx (ix4 s a t d)
        ⟨List.idxOf (1 : Fin 3) gather_S16x48x256_S16x31x1_S16x16x31x256_03_1_n_n_1_2_161256.startIndexMap,
          List.idxOf_lt_length_iff.2 (List.mem_singleton.mpr rfl)⟩ = ix3 a t 0 := by
      funext b; refine Fin.ext ?_
      match b with
      | ⟨0, _⟩ => rfl
      | ⟨1, _⟩ => rfl
      | ⟨2, _⟩ => rfl
    rw [hsi, hi, BitVec.toInt_eq_toNat_of_lt (by simp only [BitVec.toNat_ofNat]; omega)]
    simp only [BitVec.toNat_ofNat, Int.toNat_natCast]
    show min (k % 2 ^ 32) (48 - 1) = k
    omega
  · rw [GatherDims.batchCoord_eq_zero _ _ _ List.not_mem_nil]
    unfold GatherDims.start
    rw [dif_neg (show ¬ (2 : Fin 3) ∈ gather_S16x48x256_S16x31x1_S16x16x31x256_03_1_n_n_1_2_161256.startIndexMap by decide)]
    unfold GatherDims.offCoord
    rw [dif_pos (show (2 : Fin 3) ∈ gather_S16x48x256_S16x31x1_S16x16x31x256_03_1_n_n_1_2_161256.sKept by decide)]
    exact (Nat.zero_add _)

/-- The bias and the taps. -/
theorem convolved (s a : Fin 16) (d : Fin 256) :
    val_main_v35 (F := Ideal) x2 x3 x5 x6 (ix3 s a d) = conv x5 x6 (sequenceB x2 x3 s) 31 a d := by
  rw [val_main_v35_apply, val_main_v34_apply, val_main_v33_apply, val_main_v32_apply, val_main_cst_3_apply]
  have e6 : idx_main_v33 (idx_main_v34 (ix3 s a d)) = ix2 0 d := funext fun | 0 => rfl | 1 => rfl
  rw [e6]
  unfold conv
  rw [Finset.sum_range]
  show Ideal.ofBits .f32 0x00000000#32 + (∑ t : Fin 31, val_main_v31 (F := Ideal) x2 x3 x5 _) + x6 (ix2 0 d) = _
  rw [word_0, zero_add, add_comm]
  refine congrArg (x6 (ix2 0 d) + ·) (Finset.sum_congr rfl fun t _ => ?_)
  have et : idx_main_v32 (ix3 s a d) t = ix4 s a t d := funext fun | 0 => rfl | 1 => rfl | 2 => rfl | 3 => rfl
  rw [et, val_main_v31_apply, val_main_v30_apply, val_main_v29_apply, val_main_v14_apply]
  unfold tap
  rw [dif_pos (show t.val < 32 by omega)]
  refine congrArg₂ (· * ·) (congrArg x5 (funext fun | 0 => Fin.ext rfl | 1 => rfl)) ?_
  refine (taken _ _ s a t d (show a.val + t.val + 2 < 48 by omega) (place a t)).trans ((joinedB x2 x3 s _ d).trans (congrArg _ ?_))
  show a.val + t.val + 2 = t.val + 2 + a.val
  omega

/-- A row less its mean. -/
theorem centred_apply (s a : Fin 16) (d : Fin 256) :
    val_main_v41 (F := Ideal) x2 x3 x5 x6 (ix3 s a d) = centred (conv x5 x6 (sequenceB x2 x3 s) 31 a) d := by
  rw [val_main_v41_apply, val_main_v40_apply, val_main_v39_apply, val_main_v38_apply, val_main_v37_apply, val_main_v36_apply, val_main_cst_4_apply, val_main_cst_5_apply]
  have e : ∀ k, idx_main_v36 (idx_main_v37 (idx_main_v40 (ix3 s a d))) k = ix3 s a k := fun k => funext fun | 0 => rfl | 1 => rfl | 2 => rfl
  simp only [e, convolved]
  generalize conv x5 x6 (sequenceB x2 x3 s) 31 a = z
  show z d - Ideal.div (Ideal.ofBits .f32 0x00000000#32 + ∑ k, z k) (Ideal.ofBits .f32 0x43800000#32) = _
  rw [word_0, zero_add]
  rfl

/-- And over the root of its variance. -/
theorem standard_apply (s a : Fin 16) (d : Fin 256) :
    val_main_v51 (F := Ideal) x2 x3 x5 x6 (ix3 s a d) = standard (conv x5 x6 (sequenceB x2 x3 s) 31 a) d := by
  rw [val_main_v51_apply, val_main_v50_apply, val_main_v49_apply, val_main_v48_apply, val_main_v47_apply, val_main_v46_apply, val_main_v45_apply, val_main_v44_apply,
    val_main_v43_apply, val_main_cst_6_apply, val_main_cst_7_apply, val_main_cst_8_apply]
  have e : ∀ k, idx_main_v43 (idx_main_v44 (idx_main_v50 (ix3 s a d))) k = ix3 s a k := fun k => funext fun | 0 => rfl | 1 => rfl | 2 => rfl
  simp only [val_main_v42_apply, e, centred_apply]
  unfold standard
  generalize centred (conv x5 x6 (sequenceB x2 x3 s) 31 a) = z
  show z d * Ideal.rsqrt (Ideal.div (Ideal.ofBits .f32 0x00000000#32 + ∑ k, z k * z k) (Ideal.ofBits .f32 0x43800000#32) + Ideal.ofBits .f32 0x358637BD#32) = _
  rw [word_0, zero_add]
  rfl

/-- What mixer B makes of a row, -/
theorem outB_apply (s a : Fin 16) (d : Fin 256) : val_main_v58 (F := Ideal) x2 x3 x5 x6 x7 x8 (ix3 s a d) = outB x2 x3 x5 x6 x7 x8 s a d := by
  have key : val_main_v57 (F := Ideal) x2 x3 x5 x6 x7 x8 (ix3 s a d)
      = standard (conv x5 x6 (sequenceB x2 x3 s) 31 a) d * x7 (ix2 0 d) + x8 (ix2 0 d) := by
    rw [val_main_v57_apply, val_main_v56_apply, val_main_v55_apply, val_main_v54_apply, val_main_v53_apply, val_main_v52_apply, standard_apply]
    have e7 : idx_main_v52 (idx_main_v53 (ix3 s a d)) = ix2 0 d := funext fun | 0 => rfl | 1 => rfl
    have e8 : idx_main_v55 (idx_main_v56 (ix3 s a d)) = ix2 0 d := funext fun | 0 => rfl | 1 => rfl
    rw [e7, e8]
    rfl
  rw [val_main_v58_apply, val_main_call0_v5_apply, val_main_call0_v4_apply, val_main_call0_cst_0_apply, val_main_call0_v3_apply,
    val_main_call0_v2_apply, val_main_call0_cst_apply, val_main_call0_v1_apply, val_main_call0_v0_apply, key]
  unfold outB mixedB
  show _ = gate (standard (conv x5 x6 (sequenceB x2 x3 s) 31 a) d * x7 (ix2 0 d) + x8 (ix2 0 d))
    (standard (conv x5 x6 (sequenceB x2 x3 s) 31 a) d * x7 (ix2 0 d) + x8 (ix2 0 d))
  generalize standard (conv x5 x6 (sequenceB x2 x3 s) 31 a) d * x7 (ix2 0 d) + x8 (ix2 0 d) = z
  show z * Ideal.div (Ideal.ofBits .f32 0x3F800000#32) (Ideal.ofBits .f32 0x3F800000#32 + Ideal.exp (-z)) = _
  unfold gate Ffn.logistic
  rw [word_1, zero_sub]

/-- and mixer C. -/
theorem outC_apply (s a : Fin 16) (d : Fin 256) : val_main_v88 (F := Ideal) x2 x4 x9 (ix3 s a d) = outC x2 x4 x9 s a d := by
  rw [val_main_v88_apply, val_main_v87_apply, val_main_v86_apply, val_main_v85_apply, val_main_v84_apply, val_main_v83_apply, val_main_v82_apply, val_main_v81_apply,
    val_main_v80_apply, val_main_v79_apply, val_main_v78_apply, val_main_v77_apply, val_main_v76_apply, val_main_v75_apply, val_main_v74_apply, val_main_v73_apply,
    val_main_v72_apply, val_main_v71_apply, val_main_v70_apply, val_main_v69_apply, val_main_v68_apply, val_main_v67_apply, val_main_v66_apply, val_main_v65_apply,
    val_main_v64_apply, val_main_cst_9_apply]
  have s0 : val_main_v63 (F := Ideal) x2 x4 (idx_main_v68 (ix3 s a d)) = sequenceC x2 x4 s d (6 + a.val) := by
    have e : idx_main_v68 (ix3 s a d) = ix3 s ⟨6 + a.val, by omega⟩ d := funext fun | 0 => rfl | 1 => rfl | 2 => rfl
    rw [e]
    exact joinedC x2 x4 s _ d
  have s1 : val_main_v63 (F := Ideal) x2 x4 (idx_main_v76 (ix3 s a d)) = sequenceC x2 x4 s d (7 + a.val) := by
    have e : idx_main_v76 (ix3 s a d) = ix3 s ⟨7 + a.val, by omega⟩ d := funext fun | 0 => rfl | 1 => rfl | 2 => rfl
    rw [e]
    exact joinedC x2 x4 s _ d
  have s2 : val_main_v63 (F := Ideal) x2 x4 (idx_main_v83 (ix3 s a d)) = sequenceC x2 x4 s d (8 + a.val) := by
    have e : idx_main_v83 (ix3 s a d) = ix3 s ⟨8 + a.val, by omega⟩ d := funext fun | 0 => rfl | 1 => rfl | 2 => rfl
    rw [e]
    exact joinedC x2 x4 s _ d
  have w0 : idx_main_v66 (idx_main_v67 (idx_main_v69 (idx_main_v70 (ix3 s a d)))) = ix2 0 d := funext fun
    | 0 => Fin.ext rfl
    | 1 => Fin.ext (by show d.val % 256 = d.val; omega)
  have w1 : idx_main_v74 (idx_main_v75 (idx_main_v77 (idx_main_v78 (ix3 s a d)))) = ix2 1 d := funext fun
    | 0 => Fin.ext rfl
    | 1 => Fin.ext (by show d.val % 256 = d.val; omega)
  have w2 : idx_main_v81 (idx_main_v82 (idx_main_v84 (idx_main_v85 (ix3 s a d)))) = ix2 2 d := funext fun
    | 0 => Fin.ext rfl
    | 1 => Fin.ext (by show d.val % 256 = d.val; omega)
  have g : idx_main_v64 (idx_main_v65 (ix3 s a d)) = ix2 (row s a) ⟨2304 + d.val, by omega⟩ := funext fun
    | 0 => Fin.ext (by show ((s.val * 16 + a.val) * 256 + d.val) / 256 = 16 * s.val + a.val; omega)
    | 1 => Fin.ext (by show 2304 + ((s.val * 16 + a.val) * 256 + d.val) % 256 = 2304 + d.val; omega)
  rw [s0, s1, s2, w0, w1, w2, g]
  show x2 _ * (Ideal.ofBits .f32 0x00000000#32 + x9 _ * sequenceC x2 x4 s d (6 + a.val) + x9 _ * sequenceC x2 x4 s d (7 + a.val) + x9 _ * sequenceC x2 x4 s d (8 + a.val)) = _
  rw [word_0, zero_add]
  rfl

/-- Mixer A's rows, normalised; -/
theorem normA (s a : Fin 16) (d : Fin 512) :
    val_main_v102 (F := Ideal) x1 x10 (ix2 (row s a) d)
      = normed (Ideal.ofBits .f32 0x44000000#32) (fun d => cols x1 s 0 512 le_rfl (ix2 a d)) (fun d => x10 (ix2 0 ⟨d.val, by omega⟩)) d := by
  rw [val_main_v102_apply, val_main_v101_apply, val_main_v100_apply, val_main_v99_apply, val_main_v98_apply, val_main_v97_apply, val_main_v96_apply, val_main_v95_apply,
    val_main_v94_apply, val_main_v93_apply, val_main_v92_apply, val_main_v90_apply, val_main_cst_10_apply, val_main_cst_11_apply, val_main_cst_12_apply]
  have e : ∀ k, idx_main_v92 (idx_main_v93 (idx_main_v99 (ix2 (row s a) d))) k = ix2 (row s a) k := fun k => funext fun | 0 => rfl | 1 => rfl
  have eg : idx_main_v90 (idx_main_v101 (ix2 (row s a) d)) = ix2 0 ⟨d.val, by omega⟩ := funext fun | 0 => rfl | 1 => Fin.ext (by first | rfl | (show 0 + d.val = d.val; omega))
  have ey : ∀ k, val_main_v89 (F := Ideal) x1 (ix2 (row s a) k) = cols x1 s 0 512 le_rfl (ix2 a k) := fun k => by
    rw [val_main_v89_apply]
    exact congrArg x1 (funext fun | 0 => rfl | 1 => Fin.ext (Nat.zero_add _).symm)
  simp only [val_main_v91_apply, e, eg, ey]
  unfold normed
  generalize cols x1 s 0 512 le_rfl = y
  show y (ix2 a d) * Ideal.rsqrt (Ideal.div (Ideal.ofBits .f32 0x00000000#32 + ∑ k, y (ix2 a k) * y (ix2 a k)) (Ideal.ofBits .f32 0x44000000#32) + Ideal.ofBits .f32 0x358637BD#32) * x10 _ = _
  rw [word_0, zero_add]
  rfl

/-- mixer B's; -/
theorem normB (s a : Fin 16) (d : Fin 256) :
    val_main_v116 (F := Ideal) x2 x3 x5 x6 x7 x8 x10 (ix2 (row s a) d)
      = normed (Ideal.ofBits .f32 0x43800000#32) (outB x2 x3 x5 x6 x7 x8 s a) (fun d => x10 (ix2 0 ⟨512 + d.val, by omega⟩)) d := by
  rw [val_main_v116_apply, val_main_v115_apply, val_main_v114_apply, val_main_v113_apply, val_main_v112_apply, val_main_v111_apply, val_main_v110_apply, val_main_v109_apply,
    val_main_v108_apply, val_main_v107_apply, val_main_v106_apply, val_main_v104_apply, val_main_cst_13_apply, val_main_cst_14_apply, val_main_cst_15_apply]
  have e : ∀ k, idx_main_v106 (idx_main_v107 (idx_main_v113 (ix2 (row s a) d))) k = ix2 (row s a) k := fun k => funext fun | 0 => rfl | 1 => rfl
  have eg : idx_main_v104 (idx_main_v115 (ix2 (row s a) d)) = ix2 0 ⟨512 + d.val, by omega⟩ := funext fun | 0 => rfl | 1 => rfl
  have ey : ∀ k, val_main_v103 (F := Ideal) x2 x3 x5 x6 x7 x8 (ix2 (row s a) k) = outB x2 x3 x5 x6 x7 x8 s a k := fun k => by
    rw [val_main_v103_apply, ← outB_apply]
    exact congrArg (val_main_v58 (F := Ideal) x2 x3 x5 x6 x7 x8) (funext fun
      | 0 => Fin.ext (by show ((16 * s.val + a.val) * 256 + k.val) / 4096 = s.val; omega)
      | 1 => Fin.ext (by show ((16 * s.val + a.val) * 256 + k.val) / 256 % 16 = a.val; omega)
      | 2 => Fin.ext (by show ((16 * s.val + a.val) * 256 + k.val) % 256 = k.val; omega))
  simp only [val_main_v105_apply, e, eg, ey]
  unfold normed
  generalize outB x2 x3 x5 x6 x7 x8 s a = y
  show y d * Ideal.rsqrt (Ideal.div (Ideal.ofBits .f32 0x00000000#32 + ∑ k, y k * y k) (Ideal.ofBits .f32 0x43800000#32) + Ideal.ofBits .f32 0x358637BD#32) * x10 _ = _
  rw [word_0, zero_add]
  rfl

/-- and mixer C's. -/
theorem normC (s a : Fin 16) (d : Fin 256) :
    val_main_v130 (F := Ideal) x2 x4 x9 x10 (ix2 (row s a) d)
      = normed (Ideal.ofBits .f32 0x43800000#32) (outC x2 x4 x9 s a) (fun d => x10 (ix2 0 ⟨768 + d.val, by omega⟩)) d := by
  rw [val_main_v130_apply, val_main_v129_apply, val_main_v128_apply, val_main_v127_apply, val_main_v126_apply, val_main_v125_apply, val_main_v124_apply, val_main_v123_apply,
    val_main_v122_apply, val_main_v121_apply, val_main_v120_apply, val_main_v118_apply, val_main_cst_16_apply, val_main_cst_17_apply, val_main_cst_18_apply]
  have e : ∀ k, idx_main_v120 (idx_main_v121 (idx_main_v127 (ix2 (row s a) d))) k = ix2 (row s a) k := fun k => funext fun | 0 => rfl | 1 => rfl
  have eg : idx_main_v118 (idx_main_v129 (ix2 (row s a) d)) = ix2 0 ⟨768 + d.val, by omega⟩ := funext fun | 0 => rfl | 1 => rfl
  have ey : ∀ k, val_main_v117 (F := Ideal) x2 x4 x9 (ix2 (row s a) k) = outC x2 x4 x9 s a k := fun k => by
    rw [val_main_v117_apply, ← outC_apply]
    exact congrArg (val_main_v88 (F := Ideal) x2 x4 x9) (funext fun
      | 0 => Fin.ext (by show ((16 * s.val + a.val) * 256 + k.val) / 4096 = s.val; omega)
      | 1 => Fin.ext (by show ((16 * s.val + a.val) * 256 + k.val) / 256 % 16 = a.val; omega)
      | 2 => Fin.ext (by show ((16 * s.val + a.val) * 256 + k.val) % 256 = k.val; omega))
  simp only [val_main_v119_apply, e, eg, ey]
  unfold normed
  generalize outC x2 x4 x9 s a = y
  show y d * Ideal.rsqrt (Ideal.div (Ideal.ofBits .f32 0x00000000#32 + ∑ k, y k * y k) (Ideal.ofBits .f32 0x43800000#32) + Ideal.ofBits .f32 0x358637BD#32) * x10 _ = _
  rw [word_0, zero_add]
  rfl

/-- A sum over the columns of the three groups. -/
theorem thirds (f : Fin 1024 → EReal) :
    ∑ k, f k = (∑ d : Fin 512, f ⟨d.val, by omega⟩) + ((∑ d : Fin 256, f ⟨512 + d.val, by omega⟩) + ∑ d : Fin 256, f ⟨768 + d.val, by omega⟩) := by
  refine (Fin.sum_univ_add (a := 512) (b := 512) f).trans (congrArg₂ (· + ·) rfl ?_)
  refine (Fin.sum_univ_add (a := 256) (b := 256) fun k => f (Fin.natAdd 512 k)).trans (congrArg₂ (· + ·) rfl (Finset.sum_congr rfl fun d _ => congrArg f (Fin.ext ?_)))
  show 512 + (256 + d.val) = 768 + d.val
  omega

/-- The reference's first result. -/
theorem result_apply (s a : Fin 16) (j : Fin 1024) :
    val_main_v134 (F := Ideal) x0 x1 x2 x3 x4 x5 x6 x7 x8 x9 x10 x11 (ix2 (row s a) j) = result x0 x1 x2 x3 x4 x5 x6 x7 x8 x9 x10 x11 s a j := by
  have hA : ∀ d : Fin 512, val_main_v131 (F := Ideal) x1 x2 x3 x4 x5 x6 x7 x8 x9 x10 (ix2 (row s a) ⟨d.val, by omega⟩) = val_main_v102 (F := Ideal) x1 x10 (ix2 (row s a) d) := fun d => by
    pointwise [val_main_v131]
  have hB : ∀ d : Fin 256, val_main_v131 (F := Ideal) x1 x2 x3 x4 x5 x6 x7 x8 x9 x10 (ix2 (row s a) ⟨512 + d.val, by omega⟩)
      = val_main_v116 (F := Ideal) x2 x3 x5 x6 x7 x8 x10 (ix2 (row s a) d) := fun d => by
    pointwise [val_main_v131]
  have hC : ∀ d : Fin 256, val_main_v131 (F := Ideal) x1 x2 x3 x4 x5 x6 x7 x8 x9 x10 (ix2 (row s a) ⟨768 + d.val, by omega⟩)
      = val_main_v130 (F := Ideal) x2 x4 x9 x10 (ix2 (row s a) d) := fun d => by
    pointwise [val_main_v131]
    rw [dif_neg (by omega), dif_neg (by omega)]
    exact congrArg _ (funext fun | 0 => rfl | 1 => Fin.ext (by show 768 + d.val - 512 - 256 = d.val; omega))
  rw [val_main_v134_apply, val_main_v133_apply]
  have e : ∀ k : Fin 1024, val_main_v131 (F := Ideal) x1 x2 x3 x4 x5 x6 x7 x8 x9 x10 (lidx_main_v133 (ix2 (row s a) j) k) * val_main_v132 (F := Ideal) x11 (ridx_main_v133 (ix2 (row s a) j) k)
      = (val_main_v131 (F := Ideal) x1 x2 x3 x4 x5 x6 x7 x8 x9 x10 (ix2 (row s a) k) * x11 (ix2 k j) : EReal) := fun k =>
    congrArg₂ (· * ·) (congrArg _ (funext fun | 0 => rfl | 1 => rfl)) (congrArg x11 (funext fun | 0 => rfl | 1 => rfl))
  rw [Finset.sum_congr rfl fun k _ => e k]
  refine (congrArg (x0 (ix2 (row s a) j) + ·) (thirds fun k => (val_main_v131 (F := Ideal) x1 x2 x3 x4 x5 x6 x7 x8 x9 x10 (ix2 (row s a) k) * x11 (ix2 k j) : EReal))).trans ?_
  rw [← add_assoc, ← add_assoc]
  refine congrArg₂ (· + ·) (congrArg₂ (· + ·) (congrArg₂ (· + ·) (congrArg x0 (funext fun | 0 => rfl | 1 => Fin.ext (Nat.zero_add _).symm)) ?_) ?_) ?_
  · exact Finset.sum_congr rfl fun d _ => congrArg (· * x11 _) ((hA d).trans (normA x1 x10 s a d))
  · exact Finset.sum_congr rfl fun d _ => congrArg (· * x11 _) ((hB d).trans (normB x2 x3 x5 x6 x7 x8 x10 s a d))
  · exact Finset.sum_congr rfl fun d _ => congrArg (· * x11 _) ((hC d).trans (normC x2 x4 x9 x10 s a d))

/-- Its second, -/
theorem rest_B (s : Fin 16) (k : Fin 32) (d : Fin 256) : val_main_v135 (F := Ideal) x2 x3 (ix3 s k d) = sequenceB x2 x3 s d (16 + k.val) := by
  rw [val_main_v135_apply]
  have e : idx_main_v135 (ix3 s k d) = ix3 s ⟨16 + k.val, by omega⟩ d := funext fun | 0 => rfl | 1 => rfl | 2 => rfl
  rw [e]
  exact joinedB x2 x3 s _ d

/-- and its third. -/
theorem rest_C (s : Fin 16) (k : Fin 8) (d : Fin 256) : val_main_v136 (F := Ideal) x2 x4 (ix3 s k d) = sequenceC x2 x4 s d (16 + k.val) := by
  rw [val_main_v136_apply]
  have e : idx_main_v136 (ix3 s k d) = ix3 s ⟨16 + k.val, by omega⟩ d := funext fun | 0 => rfl | 1 => rfl | 2 => rfl
  rw [e]
  exact joinedC x2 x4 s _ d

end Ref
end Mix
end
-- ==== Proof.MixBlocks.lean ====
module
public import proofs.«01_k».proof.Proof.MixReference
public import Idealize.ShloMosaic.Lib.Pipeline.Covers
public import Idealize.ShloMosaic.Lib.Pipeline.ValueKit

/-! Which part of the arguments a grid point's blocks hold, and the three arrays the mixers' kernel leaves. -/

@[expose] public section
set_option maxRecDepth 16384
noncomputable section

namespace Mix
open Idealize.ShloMosaic Idealize.ShloMosaic.TcCoe Cert.MixIdeal Cert.MixIdeal.Gen Idealize.SL.Sem

variable (m : (ℓ : Loc nD τ sig) → Buf (Elt Ideal) ℓ) (c : Dev nD)

/-- The block indices of the windows at each point. -/
theorem idx : ∀ t : Fin cfg0.N, win0_0.index t = ![t.val, 0] ∧ win0_1.index t = ![t.val, 0] ∧ win0_2.index t = ![t.val, 3] ∧ win0_3.index t = ![t.val, 8] ∧ win0_4.index t = ![t.val, 9] ∧
    win0_5.index t = ![t.val, 10] ∧ win0_6.index t = ![t.val, 0, 0] ∧ win0_7.index t = ![t.val, 0, 0] ∧ win0_8.index t = ![0, 0] ∧ win0_9.index t = ![0, 0] ∧
    win0_10.index t = ![0, 0] ∧ win0_11.index t = ![0, 0] ∧ win0_12.index t = ![0, 0] ∧ win0_13.index t = ![0, 0] ∧ win0_14.index t = ![0, 0] ∧
    win0_15.index t = ![t.val, 0] ∧ win0_16.index t = ![t.val, 0, 0] ∧ win0_17.index t = ![t.val, 0, 0] :=
  (by decide +kernel : ∀ t : Fin grid0.N, _)

theorem points_lt (t : Fin cfg0.N) : t.val < 16 := lt_of_lt_of_eq t.isLt N_0

/-- A point's sequence. -/
def seqOf (t : Fin cfg0.N) : Fin 16 := ⟨t.val, points_lt t⟩

/-- The rows of a point's sequence, -/
theorem block0 (t : Fin cfg0.N) : (iblk m c 0 t : S16x1024.Idx → EReal) = cols (m ((c : Thread nD τ).loc main_arg0)) (seqOf t) 0 1024 le_rfl := by
  have key : ∀ (a : Fin 16) (d : Fin 1024), iblk m c 0 t (ix2 a d) = m ((c : Thread nD τ).loc main_arg0) (ix2 (row (seqOf t) a) ⟨0 + d.val, by omega⟩) := fun a d => by
    have e := (idx t).1
    blk_ext [iblk, V, e, row, seqOf]
  funext i
  have ei : i = ix2 (i 0) (i 1) := funext fun | 0 => rfl | 1 => rfl
  rw [ei]
  exact key (i 0) (i 1)

/-- mixer A's, -/
theorem block1 (t : Fin cfg0.N) : (iblk m c 1 t : S16x512.Idx → EReal) = cols (m ((c : Thread nD τ).loc main_arg1)) (seqOf t) 0 512 le_rfl := by
  have key : ∀ (a : Fin 16) (d : Fin 512), iblk m c 1 t (ix2 a d) = m ((c : Thread nD τ).loc main_arg1) (ix2 (row (seqOf t) a) ⟨0 + d.val, by omega⟩) := fun a d => by
    have e := (idx t).2.1
    blk_ext [iblk, V, e, row, seqOf]
  funext i
  have ei : i = ix2 (i 0) (i 1) := funext fun | 0 => rfl | 1 => rfl
  rw [ei]
  exact key (i 0) (i 1)

/-- mixer B's values and gates, -/
theorem block2 (t : Fin cfg0.N) : (X0_2 m c t : S16x512.Idx → EReal) = cols (m ((c : Thread nD τ).loc main_arg2)) (seqOf t) 1536 512 (by omega) := by
  have key : ∀ (a : Fin 16) (d : Fin 512), X0_2 m c t (ix2 a d) = m ((c : Thread nD τ).loc main_arg2) (ix2 (row (seqOf t) a) ⟨1536 + d.val, by omega⟩) := fun a d => by
    unfold X0_2 Pipeline.Window.fill
    rw [dif_pos (moved0_2 t _)]
    have e := (idx t).2.2.1
    blk_ext [iblk, V, e, row, seqOf]
  funext i
  have ei : i = ix2 (i 0) (i 1) := funext fun | 0 => rfl | 1 => rfl
  rw [ei]
  exact key (i 0) (i 1)

/-- the first factor of mixer C's products, -/
theorem block3 (t : Fin cfg0.N) : (iblk m c 3 t : S16x256.Idx → EReal) = cols (m ((c : Thread nD τ).loc main_arg2)) (seqOf t) 2048 256 (by omega) := by
  have key : ∀ (a : Fin 16) (d : Fin 256), iblk m c 3 t (ix2 a d) = m ((c : Thread nD τ).loc main_arg2) (ix2 (row (seqOf t) a) ⟨2048 + d.val, by omega⟩) := fun a d => by
    have e := (idx t).2.2.2.1
    blk_ext [iblk, V, e, row, seqOf]
  funext i
  have ei : i = ix2 (i 0) (i 1) := funext fun | 0 => rfl | 1 => rfl
  rw [ei]
  exact key (i 0) (i 1)

/-- its gate, -/
theorem block4 (t : Fin cfg0.N) : (iblk m c 4 t : S16x256.Idx → EReal) = cols (m ((c : Thread nD τ).loc main_arg2)) (seqOf t) 2304 256 (by omega) := by
  have key : ∀ (a : Fin 16) (d : Fin 256), iblk m c 4 t (ix2 a d) = m ((c : Thread nD τ).loc main_arg2) (ix2 (row (seqOf t) a) ⟨2304 + d.val, by omega⟩) := fun a d => by
    have e := (idx t).2.2.2.2.1
    blk_ext [iblk, V, e, row, seqOf]
  funext i
  have ei : i = ix2 (i 0) (i 1) := funext fun | 0 => rfl | 1 => rfl
  rw [ei]
  exact key (i 0) (i 1)

/-- the second factor, -/
theorem block5 (t : Fin cfg0.N) : (iblk m c 5 t : S16x256.Idx → EReal) = cols (m ((c : Thread nD τ).loc main_arg2)) (seqOf t) 2560 256 (by omega) := by
  have key : ∀ (a : Fin 16) (d : Fin 256), iblk m c 5 t (ix2 a d) = m ((c : Thread nD τ).loc main_arg2) (ix2 (row (seqOf t) a) ⟨2560 + d.val, by omega⟩) := fun a d => by
    have e := (idx t).2.2.2.2.2.1
    blk_ext [iblk, V, e, row, seqOf]
  funext i
  have ei : i = ix2 (i 0) (i 1) := funext fun | 0 => rfl | 1 => rfl
  rw [ei]
  exact key (i 0) (i 1)

/-- mixer B's history, -/
theorem block6 (t : Fin cfg0.N) : (iblk m c 6 t : S1x32x256.Idx → EReal) = hist (m ((c : Thread nD τ).loc main_arg3)) (seqOf t) := by
  have key : ∀ (z : Fin 1) (a : Fin 32) (d : Fin 256), iblk m c 6 t (ix3 z a d) = m ((c : Thread nD τ).loc main_arg3) (ix3 (seqOf t) a d) := fun z a d => by
    have e := (idx t).2.2.2.2.2.2.1
    blk_ext [iblk, V, e, seqOf]
  funext i
  have ei : i = ix3 (i 0) (i 1) (i 2) := funext fun | 0 => rfl | 1 => rfl | 2 => rfl
  rw [ei]
  exact key (i 0) (i 1) (i 2)

/-- mixer C's, -/
theorem block7 (t : Fin cfg0.N) : (iblk m c 7 t : S1x8x256.Idx → EReal) = hist (m ((c : Thread nD τ).loc main_arg4)) (seqOf t) := by
  have key : ∀ (z : Fin 1) (a : Fin 8) (d : Fin 256), iblk m c 7 t (ix3 z a d) = m ((c : Thread nD τ).loc main_arg4) (ix3 (seqOf t) a d) := fun z a d => by
    have e := (idx t).2.2.2.2.2.2.2.1
    blk_ext [iblk, V, e, seqOf]
  funext i
  have ei : i = ix3 (i 0) (i 1) (i 2) := funext fun | 0 => rfl | 1 => rfl | 2 => rfl
  rw [ei]
  exact key (i 0) (i 1) (i 2)

/-- and the weights, whole at every point. -/
theorem block8 (t : Fin cfg0.N) : (iblk m c 8 t : S32x256.Idx → EReal) = m ((c : Thread nD τ).loc main_arg5) := by
  have key : ∀ (a : Fin 32) (d : Fin 256), iblk m c 8 t (ix2 a d) = m ((c : Thread nD τ).loc main_arg5) (ix2 a d) := fun a d => by
    have e := (idx t).2.2.2.2.2.2.2.2.1
    blk_ext [iblk, V, e]
  funext i
  have ei : i = ix2 (i 0) (i 1) := funext fun | 0 => rfl | 1 => rfl
  rw [ei]
  exact key (i 0) (i 1)

theorem block9 (t : Fin cfg0.N) : (iblk m c 9 t : S1x256.Idx → EReal) = m ((c : Thread nD τ).loc main_arg6) := by
  have key : ∀ (a : Fin 1) (d : Fin 256), iblk m c 9 t (ix2 a d) = m ((c : Thread nD τ).loc main_arg6) (ix2 a d) := fun a d => by
    have e := (idx t).2.2.2.2.2.2.2.2.2.1
    blk_ext [iblk, V, e]
  funext i
  have ei : i = ix2 (i 0) (i 1) := funext fun | 0 => rfl | 1 => rfl
  rw [ei]
  exact key (i 0) (i 1)

theorem block10 (t : Fin cfg0.N) : (iblk m c 10 t : S1x256.Idx → EReal) = m ((c : Thread nD τ).loc main_arg7) := by
  have key : ∀ (a : Fin 1) (d : Fin 256), iblk m c 10 t (ix2 a d) = m ((c : Thread nD τ).loc main_arg7) (ix2 a d) := fun a d => by
    have e := (idx t).2.2.2.2.2.2.2.2.2.2.1
    blk_ext [iblk, V, e]
  funext i
  have ei : i = ix2 (i 0) (i 1) := funext fun | 0 => rfl | 1 => rfl
  rw [ei]
  exact key (i 0) (i 1)

theorem block11 (t : Fin cfg0.N) : (iblk m c 11 t : S1x256.Idx → EReal) = m ((c : Thread nD τ).loc main_arg8) := by
  have key : ∀ (a : Fin 1) (d : Fin 256), iblk m c 11 t (ix2 a d) = m ((c : Thread nD τ).loc main_arg8) (ix2 a d) := fun a d => by
    have e := (idx t).2.2.2.2.2.2.2.2.2.2.2.1
    blk_ext [iblk, V, e]
  funext i
  have ei : i = ix2 (i 0) (i 1) := funext fun | 0 => rfl | 1 => rfl
  rw [ei]
  exact key (i 0) (i 1)

theorem block12 (t : Fin cfg0.N) : (iblk m c 12 t : S8x256.Idx → EReal) = m ((c : Thread nD τ).loc main_arg9) := by
  have key : ∀ (a : Fin 8) (d : Fin 256), iblk m c 12 t (ix2 a d) = m ((c : Thread nD τ).loc main_arg9) (ix2 a d) := fun a d => by
    have e := (idx t).2.2.2.2.2.2.2.2.2.2.2.2.1
    blk_ext [iblk, V, e]
  funext i
  have ei : i = ix2 (i 0) (i 1) := funext fun | 0 => rfl | 1 => rfl
  rw [ei]
  exact key (i 0) (i 1)

theorem block13 (t : Fin cfg0.N) : (iblk m c 13 t : S1x1024.Idx → EReal) = m ((c : Thread nD τ).loc main_arg10) := by
  have key : ∀ (a : Fin 1) (d : Fin 1024), iblk m c 13 t (ix2 a d) = m ((c : Thread nD τ).loc main_arg10) (ix2 a d) := fun a d => by
    have e := (idx t).2.2.2.2.2.2.2.2.2.2.2.2.2.1
    blk_ext [iblk, V, e]
  funext i
  have ei : i = ix2 (i 0) (i 1) := funext fun | 0 => rfl | 1 => rfl
  rw [ei]
  exact key (i 0) (i 1)

theorem block14 (t : Fin cfg0.N) : (iblk m c 14 t : S1024x1024.Idx → EReal) = m ((c : Thread nD τ).loc main_arg11) := by
  have key : ∀ (a : Fin 1024) (d : Fin 1024), iblk m c 14 t (ix2 a d) = m ((c : Thread nD τ).loc main_arg11) (ix2 a d) := fun a d => by
    have e := (idx t).2.2.2.2.2.2.2.2.2.2.2.2.2.2.1
    blk_ext [iblk, V, e]
  funext i
  have ei : i = ix2 (i 0) (i 1) := funext fun | 0 => rfl | 1 => rfl
  rw [ei]
  exact key (i 0) (i 1)

/-- Entry `j` of row `a` of sequence `s` of the first result, of the arguments on device `c`. -/
def resultOf (s a : Fin 16) (j : Fin 1024) : EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) s a j

/-- The first result, -/
def hArr : Buf (Elt Ideal) ((cfg0.win 15).arr.view.loc (c : Thread nD τ)) :=
  fun (i : S256x1024.Idx) => resultOf m c ⟨(i 0).val / 16, by have : (i 0).val < 256 := (i 0).isLt; omega⟩ ⟨(i 0).val % 16, by omega⟩ (i 1)

/-- the second, -/
def bArr : Buf (Elt Ideal) ((cfg0.win 16).arr.view.loc (c : Thread nD τ)) :=
  fun (i : S16x32x256.Idx) => sequenceB (m ((c : Thread nD τ).loc main_arg2)) (m ((c : Thread nD τ).loc main_arg3)) (i 0) (i 2) (16 + (i 1).val)

/-- and the third. -/
def cArr : Buf (Elt Ideal) ((cfg0.win 17).arr.view.loc (c : Thread nD τ)) :=
  fun (i : S16x8x256.Idx) => sequenceC (m ((c : Thread nD τ).loc main_arg2)) (m ((c : Thread nD τ).loc main_arg4)) (i 0) (i 2) (16 + (i 1).val)

/-- The outputs of a point, as what the kernel makes of its blocks. -/
theorem out_h (t : Fin cfg0.N) : (outsAt0 m c t).1 = out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (hcond0_0 t)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by simp only [outsAt0]

theorem out_b (t : Fin cfg0.N) : (outsAt0 m c t).2.1 = out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (hcond0_0 t)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by simp only [outsAt0]

theorem out_c (t : Fin cfg0.N) : (outsAt0 m c t).2.2 = out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (hcond0_0 t)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by simp only [outsAt0]

/-- What a point leaves in the first output, -/
theorem h_point (t : Fin cfg0.N) (a : Fin 16) (j : Fin 1024) : (outsAt0 m c t).1 (ix2 a j) = resultOf m c (seqOf t) a j := by
  rw [out_h]
  refine (h_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (hcond0_0 t)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a j).trans ?_
  unfold resultOf result outB outC
  rw [block0, block1, block2, block3, block4, block5, block6, block7, block8, block9, block10, block11, block12, block13, block14]

/-- in the second -/
theorem b_point (t : Fin cfg0.N) (k : Fin 32) (d : Fin 256) :
    (outsAt0 m c t).2.1 (ix3 0 k d) = sequenceB (m ((c : Thread nD τ).loc main_arg2)) (m ((c : Thread nD τ).loc main_arg3)) (seqOf t) d (16 + k.val) := by
  rw [out_b]
  refine (nb_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (hcond0_0 t)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) k d).trans ?_
  unfold sequenceB
  rw [block2, block6]

/-- and in the third. -/
theorem c_point (t : Fin cfg0.N) (k : Fin 8) (d : Fin 256) :
    (outsAt0 m c t).2.2 (ix3 0 k d) = sequenceC (m ((c : Thread nD τ).loc main_arg2)) (m ((c : Thread nD τ).loc main_arg4)) (seqOf t) d (16 + k.val) := by
  rw [out_c]
  refine (nc_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (hcond0_0 t)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) k d).trans ?_
  unfold sequenceC
  rw [block3, block5, block7]

/-- A block of each output for every point. -/
theorem first_index15 : ∀ b : Fin 16, cc0_transform_15 (fun | 0 => ⟨b.val, b.isLt⟩ | 1 => ⟨0, by decide⟩) 0 = b.val := by decide +kernel

theorem first_index16 : ∀ b : Fin 16, cc0_transform_16 (fun | 0 => ⟨b.val, b.isLt⟩ | 1 => ⟨0, by decide⟩) 0 = b.val := by decide +kernel

theorem first_index17 : ∀ b : Fin 16, cc0_transform_17 (fun | 0 => ⟨b.val, b.isLt⟩ | 1 => ⟨0, by decide⟩) 0 = b.val := by decide +kernel

/-- The first array the kernel leaves, -/
theorem h_array : (dats m 0 c).arrAt 15 cfg0.N = hArr m c := by
  refine (dats m 0 c).arrAt_eq_of_covers 15 (hArr m c) ?_ fun t _ y => ?_
  · refine (cfg0.win 15).covers_of_indexMap_surj rfl (show ∀ a : Fin 2, 0 < S16x1024.size a by decide) fun β => ?_
    have h0 : (β 0).val < 16 := lt_of_lt_of_eq (β 0).isLt (show (256 + 16 - 1) / 16 = 16 by decide)
    have h1 : (β 1).val < 1 := lt_of_lt_of_eq (β 1).isLt (show (1024 + 1024 - 1) / 1024 = 1 by decide)
    refine ⟨fun | 0 => ⟨(β 0).val, h0⟩ | 1 => ⟨0, by decide⟩, fun | 0 => ?_ | 1 => ?_⟩
    · exact first_index15 ⟨(β 0).val, h0⟩
    · show 0 = (β 1).val
      omega
  · have e := (idx t).2.2.2.2.2.2.2.2.2.2.2.2.2.2.2.1
    let z : S16x1024.Idx := (cfg0.win 15).xinj (grid0.coords t) y
    have ez : z = ix2 (z 0) (z 1) := funext fun | 0 => rfl | 1 => rfl
    refine (cast_eq _ _).trans ((congrFun (after0_15 m c t) z).trans ?_)
    refine (congrArg (outsAt0 m c t).1 ez).trans ((h_point m c t (z 0) (z 1)).trans ?_)
    have hy : (y 0).val < 16 := (y 0).isLt
    refine congr (congr (congrArg (resultOf m c) (Fin.ext ?_)) (Fin.ext ?_)) (Fin.ext ?_)
    · show t.val = (win0_15.index t 0 * 16 + 1 * (y 0).val) / 16
      rw [e]; show _ = (t.val * 16 + 1 * (y 0).val) / 16; omega
    · show (y 0).val = (win0_15.index t 0 * 16 + 1 * (y 0).val) % 16
      rw [e]; show _ = (t.val * 16 + 1 * (y 0).val) % 16; omega
    · show (y 1).val = win0_15.index t 1 * 1024 + 1 * (y 1).val
      rw [e]; show _ = 0 * 1024 + 1 * (y 1).val; omega

/-- the second -/
theorem b_array : (dats m 0 c).arrAt 16 cfg0.N = bArr m c := by
  refine (dats m 0 c).arrAt_eq_of_covers 16 (bArr m c) ?_ fun t _ y => ?_
  · refine (cfg0.win 16).covers_of_indexMap_surj rfl (show ∀ a : Fin 3, 0 < S1x32x256.size a by decide) fun β => ?_
    have h0 : (β 0).val < 16 := lt_of_lt_of_eq (β 0).isLt (show (16 + 1 - 1) / 1 = 16 by decide)
    have h1 : (β 1).val < 1 := lt_of_lt_of_eq (β 1).isLt (show (32 + 32 - 1) / 32 = 1 by decide)
    have h2 : (β 2).val < 1 := lt_of_lt_of_eq (β 2).isLt (show (256 + 256 - 1) / 256 = 1 by decide)
    refine ⟨fun | 0 => ⟨(β 0).val, h0⟩ | 1 => ⟨0, by decide⟩, fun | 0 => ?_ | 1 => ?_ | 2 => ?_⟩
    · exact first_index16 ⟨(β 0).val, h0⟩
    · show 0 = (β 1).val
      omega
    · show 0 = (β 2).val
      omega
  · have e := (idx t).2.2.2.2.2.2.2.2.2.2.2.2.2.2.2.2.1
    let z : S1x32x256.Idx := (cfg0.win 16).xinj (grid0.coords t) y
    have hy : (y 0).val < 1 := (y 0).isLt
    have ez : z = ix3 0 (z 1) (z 2) := funext fun | 0 => Fin.ext (Nat.lt_one_iff.mp hy) | 1 => rfl | 2 => rfl
    refine (cast_eq _ _).trans ((congrFun (after0_16 m c t) z).trans ?_)
    refine (congrArg (outsAt0 m c t).2.1 ez).trans ((b_point m c t (z 1) (z 2)).trans ?_)
    refine congr (congr (congrArg (sequenceB (m ((c : Thread nD τ).loc main_arg2)) (m ((c : Thread nD τ).loc main_arg3))) (Fin.ext ?_)) (Fin.ext ?_)) (congrArg (16 + ·) ?_)
    · show t.val = win0_16.index t 0 * 1 + 1 * (y 0).val
      rw [e]; show _ = t.val * 1 + 1 * (y 0).val; omega
    · show (y 2).val = win0_16.index t 2 * 256 + 1 * (y 2).val
      rw [e]; show _ = 0 * 256 + 1 * (y 2).val; omega
    · show (y 1).val = win0_16.index t 1 * 32 + 1 * (y 1).val
      rw [e]; show _ = 0 * 32 + 1 * (y 1).val; omega

/-- and the third. -/
theorem c_array : (dats m 0 c).arrAt 17 cfg0.N = cArr m c := by
  refine (dats m 0 c).arrAt_eq_of_covers 17 (cArr m c) ?_ fun t _ y => ?_
  · refine (cfg0.win 17).covers_of_indexMap_surj rfl (show ∀ a : Fin 3, 0 < S1x8x256.size a by decide) fun β => ?_
    have h0 : (β 0).val < 16 := lt_of_lt_of_eq (β 0).isLt (show (16 + 1 - 1) / 1 = 16 by decide)
    have h1 : (β 1).val < 1 := lt_of_lt_of_eq (β 1).isLt (show (8 + 8 - 1) / 8 = 1 by decide)
    have h2 : (β 2).val < 1 := lt_of_lt_of_eq (β 2).isLt (show (256 + 256 - 1) / 256 = 1 by decide)
    refine ⟨fun | 0 => ⟨(β 0).val, h0⟩ | 1 => ⟨0, by decide⟩, fun | 0 => ?_ | 1 => ?_ | 2 => ?_⟩
    · exact first_index17 ⟨(β 0).val, h0⟩
    · show 0 = (β 1).val
      omega
    · show 0 = (β 2).val
      omega
  · have e := (idx t).2.2.2.2.2.2.2.2.2.2.2.2.2.2.2.2.2
    let z : S1x8x256.Idx := (cfg0.win 17).xinj (grid0.coords t) y
    have hy : (y 0).val < 1 := (y 0).isLt
    have ez : z = ix3 0 (z 1) (z 2) := funext fun | 0 => Fin.ext (Nat.lt_one_iff.mp hy) | 1 => rfl | 2 => rfl
    refine (cast_eq _ _).trans ((congrFun (after0_17 m c t) z).trans ?_)
    refine (congrArg (outsAt0 m c t).2.2 ez).trans ((c_point m c t (z 1) (z 2)).trans ?_)
    refine congr (congr (congrArg (sequenceC (m ((c : Thread nD τ).loc main_arg2)) (m ((c : Thread nD τ).loc main_arg4))) (Fin.ext ?_)) (Fin.ext ?_)) (congrArg (16 + ·) ?_)
    · show t.val = win0_17.index t 0 * 1 + 1 * (y 0).val
      rw [e]; show _ = t.val * 1 + 1 * (y 0).val; omega
    · show (y 2).val = win0_17.index t 2 * 256 + 1 * (y 2).val
      rw [e]; show _ = 0 * 256 + 1 * (y 2).val; omega
    · show (y 1).val = win0_17.index t 1 * 8 + 1 * (y 1).val
      rw [e]; show _ = 0 * 8 + 1 * (y 1).val; omega

end Mix
end
-- ==== Proof.lean ====
/-
  The certificate of the prompt's band attention, of the experts, of the input projection of the prompt and of the sample,
  of the sample's dense channel mixer and of the sample's mixing: the claims of Defs.lean assembled. The attention's
  frames are the programs' generated frames and the reference's run; its value claim is `Proof/Equation.lean`'s. The
  experts' frames are the runs of `Proof/ExpertsFrame.lean` and `Proof/ExpertsIdealFrame.lean`, where every tile names an
  expert; their value claim puts `Proof/ExpertsBlocks.lean` (the kernel) and `Proof/ExpertsReference.lean` together. The input
  projection's frames are the generated ones and its reference's run; its value claim puts `Proof/ProjBlocks.lean` (the
  kernel) and `Proof/ProjReference.lean` together; the sample's is proved likewise, with `Proof/SampleProjBlocks.lean` and
  `Proof/SampleProjReference.lean`. So is the dense channel mixer, with `Proof/FfnBlocks.lean` and
  `Proof/FfnReference.lean`, and so is the mixing, with `Proof/MixBlocks.lean` and `Proof/MixReference.lean`.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.ExpertsNamed
public import proofs.«01_k».proof.Proof.ExpertsBlocks
public import proofs.«01_k».proof.Proof.Gen.ExpertsReferenceIdeal.Run
public import proofs.«01_k».proof.Proof.Gen.ExpertsReferenceIdeal.Read
public import proofs.«01_k».proof.Proof.Gen.Inproj.Frame
public import proofs.«01_k».proof.Proof.Gen.InprojIdeal.Value
public import proofs.«01_k».proof.Proof.ProjBlocks
public import proofs.«01_k».proof.Proof.Gen.InprojReferenceIdeal.Run
public import proofs.«01_k».proof.Proof.Gen.InprojReferenceIdeal.Read
public import proofs.«01_k».proof.Proof.SampleProjBlocks
public import proofs.«01_k».proof.Proof.FfnBlocks
public import proofs.«01_k».proof.Proof.Gen.Ffn.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.SampleInproj.Frame
public import proofs.«01_k».proof.Proof.Gen.SampleInprojIdeal.Value
public import proofs.«01_k».proof.Proof.Gen.SampleInprojReferenceIdeal.Run
public import proofs.«01_k».proof.Proof.Gen.SampleInprojReferenceIdeal.Read
public import proofs.«01_k».proof.Proof.MixBlocks
public import proofs.«01_k».proof.Proof.Gen.Mix.Frame
public import proofs.«01_k».proof.Proof.Gen.MixIdeal.Value
public import proofs.«01_k».proof.Proof.Gen.MixReferenceIdeal.Run
public import proofs.«01_k».proof.Proof.Gen.MixReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem

/-- The side conditions of the precondition's own operations. -/
theorem facts_finite : Cert.Pre_finite.Facts := by
  constructor <;> decide

/-- The reference runs from any memory, leaves its arguments, and every semaphore ends at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal Cert.KernelIdeal.Gen Cert.KernelIdeal.Value Idealize.ShloMosaic.TcCoe in
/-- The kernel's array is the reference's result of the same arguments, where the queries, the keys and the bias are real. -/
theorem array_eq (m : (ℓ : Loc nD τ sig) → Buf (Elt Ideal) ℓ) (c : Dev nD)
    (hu : ∀ (i : Fin 65536) (x : Fin 2816), x.val < 1024 → ∃ r : ℝ, Attn.U m c (ValueIdx.ix2 i x) = r) (hw : ∀ (i : Fin 8) (x : Fin 257), ∃ r : ℝ, Attn.W m c (ValueIdx.ix2 i x) = r) :
    (Cert.ReferenceIdeal.Read.val_main_v81 (F := Ideal) (Attn.U m c) (Attn.W m c) : S65536x512.Idx → EReal) = (G6 m c : S65536x512.Idx → EReal) := by
  funext i
  have hR : (i 0).val < 65536 := (i 0).isLt
  have hX : (i 1).val < 512 := (i 1).isLt
  have hp : pt6Of i = (i 0).val / 512 := by simp only [pt6Of, run6Of]; omega
  have hN : pt6Of i < cfg0.N := by rw [hp, show cfg0.N = 128 from N_0]; omega
  have hi : i = ValueIdx.ix2 (n0 := 65536) (n1 := 512) ⟨(i 0).val, hR⟩ ⟨(i 1).val, hX⟩ := by
    funext a; match a with | ⟨0, _⟩ => rfl | ⟨1, _⟩ => rfl
  have hl : loc6Of i = ValueIdx.ix2 (n0 := 512) (n1 := 512) ⟨(i 0).val % 512, by omega⟩ ⟨(i 1).val, hX⟩ := by
    funext a; match a with | ⟨0, _⟩ => rfl | ⟨1, _⟩ => exact Fin.ext (Nat.mod_eq_of_lt hX)
  have hg : G6 m c i = (outsAt0 m c (pt6Of i) hN).1 (loc6Of i) := by
    rw [outsAt0_sweep m c (pt6Of i) hN]
    exact dif_pos hN
  rw [hg, hl]
  refine (congrArg (Cert.ReferenceIdeal.Read.val_main_v81 (F := Ideal) (Attn.U m c) (Attn.W m c)) hi).trans ?_
  refine (Attn.Ref.result_apply _ _ _ _ ⟨(i 0).val / 8192, by omega⟩ ⟨(i 0).val / 64 % 128, by omega⟩ ⟨(i 1).val / 64, by omega⟩ ⟨(i 1).val % 64, by omega⟩
    ⟨(i 0).val % 64, by omega⟩ rfl rfl rfl rfl rfl).trans ?_
  exact (Attn.point_eq m c ⟨pt6Of i, hN⟩ _ _ _ _ _ _ _ (by simp only [hp]; omega) (by simp only [hp]; omega) rfl rfl (by simp only; omega) hu hw).symm

/-- Run on the same arguments, of which the queries, the keys and the bias are real, the kernel and the reference end with the same result. -/
theorem algebraic : letI := facts_finite; algebraic_KernelIdeal_ReferenceIdeal_pre_finite := by
  letI := facts_finite
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  have hreal := Attn.real_of_pre _ _ (hpre c)
  rw [(h c).1, Cert.ReferenceIdeal.Read.val_main_v81_eq, (hagree c).1, (hagree c).2]
  exact array_eq m c hreal.1 hreal.2

/-- The side conditions of the second precondition's own operations. -/
theorem facts_named : Cert.Pre_named_experts.Facts := by
  constructor <;> decide

/-- Where every tile names an expert, the experts' kernel runs, leaves its arguments, and every semaphore ends at zero. -/
theorem quiescent_Experts : letI := facts_named; quiescent_Experts := by
  letI := facts_named
  intro m ρ hpre
  have hn := Cert.Experts.Run.named_of_lt m fun i => Cert.Experts.Run.lt_of_pre _ _ _ _ _ _ (hpre 0) i
  exact (θ_run Cert.Experts.defs _ _).mono (fun r h => ⟨fun c => (h.1 c).2, h.2⟩) (Cert.Experts.Run.run_ends (F := Bits) m ρ hn)

/-- So does its ideal reading. -/
theorem quiescent_ExpertsIdeal : letI := facts_named; quiescent_ExpertsIdeal := by
  letI := facts_named
  intro m ρ hpre
  have hn := Cert.ExpertsIdeal.Run.named_of_lt m fun i => Cert.ExpertsIdeal.Run.lt_of_pre _ _ _ _ _ _ (hpre 0) i
  exact (θ_run Cert.ExpertsIdeal.defs _ _).mono (fun r h => ⟨fun c => (h.1 c).2, h.2⟩) (Cert.ExpertsIdeal.Run.run_ends (F := Ideal) m ρ hn)

/-- The experts' reference runs from any memory, leaves its arguments, and every semaphore ends at zero. -/
theorem quiescent_ExpertsReferenceIdeal : quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

open Cert.ExpertsIdeal Cert.ExpertsIdeal.Gen Idealize.ShloMosaic.TcCoe in
/-- The reference's result of the arguments on a device is the experts' layer of them. -/
theorem layer_eq (m : (ℓ : Loc nD τ sig) → Buf (Elt Ideal) ℓ) (hn : Cert.ExpertsIdeal.Run.Named m) (c : Dev nD)
    (hlt : ∀ i, (Cert.ExpertsIdeal.Run.expOf m i).toNat < 8) :
    (Cert.ExpertsReferenceIdeal.Read.val_main_v31 (F := Ideal) (m ((c : Thread nD τ).loc main_arg0)) (Cert.ExpertsIdeal.Run.expOf m) (Cert.ExpertsIdeal.Run.numOf m)
      (m ((c : Thread nD τ).loc main_arg3)) (m ((c : Thread nD τ).loc main_arg4)) (m ((c : Thread nD τ).loc main_arg5)) : S1081344x128.Idx → EReal)
      = Moe.layerArr m hn c := by
  funext i
  have hi : i = ix2 (i 0) (i 1) := funext fun | 0 => rfl | 1 => rfl
  refine (congrArg _ hi).trans ((Moe.Ref.main_apply _ _ _ _ _ _ hlt (i 0) (i 1)).trans ?_)
  rfl

/-- Run on the same arguments, of which every tile names an expert, the experts' kernel and their reference end with the same result. -/
theorem algebraic_experts : letI := facts_named; algebraic_ExpertsIdeal_ExpertsReferenceIdeal := by
  letI := facts_named
  intro m ρ m' ρ' hpre hagree
  have hlt : ∀ i, (Cert.ExpertsIdeal.Run.expOf m i).toNat < 8 := fun i => Cert.ExpertsIdeal.Run.lt_of_pre _ _ _ _ _ _ (hpre 0) i
  have hn := Cert.ExpertsIdeal.Run.named_of_lt m hlt
  refine ⟨fun c => Moe.layerArr m hn c, ?_, ?_⟩
  · refine (θ_run Cert.ExpertsIdeal.defs _ _).mono (fun _ h c => ⟨?_, (h.1 c).2⟩) (Cert.ExpertsIdeal.Run.run_ends (F := Ideal) m ρ hn)
    exact (h.1 c).1.trans (Moe.array_eq m ρ hn c hlt)
  · refine (θ_run Cert.ExpertsReferenceIdeal.defs _ _).mono (fun _ h c => ⟨?_, (h c).2⟩) (Cert.ExpertsReferenceIdeal.Value.run (F := Ideal) m' ρ')
    obtain rfl : c = 0 := Subsingleton.elim _ _
    obtain ⟨h0, h1, h2, h3, h4, h5⟩ := hagree 0
    rw [(h 0).1, Cert.ExpertsReferenceIdeal.Read.val_main_v31_eq, h0, h1, h2, h3, h4, h5]
    exact layer_eq m hn 0 hlt

/-- The input projection's reference runs from any memory, leaves its arguments, and every semaphore ends at zero. -/
theorem quiescent_InprojReferenceIdeal : quiescent_InprojReferenceIdeal := fun m ρ _ =>
  (θ_run Cert.InprojReferenceIdeal.defs _ _).mono (fun r h => ⟨fun c => (h c).2.2, sem_eq_zero_of_no_sems (by decide) r.2⟩)
    (Cert.InprojReferenceIdeal.Value.run (F := Ideal) m ρ)

open Cert.InprojIdeal Cert.InprojIdeal.Gen Idealize.ShloMosaic.TcCoe in
/-- The reference's first result of the arguments on a device is the kernel's. -/
theorem rows_eq (m : (ℓ : Loc nD τ sig) → Buf (Elt Ideal) ℓ) (c : Dev nD) :
    (Cert.InprojReferenceIdeal.Read.val_main_v27 (F := Ideal) (m ((c : Thread nD τ).loc main_arg0)) (m ((c : Thread nD τ).loc main_arg1))
      (m ((c : Thread nD τ).loc main_arg2)) : S65536x2816.Idx → EReal) = Proj.rowsArr m c := by
  funext i
  have hi : i = ix2 (i 0) (i 1) := funext fun | 0 => rfl | 1 => rfl
  refine (congrArg _ hi).trans ((Proj.Ref.rows_apply _ _ _ (i 0) (i 1)).trans ?_)
  rfl

open Cert.InprojIdeal Cert.InprojIdeal.Gen Idealize.ShloMosaic.TcCoe in
/-- And its second. -/
theorem tail_eq (m : (ℓ : Loc nD τ sig) → Buf (Elt Ideal) ℓ) (c : Dev nD) :
    (Cert.InprojReferenceIdeal.Read.val_main_v20 (F := Ideal) (m ((c : Thread nD τ).loc main_arg0)) (m ((c : Thread nD τ).loc main_arg1))
      (m ((c : Thread nD τ).loc main_arg2)) : S4096x1024.Idx → EReal) = Proj.tailArr m c := by
  funext i
  have hi : i = ix2 (i 0) (i 1) := funext fun | 0 => rfl | 1 => rfl
  refine (congrArg _ hi).trans ((Proj.Ref.tail_apply _ _ _ (i 0) (i 1)).trans ?_)
  rfl

/-- Run on the same arguments, the input projection's kernel and its reference end with the same two results. -/
theorem algebraic_inproj : algebraic_InprojIdeal_InprojReferenceIdeal := by
  intro m ρ m' ρ' _ hagree
  refine ⟨fun c => Proj.rowsArr m c, fun c => Proj.tailArr m c, ?_, ?_⟩
  · refine (θ_run Cert.InprojIdeal.defs _ _).mono (fun _ h c => ⟨?_, ?_, (h c).2.2⟩) (Cert.InprojIdeal.Value.run_blocks (F := Ideal) m ρ)
    · exact (h c).1.trans (Proj.rows_array m c)
    · exact (h c).2.1.trans (Proj.tail_array m c)
  · refine (θ_run Cert.InprojReferenceIdeal.defs _ _).mono (fun _ h c => ⟨?_, ?_, (h c).2.2⟩) (Cert.InprojReferenceIdeal.Value.run (F := Ideal) m' ρ')
    · rw [(h c).1, Cert.InprojReferenceIdeal.Read.val_main_v27_eq, (hagree c).1, (hagree c).2.1, (hagree c).2.2]
      exact rows_eq m c
    · rw [(h c).2.1, Cert.InprojReferenceIdeal.Read.val_main_v20_eq, (hagree c).1, (hagree c).2.1, (hagree c).2.2]
      exact tail_eq m c

/-- The dense channel mixer's reference runs from any memory, leaves its arguments, and every semaphore ends at zero. -/
theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

open Cert.FfnIdeal Cert.FfnIdeal.Gen Idealize.ShloMosaic.TcCoe in
/-- The reference's result of the arguments on a device is the layer of them. -/
theorem mixer_eq (m : (ℓ : Loc nD τ sig) → Buf (Elt Ideal) ℓ) (c : Dev nD) :
    (Cert.FfnReferenceIdeal.Read.val_main_v49 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) : S256x1024.Idx → EReal) = Ffn.layerArr m c := by
  funext i
  have hi : i = ix2 (i 0) (i 1) := funext fun | 0 => rfl | 1 => rfl
  refine (congrArg _ hi).trans ((Ffn.Ref.main_apply _ _ _ _ _ _ _ _ _ (i 0) (i 1)).trans ?_)
  rfl

/-- Run on the same arguments, the dense channel mixer's kernel and its reference end with the same result. -/
theorem algebraic_ffn : algebraic_FfnIdeal_FfnReferenceIdeal := by
  intro m ρ m' ρ' _ hagree
  refine ⟨fun c => Ffn.layerArr m c, ?_, ?_⟩
  · refine (θ_run Cert.FfnIdeal.defs _ _).mono (fun _ h c => ⟨?_, (h c).2⟩) (Cert.FfnIdeal.Value.run_blocks (F := Ideal) m ρ)
    exact (h c).1.trans (Ffn.array m c)
  · refine (θ_run Cert.FfnReferenceIdeal.defs _ _).mono (fun _ h c => ⟨?_, (h c).2⟩) (Cert.FfnReferenceIdeal.Value.run (F := Ideal) m' ρ')
    obtain ⟨h0, h1, h2, h3, h4, h5, h6, h7, h8, _⟩ := hagree c
    rw [(h c).1, Cert.FfnReferenceIdeal.Read.val_main_v49_eq, h0, h1, h2, h3, h4, h5, h6, h7, h8]
    exact mixer_eq m c

/-- The sample's input projection's reference runs from any memory, leaves its arguments, and every semaphore ends at zero. -/
theorem quiescent_SampleInprojReferenceIdeal : quiescent_SampleInprojReferenceIdeal := fun m ρ _ =>
  (θ_run Cert.SampleInprojReferenceIdeal.defs _ _).mono (fun r h => ⟨fun c => (h c).2.2, sem_eq_zero_of_no_sems (by decide) r.2⟩)
    (Cert.SampleInprojReferenceIdeal.Value.run (F := Ideal) m ρ)

open Cert.SampleInprojIdeal Cert.SampleInprojIdeal.Gen Idealize.ShloMosaic.TcCoe in
/-- The reference's first result of the arguments on a device is the kernel's. -/
theorem sample_rows_eq (m : (ℓ : Loc nD τ sig) → Buf (Elt Ideal) ℓ) (c : Dev nD) :
    (Cert.SampleInprojReferenceIdeal.Read.val_main_v23 (F := Ideal) (m ((c : Thread nD τ).loc main_arg0)) (m ((c : Thread nD τ).loc main_arg1))
      (m ((c : Thread nD τ).loc main_arg2)) : S256x2816.Idx → EReal) = SampleProj.rowsArr m c := by
  funext i
  have hi : i = ix2 (i 0) (i 1) := funext fun | 0 => rfl | 1 => rfl
  refine (congrArg _ hi).trans ((SampleProj.Ref.rows_apply _ _ _ (i 0) (i 1)).trans ?_)
  rfl

open Cert.SampleInprojIdeal Cert.SampleInprojIdeal.Gen Idealize.ShloMosaic.TcCoe in
/-- And its second. -/
theorem sample_kv_eq (m : (ℓ : Loc nD τ sig) → Buf (Elt Ideal) ℓ) (c : Dev nD) :
    (Cert.SampleInprojReferenceIdeal.Read.val_main_v24 (F := Ideal) (m ((c : Thread nD τ).loc main_arg0)) (m ((c : Thread nD τ).loc main_arg1))
      (m ((c : Thread nD τ).loc main_arg2)) : S256x1024.Idx → EReal) = SampleProj.kvArr m c := by
  funext i
  have hi : i = ix2 (i 0) (i 1) := funext fun | 0 => rfl | 1 => rfl
  refine (congrArg _ hi).trans ((SampleProj.Ref.kv_apply _ _ _ (i 0) (i 1)).trans ?_)
  rfl

/-- Run on the same arguments, the sample's input projection's kernel and its reference end with the same two results. -/
theorem algebraic_sample_inproj : algebraic_SampleInprojIdeal_SampleInprojReferenceIdeal := by
  intro m ρ m' ρ' _ hagree
  refine ⟨fun c => SampleProj.rowsArr m c, fun c => SampleProj.kvArr m c, ?_, ?_⟩
  · refine (θ_run Cert.SampleInprojIdeal.defs _ _).mono (fun _ h c => ⟨?_, ?_, (h c).2.2⟩) (Cert.SampleInprojIdeal.Value.run_blocks (F := Ideal) m ρ)
    · exact (h c).1.trans (SampleProj.rows_array m c)
    · exact (h c).2.1.trans (SampleProj.kv_array m c)
  · refine (θ_run Cert.SampleInprojReferenceIdeal.defs _ _).mono (fun _ h c => ⟨?_, ?_, (h c).2.2⟩) (Cert.SampleInprojReferenceIdeal.Value.run (F := Ideal) m' ρ')
    · rw [(h c).1, Cert.SampleInprojReferenceIdeal.Read.val_main_v23_eq, (hagree c).1, (hagree c).2.1, (hagree c).2.2]
      exact sample_rows_eq m c
    · rw [(h c).2.1, Cert.SampleInprojReferenceIdeal.Read.val_main_v24_eq, (hagree c).1, (hagree c).2.1, (hagree c).2.2]
      exact sample_kv_eq m c

/-- The mixers' reference runs from any memory, leaves its arguments, and every semaphore ends at zero. -/
theorem quiescent_MixReferenceIdeal : quiescent_MixReferenceIdeal := fun m ρ _ =>
  (θ_run Cert.MixReferenceIdeal.defs _ _).mono (fun r h => ⟨fun c => (h c).2.2.2, sem_eq_zero_of_no_sems (by decide) r.2⟩)
    (Cert.MixReferenceIdeal.Value.run (F := Ideal) m ρ)

open Cert.MixIdeal Cert.MixIdeal.Gen Idealize.ShloMosaic.TcCoe in
/-- The reference's first result of the arguments on a device is the kernel's, -/
theorem mix_h_eq (m : (ℓ : Loc nD τ sig) → Buf (Elt Ideal) ℓ) (c : Dev nD) :
    (Cert.MixReferenceIdeal.Read.val_main_v134 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11)) : S256x1024.Idx → EReal) = Mix.hArr m c := by
  funext i
  obtain ⟨s, a, e⟩ : ∃ s a : Fin 16, i 0 = Mix.row s a :=
    have h : (i 0).val < 256 := (i 0).isLt
    ⟨⟨(i 0).val / 16, by omega⟩, ⟨(i 0).val % 16, by omega⟩, Fin.ext (by show (i 0).val = 16 * ((i 0).val / 16) + (i 0).val % 16; omega)⟩
  have hi : i = ix2 (Mix.row s a) (i 1) := funext fun | 0 => e | 1 => rfl
  rw [hi]
  refine (Mix.Ref.result_apply _ _ _ _ _ _ _ _ _ _ _ _ s a (i 1)).trans ?_
  have es : (⟨(Mix.row s a).val / 16, by omega⟩ : Fin 16) = s := Fin.ext (by show (16 * s.val + a.val) / 16 = s.val; omega)
  have ea : (⟨(Mix.row s a).val % 16, by omega⟩ : Fin 16) = a := Fin.ext (by show (16 * s.val + a.val) % 16 = a.val; omega)
  exact congrArg₂ (fun s a => Mix.resultOf m c s a (i 1)) es.symm ea.symm

open Cert.MixIdeal Cert.MixIdeal.Gen Idealize.ShloMosaic.TcCoe in
/-- its second -/
theorem mix_b_eq (m : (ℓ : Loc nD τ sig) → Buf (Elt Ideal) ℓ) (c : Dev nD) :
    (Cert.MixReferenceIdeal.Read.val_main_v135 (F := Ideal) (m ((c : Thread nD τ).loc main_arg2)) (m ((c : Thread nD τ).loc main_arg3)) : S16x32x256.Idx → EReal) = Mix.bArr m c := by
  funext i
  have hi : i = ix3 (i 0) (i 1) (i 2) := funext fun | 0 => rfl | 1 => rfl | 2 => rfl
  refine (congrArg _ hi).trans ((Mix.Ref.rest_B _ _ (i 0) (i 1) (i 2)).trans ?_)
  rfl

open Cert.MixIdeal Cert.MixIdeal.Gen Idealize.ShloMosaic.TcCoe in
/-- and its third. -/
theorem mix_c_eq (m : (ℓ : Loc nD τ sig) → Buf (Elt Ideal) ℓ) (c : Dev nD) :
    (Cert.MixReferenceIdeal.Read.val_main_v136 (F := Ideal) (m ((c : Thread nD τ).loc main_arg2)) (m ((c : Thread nD τ).loc main_arg4)) : S16x8x256.Idx → EReal) = Mix.cArr m c := by
  funext i
  have hi : i = ix3 (i 0) (i 1) (i 2) := funext fun | 0 => rfl | 1 => rfl | 2 => rfl
  refine (congrArg _ hi).trans ((Mix.Ref.rest_C _ _ (i 0) (i 1) (i 2)).trans ?_)
  rfl

/-- Run on the same arguments, the mixers' kernel and its reference end with the same three results. -/
theorem algebraic_mix : algebraic_MixIdeal_MixReferenceIdeal := by
  intro m ρ m' ρ' _ hagree
  refine ⟨fun c => Mix.hArr m c, fun c => Mix.bArr m c, fun c => Mix.cArr m c, ?_, ?_⟩
  · refine (θ_run Cert.MixIdeal.defs _ _).mono (fun _ h c => ⟨?_, ?_, ?_, (h c).2.2.2⟩) (Cert.MixIdeal.Value.run_blocks (F := Ideal) m ρ)
    · exact (h c).1.trans (Mix.h_array m c)
    · exact (h c).2.1.trans (Mix.b_array m c)
    · exact (h c).2.2.1.trans (Mix.c_array m c)
  · refine (θ_run Cert.MixReferenceIdeal.defs _ _).mono (fun _ h c => ⟨?_, ?_, ?_, (h c).2.2.2⟩) (Cert.MixReferenceIdeal.Value.run (F := Ideal) m' ρ')
    all_goals
      have g := hagree c
      have e : ∀ b, StableHlo.launchContents m' c (Proc.tc.devRef b) = m' ((c.tc : Thread Cert.MixReferenceIdeal.nD Cert.MixReferenceIdeal.τ).loc b) := fun _ => rfl
      obtain ⟨h0, h1, h2, h3, h4, h5, h6, h7, h8, h9, h10, h11⟩ := g
    · rw [(h c).1, Cert.MixReferenceIdeal.Read.val_main_v134_eq]
      simp only [e, h0, h1, h2, h3, h4, h5, h6, h7, h8, h9, h10, h11]
      exact mix_h_eq m c
    · rw [(h c).2.1, Cert.MixReferenceIdeal.Read.val_main_v135_eq]
      simp only [e, h2, h3]
      exact mix_b_eq m c
    · rw [(h c).2.2.1, Cert.MixReferenceIdeal.Read.val_main_v136_eq]
      simp only [e, h2, h4]
      exact mix_c_eq m c

/-- Every claim. -/
theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Inproj.Gen.facts, Cert.InprojIdeal.Gen.facts, Cert.InprojReferenceIdeal.Gen.facts,
    Cert.Ffn.Gen.facts, Cert.FfnIdeal.Gen.facts, Cert.FfnReferenceIdeal.Gen.facts,
    Cert.SampleInproj.Gen.facts, Cert.SampleInprojIdeal.Gen.facts, Cert.SampleInprojReferenceIdeal.Gen.facts,
    Cert.Mix.Gen.facts, Cert.MixIdeal.Gen.facts, Cert.MixReferenceIdeal.Gen.facts, facts_finite, facts_named,
    fun m ρ _ => Cert.Kernel.Gen.frame m ρ, fun m ρ _ => Cert.KernelIdeal.Gen.frame m ρ,
    fun m ρ _ => Cert.KernelIdeal.Gen.frame m ρ, quiescent_ReferenceIdeal,
    fun m ρ _ => quiescent_ReferenceIdeal m ρ trivial,
    quiescent_Experts, quiescent_ExpertsIdeal, quiescent_ExpertsReferenceIdeal,
    fun m ρ _ => quiescent_ExpertsReferenceIdeal m ρ trivial,
    fun m ρ _ => Cert.Inproj.Gen.frame m ρ, fun m ρ _ => Cert.InprojIdeal.Gen.frame m ρ, quiescent_InprojReferenceIdeal,
    fun m ρ _ => Cert.Ffn.Gen.frame m ρ, fun m ρ _ => Cert.FfnIdeal.Gen.frame m ρ, quiescent_FfnReferenceIdeal,
    fun m ρ _ => Cert.SampleInproj.Gen.frame m ρ, fun m ρ _ => Cert.SampleInprojIdeal.Gen.frame m ρ, quiescent_SampleInprojReferenceIdeal,
    fun m ρ _ => Cert.Mix.Gen.frame m ρ, fun m ρ _ => Cert.MixIdeal.Gen.frame m ρ, quiescent_MixReferenceIdeal,
    IdealRules.named_const.statement Cert.KernelIdeal.κ "neg" .f32 0xF149F2CA#32 ⊥ rfl,
    algebraic, trivial, algebraic_experts,
    IdealRules.named_const.statement Cert.InprojIdeal.κ "scale" .f32 0x3E38AA3B#32 (((1 / 8) * (Real.log 2)⁻¹ : ℝ) : EReal) rfl,
    algebraic_inproj, trivial, algebraic_ffn,
    IdealRules.named_const.statement Cert.SampleInprojIdeal.κ "scale" .f32 0x3E38AA3B#32 (((1 / 8) * (Real.log 2)⁻¹ : ℝ) : EReal) rfl,
    algebraic_sample_inproj, trivial, algebraic_mix⟩

end Cert.Proof

end
